-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_v56) = v4 c
          ∧ r.2.mem ((c.tc : Thread Cert.Reference5Ideal.nD Cert.Reference5Ideal.τ).loc Cert.Reference5Ideal.main_v57) = v5 c
          ∧ r.2.mem ((c.tc : Thread Cert.Reference5Ideal.nD Cert.Reference5Ideal.τ).loc Cert.Reference5Ideal.main_v62) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_on_written_pre_finite [hKernel8Ideal : Cert.Kernel8Ideal.Facts] [hReference8Ideal : Cert.Reference8Ideal.Facts] [hPre_finite : Cert.Pre_finite.Facts] [hOn_written : Cert.On_written.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨2, ![8192, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).1 i = 1#1 → r.2.mem ((c.tc : Thread Cert.Kernel8Ideal.nD Cert.Kernel8Ideal.τ).loc Cert.Kernel8Ideal.main_v0_0) i = v0 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.1 i = 1#1 → r.2.mem ((c.tc : Thread Cert.Kernel8Ideal.nD Cert.Kernel8Ideal.τ).loc Cert.Kernel8Ideal.main_v0_1) i = v1 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.1 i = 1#1 → r.2.mem ((c.tc : Thread Cert.Kernel8Ideal.nD Cert.Kernel8Ideal.τ).loc Cert.Kernel8Ideal.main_v0_2) i = v2 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2 i = 1#1 → r.2.mem ((c.tc : Thread Cert.Kernel8Ideal.nD Cert.Kernel8Ideal.τ).loc Cert.Kernel8Ideal.main_v0_3) i = v3 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨2, ![8192, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).1 i = 1#1 → r.2.mem ((c.tc : Thread Cert.Reference8Ideal.nD Cert.Reference8Ideal.τ).loc Cert.Reference8Ideal.main_v63) i = v0 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.1 i = 1#1 → r.2.mem ((c.tc : Thread Cert.Reference8Ideal.nD Cert.Reference8Ideal.τ).loc Cert.Reference8Ideal.main_v36) i = v1 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.1 i = 1#1 → r.2.mem ((c.tc : Thread Cert.Reference8Ideal.nD Cert.Reference8Ideal.τ).loc Cert.Reference8Ideal.main_v39) i = v2 c i)
          ∧ (∀ i : (⟨2, ![1, 1024]⟩ : Shape).Idx, (Cert.On_written.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2 i = 1#1 → r.2.mem ((c.tc : Thread Cert.Reference8Ideal.nD Cert.Reference8Ideal.τ).loc Cert.Reference8Ideal.main_v44) i = v3 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_v36) = v1 c
          ∧ r.2.mem ((c.tc : Thread Cert.Reference9Ideal.nD Cert.Reference9Ideal.τ).loc Cert.Reference9Ideal.main_v39) = v2 c
          ∧ r.2.mem ((c.tc : Thread Cert.Reference9Ideal.nD Cert.Reference9Ideal.τ).loc Cert.Reference9Ideal.main_v44) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v52) = v1 c
          ∧ r.2.mem ((c.tc : Thread Cert.Reference10Ideal.nD Cert.Reference10Ideal.τ).loc Cert.Reference10Ideal.main_v53) = v2 c
          ∧ r.2.mem ((c.tc : Thread Cert.Reference10Ideal.nD Cert.Reference10Ideal.τ).loc Cert.Reference10Ideal.main_v54) = v3 c
          ∧ r.2.mem ((c.tc : Thread Cert.Reference10Ideal.nD Cert.Reference10Ideal.τ).loc Cert.Reference10Ideal.main_v56) = v4 c
          ∧ r.2.mem ((c.tc : Thread Cert.Reference10Ideal.nD Cert.Reference10Ideal.τ).loc Cert.Reference10Ideal.main_v57) = v5 c
          ∧ r.2.mem ((c.tc : Thread Cert.Reference10Ideal.nD Cert.Reference10Ideal.τ).loc Cert.Reference10Ideal.main_v77) = v6 c
          ∧ r.2.mem ((c.tc : Thread Cert.Reference10Ideal.nD Cert.Reference10Ideal.τ).loc Cert.Reference10Ideal.main_v81) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite9 : Cert.Pre_finite9.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_written_pre_finite (hKernel8Ideal := hKernel8Ideal) (hReference8Ideal := hReference8Ideal) (hPre_finite := hPre_finite) (hOn_written := hOn_written)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
-- ==== On_written.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x1536 .bf16) (main_arg1 : FVec F S8192x1536 .bf16) (main_arg2 : FVec F S8192x1536 .bf16) (main_arg3 : FVec F S8192x4608 .bf16) (main_arg4 : FVec F S4x1024x2304 .bf16) (main_arg5 : FVec F S8192x1024 .f32) (main_arg6 : FVec F S8192x1024 .f32) (main_arg7 : FVec F S1x1024 .f32) (main_arg8 : FVec F S1x1024 .f32) : IVec S8192x1024 1 × IVec S1x1024 1 × IVec S1x1024 1 × IVec S1x1024 1 :=
  let main_c : IVec S_ 1 := constantI S_ 1 1#1
  let main_v0 : IVec S1x1024 1 := broadcastInDim S1x1024 ![] bcast_S_S1x1024 main_c
  let main_v1 : IVec S8192x1024 32 := iotaInDim S8192x1024 32 0
  let main_c_0 : IVec S_ 32 := constantI S_ 32 4096#32
  let main_v2 : IVec S8192x1024 32 := broadcastInDim S8192x1024 ![] bcast_S_S8192x1024 main_c_0
  let main_v3 : IVec S8192x1024 1 := cmpi .slt main_v1 main_v2
  (main_v3, main_v0, main_v0, main_v0)
-- ==== Pre_finite.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x4608 : S_.BroadcastsInDim S8192x4608 (![] : Fin 0 → Fin S8192x4608.rank)
  reducesTo_S8192x4608_S_d0_1 : S8192x4608.ReducesTo [0, 1] S_
  bcast_S_S4x1024x2304 : S_.BroadcastsInDim S4x1024x2304 (![] : Fin 0 → Fin S4x1024x2304.rank)
  reducesTo_S4x1024x2304_S_d0_1_2 : S4x1024x2304.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v33 : IVec S_ 1) (main_v34 : FVec F S1x1024 .f32) (main_cst_10 : FVec F S_ .f32) : IVec S_ 1 :=
  let main_v35 : FVec F S1x1024 .f32 := broadcastInDim S1x1024 ![] bcast_S_S1x1024 main_cst_10
  let main_v36 : IVec S1x1024 1 := cmpf .olt main_v34 main_v35
  let main_c_11 : IVec S_ 1 := constantI S_ 1 1#1
  let main_v37 : IVec S_ 1 := (fun x v => Host.reduce IntOp.andi x v reducesTo_S1x1024_S_d0_1 h_S_) main_v36 main_c_11
  let main_v38 : IVec S_ 1 := andi main_v33 main_v37
  main_v38

def fn_part1 {F : FTy → Type} [FloatOps F] (main_arg4 : FVec F S4x1024x2304 .bf16) (main_arg7 : FVec F S1x1024 .f32) (main_arg8 : FVec F S1x1024 .f32) (main_v16 : IVec S_ 1) (main_v17 : FVec F S8192x4608 .f32) : IVec S_ 1 :=
  let main_v18 : FVec F S8192x4608 .f32 := Host.absf main_v17
  let main_cst_4 : FVec F S_ .f32 := constant S_ .f32 0x7F800000#32
  let main_v19 : FVec F S8192x4608 .f32 := broadcastInDim S8192x4608 ![] bcast_S_S8192x4608 main_cst_4
  let main_v20 : IVec S8192x4608 1 := cmpf .olt main_v18 main_v19
  let main_c_5 : IVec S_ 1 := constantI S_ 1 1#1
  let main_v21 : IVec S_ 1 := (fun x v => Host.reduce IntOp.andi x v reducesTo_S8192x4608_S_d0_1 h_S_) main_v20 main_c_5
  let main_v22 : IVec S_ 1 := andi main_v16 main_v21
  let main_v23 : FVec F S4x1024x2304 .f32 := (extf .f32 · bitsLt_bf16_f32) main_arg4
  let main_v24 : FVec F S4x1024x2304 .f32 := Host.absf main_v23
  let main_cst_6 : FVec F S_ .f32 := constant S_ .f32 0x7F800000#32
  let main_v25 : FVec F S4x1024x2304 .f32 := broadcastInDim S4x1024x2304 ![] bcast_S_S4x1024x2304 main_cst_6
  let main_v26 : IVec S4x1024x2304 1 := cmpf .olt main_v24 main_v25
  let main_c_7 : IVec S_ 1 := constantI S_ 1 1#1
  let main_v27 : IVec S_ 1 := (fun x v => Host.reduce IntOp.andi x v reducesTo_S4x1024x2304_S_d0_1_2 h_S_) main_v26 main_c_7
  let main_v28 : IVec S_ 1 := andi main_v22 main_v27
  let main_v29 : FVec F S1x1024 .f32 := Host.absf main_arg7
  let main_cst_8 : FVec F S_ .f32 := constant S_ .f32 0x7F800000#32
  let main_v30 : FVec F S1x1024 .f32 := broadcastInDim S1x1024 ![] bcast_S_S1x1024 main_cst_8
  let main_v31 : IVec S1x1024 1 := cmpf .olt main_v29 main_v30
  let main_c_9 : IVec S_ 1 := constantI S_ 1 1#1
  let main_v32 : IVec S_ 1 := (fun x v => Host.reduce IntOp.andi x v reducesTo_S1x1024_S_d0_1 h_S_) main_v31 main_c_9
  let main_v33 : IVec S_ 1 := andi main_v28 main_v32
  let main_v34 : FVec F S1x1024 .f32 := Host.absf main_arg8
  let main_cst_10 : FVec F S_ .f32 := constant S_ .f32 0x7F800000#32
  fn_part2 (F := F) main_v33 main_v34 main_cst_10

def fn {F : FTy → Type} [FloatOps F] (main_arg0 : FVec F S8192x1536 .bf16) (main_arg1 : FVec F S8192x1536 .bf16) (main_arg2 : FVec F S8192x1536 .bf16) (main_arg3 : FVec F S8192x4608 .bf16) (main_arg4 : FVec F S4x1024x2304 .bf16) (main_arg5 : FVec F S8192x1024 .f32) (main_arg6 : FVec F S8192x1024 .f32) (main_arg7 : FVec F S1x1024 .f32) (main_arg8 : FVec F S1x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x1536 .f32 := (extf .f32 · bitsLt_bf16_f32) main_arg1
  let main_v6 : FVec F S8192x1536 .f32 := Host.absf main_v5
  let main_cst_0 : FVec F S_ .f32 := constant S_ .f32 0x7F800000#32
  let main_v7 : FVec F S8192x1536 .f32 := broadcastInDim S8192x1536 ![] bcast_S_S8192x1536 main_cst_0
  let main_v8 : IVec S8192x1536 1 := cmpf .olt main_v6 main_v7
  let main_c_1 : IVec S_ 1 := constantI S_ 1 1#1
  let main_v9 : IVec S_ 1 := (fun x v => Host.reduce IntOp.andi x v reducesTo_S8192x1536_S_d0_1 h_S_) main_v8 main_c_1
  let main_v10 : IVec S_ 1 := andi main_v4 main_v9
  let main_v11 : FVec F S8192x1536 .f32 := (extf .f32 · bitsLt_bf16_f32) main_arg2
  let main_v12 : FVec F S8192x1536 .f32 := Host.absf main_v11
  let main_cst_2 : FVec F S_ .f32 := constant S_ .f32 0x7F800000#32
  let main_v13 : FVec F S8192x1536 .f32 := broadcastInDim S8192x1536 ![] bcast_S_S8192x1536 main_cst_2
  let main_v14 : IVec S8192x1536 1 := cmpf .olt main_v12 main_v13
  let main_c_3 : IVec S_ 1 := constantI S_ 1 1#1
  let main_v15 : IVec S_ 1 := (fun x v => Host.reduce IntOp.andi x v reducesTo_S8192x1536_S_d0_1 h_S_) main_v14 main_c_3
  let main_v16 : IVec S_ 1 := andi main_v10 main_v15
  let main_v17 : FVec F S8192x4608 .f32 := (extf .f32 · bitsLt_bf16_f32) main_arg3
  fn_part1 (F := F) main_arg4 main_arg7 main_arg8 main_v16 main_v17
-- ==== Pre_finite9.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x4608 : S_.BroadcastsInDim S8192x4608 (![] : Fin 0 → Fin S8192x4608.rank)
  reducesTo_S8192x4608_S_d0_1 : S8192x4608.ReducesTo [0, 1] S_
  bcast_S_S4x1024x2304 : S_.BroadcastsInDim S4x1024x2304 (![] : Fin 0 → Fin S4x1024x2304.rank)
  reducesTo_S4x1024x2304_S_d0_1_2 : S4x1024x2304.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v33 : IVec S_ 1) (main_v34 : FVec F S1x1024 .f32) (main_cst_10 : FVec F S_ .f32) : IVec S_ 1 :=
  let main_v35 : FVec F S1x1024 .f32 := broadcastInDim S1x1024 ![] bcast_S_S1x1024 main_cst_10
  let main_v36 : IVec S1x1024 1 := cmpf .olt main_v34 main_v35
  let main_c_11 : IVec S_ 1 := constantI S_ 1 1#1
  let main_v37 : IVec S_ 1 := (fun x v => Host.reduce IntOp.andi x v reducesTo_S1x1024_S_d0_1 h_S_) main_v36 main_c_11
  let main_v38 : IVec S_ 1 := andi main_v33 main_v37
  main_v38

def fn_part1 {F : FTy → Type} [FloatOps F] (main_arg4 : FVec F S4x1024x2304 .bf16) (main_arg7 : FVec F S1x1024 .f32) (main_arg8 : FVec F S1x1024 .f32) (main_v16 : IVec S_ 1) (main_v17 : FVec F S8192x4608 .f32) : IVec S_ 1 :=
  let main_v18 : FVec F S8192x4608 .f32 := Host.absf main_v17
  let main_cst_4 : FVec F S_ .f32 := constant S_ .f32 0x7F800000#32
  let main_v19 : FVec F S8192x4608 .f32 := broadcastInDim S8192x4608 ![] bcast_S_S8192x4608 main_cst_4
  let main_v20 : IVec S8192x4608 1 := cmpf .olt main_v18 main_v19
  let main_c_5 : IVec S_ 1 := constantI S_ 1 1#1
  let main_v21 : IVec S_ 1 := (fun x v => Host.reduce IntOp.andi x v reducesTo_S8192x4608_S_d0_1 h_S_) main_v20 main_c_5
  let main_v22 : IVec S_ 1 := andi main_v16 main_v21
  let main_v23 : FVec F S4x1024x2304 .f32 := (extf .f32 · bitsLt_bf16_f32) main_arg4
  let main_v24 : FVec F S4x1024x2304 .f32 := Host.absf main_v23
  let main_cst_6 : FVec F S_ .f32 := constant S_ .f32 0x7F800000#32
  let main_v25 : FVec F S4x1024x2304 .f32 := broadcastInDim S4x1024x2304 ![] bcast_S_S4x1024x2304 main_cst_6
  let main_v26 : IVec S4x1024x2304 1 := cmpf .olt main_v24 main_v25
  let main_c_7 : IVec S_ 1 := constantI S_ 1 1#1
  let main_v27 : IVec S_ 1 := (fun x v => Host.reduce IntOp.andi x v reducesTo_S4x1024x2304_S_d0_1_2 h_S_) main_v26 main_c_7
  let main_v28 : IVec S_ 1 := andi main_v22 main_v27
  let main_v29 : FVec F S1x1024 .f32 := Host.absf main_arg7
  let main_cst_8 : FVec F S_ .f32 := constant S_ .f32 0x7F800000#32
  let main_v30 : FVec F S1x1024 .f32 := broadcastInDim S1x1024 ![] bcast_S_S1x1024 main_cst_8
  let main_v31 : IVec S1x1024 1 := cmpf .olt main_v29 main_v30
  let main_c_9 : IVec S_ 1 := constantI S_ 1 1#1
  let main_v32 : IVec S_ 1 := (fun x v => Host.reduce IntOp.andi x v reducesTo_S1x1024_S_d0_1 h_S_) main_v31 main_c_9
  let main_v33 : IVec S_ 1 := andi main_v28 main_v32
  let main_v34 : FVec F S1x1024 .f32 := Host.absf main_arg8
  let main_cst_10 : FVec F S_ .f32 := constant S_ .f32 0x7F800000#32
  fn_part2 (F := F) main_v33 main_v34 main_cst_10

def fn {F : FTy → Type} [FloatOps F] (main_arg0 : FVec F S8192x1536 .bf16) (main_arg1 : FVec F S8192x1536 .bf16) (main_arg2 : FVec F S8192x1536 .bf16) (main_arg3 : FVec F S8192x4608 .bf16) (main_arg4 : FVec F S4x1024x2304 .bf16) (main_arg5 : FVec F S8192x1024 .f32) (main_arg6 : FVec F S8192x1024 .f32) (main_arg7 : FVec F S1x1024 .f32) (main_arg8 : FVec F S1x1024 .f32) (main_arg9 : FVec F S8192x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x1536 .f32 := (extf .f32 · bitsLt_bf16_f32) main_arg1
  let main_v6 : FVec F S8192x1536 .f32 := Host.absf main_v5
  let main_cst_0 : FVec F S_ .f32 := constant S_ .f32 0x7F800000#32
  let main_v7 : FVec F S8192x1536 .f32 := broadcastInDim S8192x1536 ![] bcast_S_S8192x1536 main_cst_0
  let main_v8 : IVec S8192x1536 1 := cmpf .olt main_v6 main_v7
  let main_c_1 : IVec S_ 1 := constantI S_ 1 1#1
  let main_v9 : IVec S_ 1 := (fun x v => Host.reduce IntOp.andi x v reducesTo_S8192x1536_S_d0_1 h_S_) main_v8 main_c_1
  let main_v10 : IVec S_ 1 := andi main_v4 main_v9
  let main_v11 : FVec F S8192x1536 .f32 := (extf .f32 · bitsLt_bf16_f32) main_arg2
  let main_v12 : FVec F S8192x1536 .f32 := Host.absf main_v11
  let main_cst_2 : FVec F S_ .f32 := constant S_ .f32 0x7F800000#32
  let main_v13 : FVec F S8192x1536 .f32 := broadcastInDim S8192x1536 ![] bcast_S_S8192x1536 main_cst_2
  let main_v14 : IVec S8192x1536 1 := cmpf .olt main_v12 main_v13
  let main_c_3 : IVec S_ 1 := constantI S_ 1 1#1
  let main_v15 : IVec S_ 1 := (fun x v => Host.reduce IntOp.andi x v reducesTo_S8192x1536_S_d0_1 h_S_) main_v14 main_c_3
  let main_v16 : IVec S_ 1 := andi main_v10 main_v15
  let main_v17 : FVec F S8192x4608 .f32 := (extf .f32 · bitsLt_bf16_f32) main_arg3
  fn_part1 (F := F) main_arg4 main_arg7 main_arg8 main_v16 main_v17
-- ==== Kernel.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 22
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨3, ![8, 1, 12], ![false, false, false]⟩

def k0_cond7 (i : grid0.Coords) : BitVec 1 :=
  let arg2 : BitVec 32 := BitVec.ofNat 32 (i 2).val
  let c11_i32 : BitVec 32 := 11#32
  let v28 : BitVec 1 := Scalar.cmpi .eq arg2 c11_i32
  let v29 : BitVec 32 := Scalar.extui v28
  let c0_i32_12 : BitVec 32 := 0#32
  let v30 : BitVec 1 := Scalar.cmpi .ne v29 c0_i32_12
  v30

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.subi arg2 c2_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.subi arg2 c4_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c6_i32 : BitVec 32 := 6#32
  let v1 : BitVec 32 := Scalar.subi arg2 c6_i32
  let c0_i32_0 : BitVec 32 := 0#32
  let c5_i32 : BitVec 32 := 5#32
  let v2 : BitVec 32 := Scalar.maxsi c0_i32_0 v1
  let v3 : BitVec 32 := Scalar.minsi c5_i32 v2
  let c0_i32_1 : BitVec 32 := 0#32
  ![v0.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== ReferenceIdeal.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S1024x4x2304 : Shape := ⟨3, ![1024, 4, 2304]⟩
abbrev S1024x9216 : Shape := ⟨2, ![1024, 9216]⟩
abbrev S8192x9216 : Shape := ⟨2, ![8192, 9216]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S4x1024x2304, .f32⟩
  | .hbm, ⟨10, _⟩ => ⟨S1024x4x2304, .f32⟩
  | .hbm, ⟨11, _⟩ => ⟨S1024x9216, .f32⟩
  | .hbm, ⟨12, _⟩ => ⟨S8192x9216, .bf16⟩
  | .hbm, ⟨13, _⟩ => ⟨S8192x9216, .f32⟩
  | .hbm, ⟨14, _⟩ => ⟨S_, .f32⟩
  | .hbm, ⟨15, _⟩ => ⟨S1x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x9216, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S8192x1536 : Shape := ⟨2, ![8192, 1536]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x2304 : Shape := ⟨3, ![4, 1024, 2304]⟩
abbrev S1024x2048 : Shape := ⟨2, ![1024, 2048]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 33
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1536, .bf16⟩
  | .hbm, ⟨5, _⟩ => ⟨S8192x1536, .bf16⟩
  | .hbm, ⟨6, _⟩ => ⟨S8192x1536, .bf16⟩
  | .hbm, ⟨7, _⟩ => ⟨S8192x4608, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x8192, .f32⟩
  | .hbm, ⟨31, _⟩ => ⟨S1024x8192, .bf16⟩
  | .hbm, ⟨32, _⟩ => ⟨S4x1024x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | .local _ .vmem, ⟨7, _⟩ => ⟨S2048x768, .bf16⟩
  | .local _ .vmem, ⟨8, _⟩ => ⟨S2048x768, .bf16⟩
  | .local _ .vmem, ⟨9, _⟩ => ⟨S2048x768, .bf16⟩
  | .local _ .vmem, ⟨10, _⟩ => ⟨S1x1024x768, .f32⟩
  | .local _ .vmem, ⟨11, _⟩ => ⟨S1x1024x768, .f32⟩
  | .local _ .vmem, ⟨12, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 12, 4], ![false, false, false]⟩

def k0_cond6 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg1 c0_i32
  let c2_i32 : BitVec 32 := 2#32
  let v1 : BitVec 1 := Scalar.cmpi .sge arg1 c2_i32
  let c3_i32 : BitVec 32 := 3#32
  let v2 : BitVec 32 := Scalar.select v1 c3_i32 arg2
  let c0_i32_0 : BitVec 32 := 0#32
  let v3 : BitVec 32 := Scalar.select v0 c0_i32_0 v2
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c4_i32 : BitVec 32 := 4#32
  let v1 : BitVec 1 := Scalar.cmpi .sge arg1 c4_i32
  let c3_i32 : BitVec 32 := 3#32
  let v2 : BitVec 32 := Scalar.select v1 c3_i32 arg2
  let c0_i32 : BitVec 32 := 0#32
  let v3 : BitVec 32 := Scalar.select v0 c0_i32 v2
  let c2_i32_0 : BitVec 32 := 2#32
  let v4 : BitVec 32 := Scalar.subi arg1 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c6_i32 : BitVec 32 := 6#32
  let v1 : BitVec 1 := Scalar.cmpi .sge arg1 c6_i32
  let c3_i32 : BitVec 32 := 3#32
  let v2 : BitVec 32 := Scalar.select v1 c3_i32 arg2
  let c0_i32 : BitVec 32 := 0#32
  let v3 : BitVec 32 := Scalar.select v0 c0_i32 v2
  let c4_i32_0 : BitVec 32 := 4#32
  let v4 : BitVec 32 := Scalar.subi arg1 c4_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .slt arg1 c6_i32
  let c12_i32 : BitVec 32 := 12#32
  let v1 : BitVec 1 := Scalar.cmpi .sge arg1 c12_i32
  let c3_i32 : BitVec 32 := 3#32
  let v2 : BitVec 32 := Scalar.select v1 c3_i32 arg2
  let c0_i32 : BitVec 32 := 0#32
  let v3 : BitVec 32 := Scalar.select v0 c0_i32 v2
  let c6_i32_0 : BitVec 32 := 6#32
  let v4 : BitVec 32 := Scalar.subi arg1 c6_i32_0
  let c0_i32_1 : BitVec 32 := 0#32
  let c5_i32 : BitVec 32 := 5#32
  let v5 : BitVec 32 := Scalar.maxsi c0_i32_1 v4
  let v6 : BitVec 32 := Scalar.minsi c5_i32 v5
  let c0_i32_2 : BitVec 32 := 0#32
  ![v3.toNat, v6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== Reference2Ideal.lean ====
abbrev S8192x1024 : Shape := ⟨2, ![8192, 1024]⟩
abbrev S1x1024 : Shape := ⟨2, ![1, 1024]⟩
abbrev S8192x1536 : Shape := ⟨2, ![8192, 1536]⟩
abbrev S8192x4608 : Shape := ⟨2, ![8192, 4608]⟩
abbrev S8192x9216 : Shape := ⟨2, ![8192, 9216]⟩
abbrev S_ : Shape := ⟨0, ![]⟩
abbrev S1024x9216 : Shape := ⟨2, ![1024, 9216]⟩
abbrev S8192 : Shape := ⟨1, ![8192]⟩
abbrev S8192x1 : Shape := ⟨2, ![8192, 1]⟩
abbrev S9216x1024 : Shape := ⟨2, ![9216, 1024]⟩
abbrev S1024x4x2304 : Shape := ⟨3, ![1024, 4, 2304]⟩
abbrev S4x1024x2304 : Shape := ⟨3, ![4, 1024, 2304]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1536, .bf16⟩
  | .hbm, ⟨5, _⟩ => ⟨S8192x1536, .bf16⟩
  | .hbm, ⟨6, _⟩ => ⟨S8192x1536, .bf16⟩
  | .hbm, ⟨7, _⟩ => ⟨S8192x4608, .bf16⟩
  | .hbm, ⟨8, _⟩ => ⟨S8192x9216, .bf16⟩
  | .hbm, ⟨9, _⟩ => ⟨S8192x9216, .f32⟩
  | .hbm, ⟨10, _⟩ => ⟨S_, .f32⟩
  | .hbm, ⟨11, _⟩ => ⟨S1024x9216, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x9216, .f32⟩
  | .hbm, ⟨35, _⟩ => ⟨S9216x1024, .f32⟩
  | .hbm, ⟨36, _⟩ => ⟨S1024x9216, .f32⟩
  | .hbm, ⟨37, _⟩ => ⟨S1024x4x2304, .f32⟩
  | .hbm, ⟨38, _⟩ => ⟨S4x1024x2304, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S4x1024x2304 : Shape := ⟨3, ![4, 1024, 2304]⟩
abbrev S8192x9216 : Shape := ⟨2, ![8192, 9216]⟩
abbrev S1024x8192 : Shape := ⟨2, ![1024, 8192]⟩
abbrev S1024x1024 : Shape := ⟨2, ![1024, 1024]⟩
abbrev S1x1024x2304 : Shape := ⟨3, ![1, 1024, 2304]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x2304, .bf16⟩
  | .hbm, ⟨5, _⟩ => ⟨S8192x9216, .bf16⟩
  | .hbm, ⟨6, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x2304, .bf16⟩
  | .local _ .vmem, ⟨6, _⟩ => ⟨S1x1024x2304, .bf16⟩
  | .local _ .vmem, ⟨7, _⟩ => ⟨S1024x2304, .bf16⟩
  | .local _ .vmem, ⟨8, _⟩ => ⟨S1024x2304, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x1024 : Shape := ⟨2, ![8192, 1024]⟩
abbrev S1x1024 : Shape := ⟨2, ![1, 1024]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S_ : Shape := ⟨0, ![]⟩
abbrev S8192 : Shape := ⟨1, ![8192]⟩
abbrev S8192x1 : Shape := ⟨2, ![8192, 1]⟩
abbrev S8192x9216 : Shape := ⟨2, ![8192, 9216]⟩
abbrev S1024x8192 : Shape := ⟨2, ![1024, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x2304, .bf16⟩
  | .hbm, ⟨5, _⟩ => ⟨S4x1024x2304, .f32⟩
  | .hbm, ⟨6, _⟩ => ⟨S1024x4x2304, .f32⟩
  | .hbm, ⟨7, _⟩ => ⟨S1024x9216, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x9216, .f32⟩
  | .hbm, ⟨31, _⟩ => ⟨S8192x9216, .bf16⟩
  | .hbm, ⟨32, _⟩ => ⟨S1024x8192, .f32⟩
  | .hbm, ⟨33, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S8192x1024 : Shape := ⟨2, ![8192, 1024]⟩
abbrev S8192x9216 : Shape := ⟨2, ![8192, 9216]⟩
abbrev S4x1024 : Shape := ⟨2, ![4, 1024]⟩
abbrev S1x1024 : Shape := ⟨2, ![1, 1024]⟩
abbrev S8x128x256 : Shape := ⟨3, ![8, 128, 256]⟩
abbrev S256x1024 : Shape := ⟨2, ![256, 1024]⟩
abbrev S16x1024 : Shape := ⟨2, ![16, 1024]⟩
abbrev S8x1024 : Shape := ⟨2, ![8, 1024]⟩
abbrev S264x1024 : Shape := ⟨2, ![264, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S256x1 : Shape := ⟨2, ![256, 1]⟩
abbrev S32x8x1024 : Shape := ⟨3, ![32, 8, 1024]⟩
abbrev S1x8x1 : Shape := ⟨3, ![1, 8, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x9216, .bf16⟩
  | .hbm, ⟨2, _⟩ => ⟨S4x1024, .f32⟩
  | .hbm, ⟨3, _⟩ => ⟨S1x1024, .f32⟩
  | .hbm, ⟨4, _⟩ => ⟨S8192x1024, .bf16⟩
  | .hbm, ⟨5, _⟩ => ⟨S8x128x256, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8x128x256, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S8x128x256, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S8x128x256, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S8x1024, .f32⟩
  | .local _ .vmem, ⟨23, _⟩ => ⟨S256x1024, .f32⟩
  | .local _ .vmem, ⟨24, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_75 : BitVec 32 := 0#32
  let c32_i32 : BitVec 32 := 32#32
  let v200 : BitVec 32 := Scalar.addi c0_i32_75 c32_i32
  let c1_i32_76 : BitVec 32 := 1#32
  ⟨c0_i32_75, v200, c1_i32_76⟩
def k0_mult1 (k0_t1 : Fin k0_t1_loop.trips) : BitVec 32 :=
  let c31_i32_205 : BitVec 32 := 31#32
  let c0_i32_75 : BitVec 32 := 0#32
  let c1_i32_76 : BitVec 32 := 1#32
  let arg20 : BitVec 32 := Scf.iv c0_i32_75 c1_i32_76 k0_t1
  let v395 : BitVec 32 := Scalar.subi c31_i32_205 arg20
  let c8_i32 : BitVec 32 := 8#32
  let v396 : BitVec 32 := Scalar.muli v395 c8_i32
  v396
def k0_off1 (k0_t1 : Fin k0_t1_loop.trips) : Fin 2 → Nat :=
  let c31_i32_205 : BitVec 32 := 31#32
  let c0_i32_75 : BitVec 32 := 0#32
  let c1_i32_76 : BitVec 32 := 1#32
  let arg20 : BitVec 32 := Scf.iv c0_i32_75 c1_i32_76 k0_t1
  let v395 : BitVec 32 := Scalar.subi c31_i32_205 arg20
  let c8_i32 : BitVec 32 := 8#32
  let v396 : BitVec 32 := Scalar.muli v395 c8_i32
  let v397 : BitVec 32 := v396
  let v398 : Index := Scalar.indexCast v397
  let c0_206 : Index := 0#32
  ![v398.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel5.lean ====
abbrev S8192x512 : Shape := ⟨2, ![8192, 512]⟩
abbrev S8192x1024 : Shape := ⟨2, ![8192, 1024]⟩
abbrev S8192x9216 : Shape := ⟨2, ![8192, 9216]⟩
abbrev S1x1024 : Shape := ⟨2, ![1, 1024]⟩
abbrev S4x2x512x256 : Shape := ⟨4, ![4, 2, 512, 256]⟩
abbrev S4x2x256x1024 : Shape := ⟨4, ![4, 2, 256, 1024]⟩
abbrev S512x8192 : Shape := ⟨2, ![512, 8192]⟩
abbrev S1024x8192 : Shape := ⟨2, ![1024, 8192]⟩
abbrev S512x512 : Shape := ⟨2, ![512, 512]⟩
abbrev S512x1024 : Shape := ⟨2, ![512, 1024]⟩
abbrev S4x1x512x256 : Shape := ⟨4, ![4, 1, 512, 256]⟩
abbrev S4x1x256x1024 : Shape := ⟨4, ![4, 1, 256, 1024]⟩
abbrev S1024x512 : Shape := ⟨2, ![1024, 512]⟩
abbrev S1x1x512x256 : Shape := ⟨4, ![1, 1, 512, 256]⟩
abbrev S512x256 : Shape := ⟨2, ![512, 256]⟩
abbrev S4x256x1024 : Shape := ⟨3, ![4, 256, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 33
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x9216, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x2x512x256, .bf16⟩
  | .hbm, ⟨7, _⟩ => ⟨S4x2x256x1024, .bf16⟩
  | .hbm, ⟨8, _⟩ => ⟨S4x2x256x1024, .bf16⟩
  | .hbm, ⟨9, _⟩ => ⟨S512x8192, .bf16⟩
  | .hbm, ⟨10, _⟩ => ⟨S1024x8192, .bf16⟩
  | .hbm, ⟨11, _⟩ => ⟨S8192x1024, .bf16⟩
  | .hbm, ⟨12, _⟩ => ⟨S8192x1024, .bf16⟩
  | .hbm, ⟨13, _⟩ => ⟨S1024x8192, .bf16⟩
  | .hbm, ⟨14, _⟩ => ⟨S8192x1024, .bf16⟩
  | .hbm, ⟨15, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S4x1x512x256, .bf16⟩
  | .local _ .vmem, ⟨17, _⟩ => ⟨S4x1x256x1024, .bf16⟩
  | .local _ .vmem, ⟨18, _⟩ => ⟨S4x1x256x1024, .bf16⟩
  | .local _ .vmem, ⟨19, _⟩ => ⟨S512x512, .bf16⟩
  | .local _ .vmem, ⟨20, _⟩ => ⟨S512x512, .bf16⟩
  | .local _ .vmem, ⟨21, _⟩ => ⟨S1024x512, .bf16⟩
  | .local _ .vmem, ⟨22, _⟩ => ⟨S1024x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1024x512, .bf16⟩
  | .local _ .vmem, ⟨28, _⟩ => ⟨S1024x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S8192x512 : Shape := ⟨2, ![8192, 512]⟩
abbrev S8192x1024 : Shape := ⟨2, ![8192, 1024]⟩
abbrev S8192x9216 : Shape := ⟨2, ![8192, 9216]⟩
abbrev S1x1024 : Shape := ⟨2, ![1, 1024]⟩
abbrev S4x2x512x256 : Shape := ⟨4, ![4, 2, 512, 256]⟩
abbrev S4x2x256x1024 : Shape := ⟨4, ![4, 2, 256, 1024]⟩
abbrev S4x1x512x256 : Shape := ⟨4, ![4, 1, 512, 256]⟩
abbrev S4x512x256 : Shape := ⟨3, ![4, 512, 256]⟩
abbrev S512x4x256 : Shape := ⟨3, ![512, 4, 256]⟩
abbrev S512x1024 : Shape := ⟨2, ![512, 1024]⟩
abbrev S4x1x256x1024 : Shape := ⟨4, ![4, 1, 256, 1024]⟩
abbrev S4x256x1024 : Shape := ⟨3, ![4, 256, 1024]⟩
abbrev S1024x1024 : Shape := ⟨2, ![1024, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S1024x8192 : Shape := ⟨2, ![1024, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x9216, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x2x512x256, .bf16⟩
  | .hbm, ⟨7, _⟩ => ⟨S4x2x256x1024, .bf16⟩
  | .hbm, ⟨8, _⟩ => ⟨S4x2x256x1024, .bf16⟩
  | .hbm, ⟨9, _⟩ => ⟨S4x1x512x256, .bf16⟩
  | .hbm, ⟨10, _⟩ => ⟨S4x512x256, .bf16⟩
  | .hbm, ⟨11, _⟩ => ⟨S4x512x256, .f32⟩
  | .hbm, ⟨12, _⟩ => ⟨S512x4x256, .f32⟩
  | .hbm, ⟨13, _⟩ => ⟨S512x1024, .f32⟩
  | .hbm, ⟨14, _⟩ => ⟨S4x1x256x1024, .bf16⟩
  | .hbm, ⟨15, _⟩ => ⟨S4x256x1024, .bf16⟩
  | .hbm, ⟨16, _⟩ => ⟨S4x256x1024, .f32⟩
  | .hbm, ⟨17, _⟩ => ⟨S1024x1024, .f32⟩
  | .hbm, ⟨18, _⟩ => ⟨S4x1x256x1024, .bf16⟩
  | .hbm, ⟨19, _⟩ => ⟨S4x256x1024, .bf16⟩
  | .hbm, ⟨20, _⟩ => ⟨S4x256x1024, .f32⟩
  | .hbm, ⟨21, _⟩ => ⟨S1024x1024, .f32⟩
  | .hbm, ⟨22, _⟩ => ⟨S8192x512, .bf16⟩
  | .hbm, ⟨23, _⟩ => ⟨S8192x512, .f32⟩
  | .hbm, ⟨24, _⟩ => ⟨S8192x1024, .bf16⟩
  | .hbm, ⟨25, _⟩ => ⟨S8192x1024, .f32⟩
  | .hbm, ⟨26, _⟩ => ⟨S8192x2048, .bf16⟩
  | .hbm, ⟨27, _⟩ => ⟨S8192x2048, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S512x8192, .f32⟩
  | .hbm, ⟨80, _⟩ => ⟨S512x8192, .bf16⟩
  | .hbm, ⟨81, _⟩ => ⟨S1024x8192, .f32⟩
  | .hbm, ⟨82, _⟩ => ⟨S1024x8192, .bf16⟩
  | .hbm, ⟨83, _⟩ => ⟨S8192x1024, .bf16⟩
  | .hbm, ⟨84, _⟩ => ⟨S8192x1024, .bf16⟩
  | .hbm, ⟨85, _⟩ => ⟨S1024x8192, .f32⟩
  | .hbm, ⟨86, _⟩ => ⟨S1024x8192, .bf16⟩
  | .hbm, ⟨87, _⟩ => ⟨S8192x1024, .bf16⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_cst_0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_1 : Ref sig .tc := ⟨.hbm, 67, rfl⟩
abbrev main_v40 : Ref sig .tc := ⟨.hbm, 68, rfl⟩
abbrev main_v41 : Ref sig .tc := ⟨.hbm, 69, rfl⟩
abbrev main_cst_2 : Ref sig .tc := ⟨.hbm, 70, rfl⟩
abbrev main_v42 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Kernel6.lean ====
abbrev S1024x8192 : Shape := ⟨2, ![1024, 8192]⟩
abbrev S8192x1024 : Shape := ⟨2, ![8192, 1024]⟩
abbrev S4x256x1024 : Shape := ⟨3, ![4, 256, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S4x256x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | .local _ .vmem, ⟨5, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference6Ideal.lean ====
abbrev S1024x8192 : Shape := ⟨2, ![1024, 8192]⟩
abbrev S8192x1024 : Shape := ⟨2, ![8192, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x8192, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S4x256x1024, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S512x8192 : Shape := ⟨2, ![512, 8192]⟩
abbrev S8192x1024 : Shape := ⟨2, ![8192, 1024]⟩
abbrev S4x512x256 : Shape := ⟨3, ![4, 512, 256]⟩
abbrev S512x2048 : Shape := ⟨2, ![512, 2048]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S512x8192, .bf16⟩
  | .hbm, ⟨1, _⟩ => ⟨S8192x1024, .bf16⟩
  | .hbm, ⟨2, _⟩ => ⟨S4x512x256, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S512x8192 : Shape := ⟨2, ![512, 8192]⟩
abbrev S8192x1024 : Shape := ⟨2, ![8192, 1024]⟩
abbrev S8192x512 : Shape := ⟨2, ![8192, 512]⟩
abbrev S_ : Shape := ⟨0, ![]⟩
abbrev S4x512x256 : Shape := ⟨3, ![4, 512, 256]⟩
abbrev S512x4x256 : Shape := ⟨3, ![512, 4, 256]⟩
abbrev S512x1024 : Shape := ⟨2, ![512, 1024]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S8192x1024, .bf16⟩
  | .hbm, ⟨2, _⟩ => ⟨S512x8192, .f32⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S4x512x256, .f32⟩
  | .hbm, ⟨7, _⟩ => ⟨S512x4x256, .f32⟩
  | .hbm, ⟨8, _⟩ => ⟨S512x1024, .f32⟩
  | .hbm, ⟨9, _⟩ => ⟨S8192x1024, .f32⟩
  | .hbm, ⟨10, _⟩ => ⟨S1024x512, .f32⟩
  | .hbm, ⟨11, _⟩ => ⟨S512x1024, .f32⟩
  | .hbm, ⟨12, _⟩ => ⟨S512x4x256, .f32⟩
  | .hbm, ⟨13, _⟩ => ⟨S4x512x256, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 22
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨3, ![4, 1, 12], ![false, false, false]⟩

def k0_cond7 (i : grid0.Coords) : BitVec 1 :=
  let arg2 : BitVec 32 := BitVec.ofNat 32 (i 2).val
  let c11_i32 : BitVec 32 := 11#32
  let v28 : BitVec 1 := Scalar.cmpi .eq arg2 c11_i32
  let v29 : BitVec 32 := Scalar.extui v28
  let c0_i32_12 : BitVec 32 := 0#32
  let v30 : BitVec 1 := Scalar.cmpi .ne v29 c0_i32_12
  v30

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.subi arg2 c2_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.subi arg2 c4_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c6_i32 : BitVec 32 := 6#32
  let v1 : BitVec 32 := Scalar.subi arg2 c6_i32
  let c0_i32_0 : BitVec 32 := 0#32
  let c5_i32 : BitVec 32 := 5#32
  let v2 : BitVec 32 := Scalar.maxsi c0_i32_0 v1
  let v3 : BitVec 32 := Scalar.minsi c5_i32 v2
  let c0_i32_1 : BitVec 32 := 0#32
  ![v0.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference8Ideal.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S4096x1536 : Shape := ⟨2, ![4096, 1536]⟩
abbrev S4096x4608 : Shape := ⟨2, ![4096, 4608]⟩
abbrev S4096x1024 : Shape := ⟨2, ![4096, 1024]⟩
abbrev S1024x4x2304 : Shape := ⟨3, ![1024, 4, 2304]⟩
abbrev S1024x9216 : Shape := ⟨2, ![1024, 9216]⟩
abbrev S4096x9216 : Shape := ⟨2, ![4096, 9216]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S4096x1536, .bf16⟩
  | .hbm, ⟨10, _⟩ => ⟨S4096x1536, .bf16⟩
  | .hbm, ⟨11, _⟩ => ⟨S4096x1536, .bf16⟩
  | .hbm, ⟨12, _⟩ => ⟨S4096x4608, .bf16⟩
  | .hbm, ⟨13, _⟩ => ⟨S4096x1024, .f32⟩
  | .hbm, ⟨14, _⟩ => ⟨S4096x1024, .f32⟩
  | .hbm, ⟨15, _⟩ => ⟨S4x1024x2304, .f32⟩
  | .hbm, ⟨16, _⟩ => ⟨S1024x4x2304, .f32⟩
  | .hbm, ⟨17, _⟩ => ⟨S1024x9216, .f32⟩
  | .hbm, ⟨18, _⟩ => ⟨S4096x9216, .bf16⟩
  | .hbm, ⟨19, _⟩ => ⟨S4096x9216, .f32⟩
  | .hbm, ⟨20, _⟩ => ⟨S_, .f32⟩
  | .hbm, ⟨21, _⟩ => ⟨S1x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x9216, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel9.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 14
  | .vmem => 22
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨3, ![4, 1, 12], ![false, false, false]⟩

def k0_cond7 (i : grid0.Coords) : BitVec 1 :=
  let arg2 : BitVec 32 := BitVec.ofNat 32 (i 2).val
  let c11_i32 : BitVec 32 := 11#32
  let v28 : BitVec 1 := Scalar.cmpi .eq arg2 c11_i32
  let v29 : BitVec 32 := Scalar.extui v28
  let c0_i32_12 : BitVec 32 := 0#32
  let v30 : BitVec 1 := Scalar.cmpi .ne v29 c0_i32_12
  v30

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let v1 : BitVec 32 := Scalar.subi arg2 c0_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c2_i32 : BitVec 32 := 2#32
  let v1 : BitVec 32 := Scalar.subi arg2 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c4_i32_0 : BitVec 32 := 4#32
  let v1 : BitVec 32 := Scalar.subi arg2 c4_i32_0
  let c0_i32 : BitVec 32 := 0#32
  let c1_i32 : BitVec 32 := 1#32
  let v2 : BitVec 32 := Scalar.maxsi c0_i32 v1
  let v3 : BitVec 32 := Scalar.minsi c1_i32 v2
  let c0_i32_1 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c6_i32 : BitVec 32 := 6#32
  let v1 : BitVec 32 := Scalar.subi arg2 c6_i32
  let c0_i32 : BitVec 32 := 0#32
  let c5_i32 : BitVec 32 := 5#32
  let v2 : BitVec 32 := Scalar.maxsi c0_i32 v1
  let v3 : BitVec 32 := Scalar.minsi c5_i32 v2
  let c0_i32_0 : BitVec 32 := 0#32
  ![v0.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference9Ideal.lean ====
abbrev S8192x1536 : Shape := ⟨2, ![8192, 1536]⟩
abbrev S8192x4608 : Shape := ⟨2, ![8192, 4608]⟩
abbrev S4x1024x2304 : Shape := ⟨3, ![4, 1024, 2304]⟩
abbrev S8192x1024 : Shape := ⟨2, ![8192, 1024]⟩
abbrev S1x1024 : Shape := ⟨2, ![1, 1024]⟩
abbrev S4096x1536 : Shape := ⟨2, ![4096, 1536]⟩
abbrev S4096x4608 : Shape := ⟨2, ![4096, 4608]⟩
abbrev S4096x1024 : Shape := ⟨2, ![4096, 1024]⟩
abbrev S1024x4x2304 : Shape := ⟨3, ![1024, 4, 2304]⟩
abbrev S1024x9216 : Shape := ⟨2, ![1024, 9216]⟩
abbrev S4096x9216 : Shape := ⟨2, ![4096, 9216]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x4608, .bf16⟩
  | .hbm, ⟨4, _⟩ => ⟨S4x1024x2304, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S4096x1536, .bf16⟩
  | .hbm, ⟨11, _⟩ => ⟨S4096x1536, .bf16⟩
  | .hbm, ⟨12, _⟩ => ⟨S4096x1536, .bf16⟩
  | .hbm, ⟨13, _⟩ => ⟨S4096x4608, .bf16⟩
  | .hbm, ⟨14, _⟩ => ⟨S4096x1024, .f32⟩
  | .hbm, ⟨15, _⟩ => ⟨S4096x1024, .f32⟩
  | .hbm, ⟨16, _⟩ => ⟨S4x1024x2304, .f32⟩
  | .hbm, ⟨17, _⟩ => ⟨S1024x4x2304, .f32⟩
  | .hbm, ⟨18, _⟩ => ⟨S1024x9216, .f32⟩
  | .hbm, ⟨19, _⟩ => ⟨S4096x9216, .bf16⟩
  | .hbm, ⟨20, _⟩ => ⟨S4096x9216, .f32⟩
  | .hbm, ⟨21, _⟩ => ⟨S_, .f32⟩
  | .hbm, ⟨22, _⟩ => ⟨S1x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x9216, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S8192x9216 : Shape := ⟨2, ![8192, 9216]⟩
abbrev S1x1024 : Shape := ⟨2, ![1, 1024]⟩
abbrev S4x2x512x256 : Shape := ⟨4, ![4, 2, 512, 256]⟩
abbrev S4x2x256x1024 : Shape := ⟨4, ![4, 2, 256, 1024]⟩
abbrev S512x8192 : Shape := ⟨2, ![512, 8192]⟩
abbrev S1024x8192 : Shape := ⟨2, ![1024, 8192]⟩
abbrev S512x512 : Shape := ⟨2, ![512, 512]⟩
abbrev S512x1024 : Shape := ⟨2, ![512, 1024]⟩
abbrev S4x1x512x256 : Shape := ⟨4, ![4, 1, 512, 256]⟩
abbrev S4x1x256x1024 : Shape := ⟨4, ![4, 1, 256, 1024]⟩
abbrev S1024x512 : Shape := ⟨2, ![1024, 512]⟩
abbrev S1x1x512x256 : Shape := ⟨4, ![1, 1, 512, 256]⟩
abbrev S512x256 : Shape := ⟨2, ![512, 256]⟩
abbrev S4x256x1024 : Shape := ⟨3, ![4, 256, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 36
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x9216, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x2x512x256, .bf16⟩
  | .hbm, ⟨7, _⟩ => ⟨S4x2x256x1024, .bf16⟩
  | .hbm, ⟨8, _⟩ => ⟨S4x2x256x1024, .bf16⟩
  | .hbm, ⟨9, _⟩ => ⟨S8192x1024, .f32⟩
  | .hbm, ⟨10, _⟩ => ⟨S512x8192, .bf16⟩
  | .hbm, ⟨11, _⟩ => ⟨S1024x8192, .bf16⟩
  | .hbm, ⟨12, _⟩ => ⟨S8192x1024, .bf16⟩
  | .hbm, ⟨13, _⟩ => ⟨S8192x1024, .bf16⟩
  | .hbm, ⟨14, _⟩ => ⟨S1024x8192, .bf16⟩
  | .hbm, ⟨15, _⟩ => ⟨S8192x1024, .bf16⟩
  | .hbm, ⟨16, _⟩ => ⟨S8192x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S4x1x512x256, .bf16⟩
  | .local _ .vmem, ⟨17, _⟩ => ⟨S4x1x256x1024, .bf16⟩
  | .local _ .vmem, ⟨18, _⟩ => ⟨S4x1x256x1024, .bf16⟩
  | .local _ .vmem, ⟨19, _⟩ => ⟨S512x1024, .f32⟩
  | .local _ .vmem, ⟨20, _⟩ => ⟨S512x1024, .f32⟩
  | .local _ .vmem, ⟨21, _⟩ => ⟨S512x512, .bf16⟩
  | .local _ .vmem, ⟨22, _⟩ => ⟨S512x512, .bf16⟩
  | .local _ .vmem, ⟨23, _⟩ => ⟨S1024x512, .bf16⟩
  | .local _ .vmem, ⟨24, _⟩ => ⟨S1024x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x512, .bf16⟩
  | .local _ .vmem, ⟨30, _⟩ => ⟨S1024x512, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference10Ideal.lean ====
abbrev S8192x512 : Shape := ⟨2, ![8192, 512]⟩
abbrev S8192x1024 : Shape := ⟨2, ![8192, 1024]⟩
abbrev S8192x9216 : Shape := ⟨2, ![8192, 9216]⟩
abbrev S1x1024 : Shape := ⟨2, ![1, 1024]⟩
abbrev S4x2x512x256 : Shape := ⟨4, ![4, 2, 512, 256]⟩
abbrev S4x2x256x1024 : Shape := ⟨4, ![4, 2, 256, 1024]⟩
abbrev S4x1x512x256 : Shape := ⟨4, ![4, 1, 512, 256]⟩
abbrev S4x1x256x1024 : Shape := ⟨4, ![4, 1, 256, 1024]⟩
abbrev S4x512x256 : Shape := ⟨3, ![4, 512, 256]⟩
abbrev S512x4x256 : Shape := ⟨3, ![512, 4, 256]⟩
abbrev S512x1024 : Shape := ⟨2, ![512, 1024]⟩
abbrev S4x256x1024 : Shape := ⟨3, ![4, 256, 1024]⟩
abbrev S1024x1024 : Shape := ⟨2, ![1024, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S1024x8192 : Shape := ⟨2, ![1024, 8192]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x9216, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x2x512x256, .bf16⟩
  | .hbm, ⟨7, _⟩ => ⟨S4x2x256x1024, .bf16⟩
  | .hbm, ⟨8, _⟩ => ⟨S4x2x256x1024, .bf16⟩
  | .hbm, ⟨9, _⟩ => ⟨S8192x1024, .f32⟩
  | .hbm, ⟨10, _⟩ => ⟨S4x1x512x256, .bf16⟩
  | .hbm, ⟨11, _⟩ => ⟨S4x1x256x1024, .bf16⟩
  | .hbm, ⟨12, _⟩ => ⟨S4x1x256x1024, .bf16⟩
  | .hbm, ⟨13, _⟩ => ⟨S4x512x256, .bf16⟩
  | .hbm, ⟨14, _⟩ => ⟨S4x512x256, .f32⟩
  | .hbm, ⟨15, _⟩ => ⟨S512x4x256, .f32⟩
  | .hbm, ⟨16, _⟩ => ⟨S512x1024, .f32⟩
  | .hbm, ⟨17, _⟩ => ⟨S4x256x1024, .bf16⟩
  | .hbm, ⟨18, _⟩ => ⟨S4x256x1024, .f32⟩
  | .hbm, ⟨19, _⟩ => ⟨S1024x1024, .f32⟩
  | .hbm, ⟨20, _⟩ => ⟨S4x256x1024, .bf16⟩
  | .hbm, ⟨21, _⟩ => ⟨S4x256x1024, .f32⟩
  | .hbm, ⟨22, _⟩ => ⟨S1024x1024, .f32⟩
  | .hbm, ⟨23, _⟩ => ⟨S8192x512, .bf16⟩
  | .hbm, ⟨24, _⟩ => ⟨S8192x512, .f32⟩
  | .hbm, ⟨25, _⟩ => ⟨S8192x1024, .bf16⟩
  | .hbm, ⟨26, _⟩ => ⟨S8192x1024, .f32⟩
  | .hbm, ⟨27, _⟩ => ⟨S8192x2048, .bf16⟩
  | .hbm, ⟨28, _⟩ => ⟨S8192x2048, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S512x8192, .f32⟩
  | .hbm, ⟨81, _⟩ => ⟨S512x8192, .bf16⟩
  | .hbm, ⟨82, _⟩ => ⟨S1024x8192, .f32⟩
  | .hbm, ⟨83, _⟩ => ⟨S1024x8192, .bf16⟩
  | .hbm, ⟨84, _⟩ => ⟨S8192x1024, .bf16⟩
  | .hbm, ⟨85, _⟩ => ⟨S8192x1024, .bf16⟩
  | .hbm, ⟨86, _⟩ => ⟨S1024x8192, .f32⟩
  | .hbm, ⟨87, _⟩ => ⟨S1024x8192, .bf16⟩
  | .hbm, ⟨88, _⟩ => ⟨S8192x1024, .bf16⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8192, .f32⟩
  | .hbm, ⟨112, _⟩ => ⟨S_, .f32⟩
  | .hbm, ⟨113, _⟩ => ⟨S8192, .f32⟩
  | .hbm, ⟨114, _⟩ => ⟨S8192, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S_, .f32⟩
  | .hbm, ⟨120, _⟩ => ⟨S1024, .f32⟩
  | .hbm, ⟨121, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_cst_0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_4 : Ref sig .tc := ⟨.hbm, 96, rfl⟩
abbrev main_v65 : Ref sig .tc := ⟨.hbm, 97, rfl⟩
abbrev main_v66 : Ref sig .tc := ⟨.hbm, 98, rfl⟩
abbrev main_cst_5 : Ref sig .tc := ⟨.hbm, 99, rfl⟩
abbrev main_v67 : Ref sig .tc := ⟨.hbm, 100, rfl⟩
abbrev main_cst_6 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_cst_8 : Ref sig .tc := ⟨.hbm, 106, rfl⟩
abbrev main_v71 : Ref sig .tc := ⟨.hbm, 107, rfl⟩
abbrev main_cst_9 : Ref sig .tc := ⟨.hbm, 108, rfl⟩
abbrev main_cst_10 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_12 : Ref sig .tc := ⟨.hbm, 119, rfl⟩
abbrev main_v80 : Ref sig .tc := ⟨.hbm, 120, rfl⟩
abbrev main_v81 : Ref sig .tc := ⟨.hbm, 121, rfl⟩

abbrev nD : Nat := 1
abbrev τ : Topo := Topo.v7x

variable {F : FTy → Type} [FloatOps F]
-- ==== Proof.DxState.lean ====
/-
  The input projection's gradient call, point by point: what one grid point leaves in the accumulator and in the three
  parameter gradients. The grid is 8 row blocks by 12 column blocks; column block `k` of the projection's gradient comes
  from one of four arrays, and the last column block finishes the row block.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The column block of the projection's gradient that point `t` multiplies: which of the four arrays it is read from. -/
def part (c : Dev nD) (t : Fin cfg0.N) : Vec Ideal S1024x768 .bf16 :=
  if t.val % 12 ≤ 1 then iblk m c 0 t else if t.val % 12 ≤ 3 then iblk m c 1 t
  else if t.val % 12 ≤ 5 then iblk m c 2 t else iblk m c 3 t

/-- The accumulator after point `n`. -/
abbrev accAfter (c : Dev nD) (n : ℕ) (h : n < cfg0.N) : Vec Ideal S1024x1024 .f32 := (outsAt0 m c n h).2.2.2.2

theorem acc_reset (c : Dev nD) (t : Fin cfg0.N) (h0 : t.val % 12 = 0) :
    accAfter m c t.val t.isLt = k0_pay12 (k0_pay8 (F := Ideal)) (part m c t) (iblk m c 4 t) := by
  have e : part m c t = iblk m c 0 t := if_pos (by omega)
  rw [e]
  by_cases h1 : t.val % 96 = 0
  · unfold accAfter
    rw [outsAt0_A m c t h0 h1 (by omega) (by omega) (by omega) (by omega) (by omega)]
    frame_out
  · unfold accAfter
    rw [outsAt0_G m c t h0 h1 (by omega) (by omega) (by omega) (by omega) (by omega)]
    frame_out

theorem acc_step (c : Dev nD) (t : Fin cfg0.N) (h0 : ¬t.val % 12 = 0) :
    accAfter m c t.val t.isLt
      = k0_pay12 (accAfter m c (t.val - 1) (Nat.lt_of_le_of_lt (Nat.sub_le _ _) t.isLt)) (part m c t) (iblk m c 4 t) := by
  unfold accAfter
  have h1 : ¬t.val % 96 = 0 := by omega
  by_cases k1 : t.val % 12 ≤ 1
  · rw [outsAt0_B m c t h0 h1 k1 (by omega) (by omega) (by omega) (by omega),
      show part m c t = iblk m c 0 t from if_pos k1]
    frame_out
    first | rfl | (simp only [read_unread_whole]; rfl) | simp only [read_unread_whole]
  by_cases k3 : t.val % 12 ≤ 3
  · rw [outsAt0_C m c t h0 h1 k1 (by omega) (by omega) (by omega) (by omega),
      show part m c t = iblk m c 1 t from (if_neg k1).trans (if_pos k3)]
    frame_out
    first | rfl | (simp only [read_unread_whole]; rfl) | simp only [read_unread_whole]
  by_cases k5 : t.val % 12 ≤ 5
  · rw [outsAt0_D m c t h0 h1 k1 (by omega) (by omega) (by omega) (by omega),
      show part m c t = iblk m c 2 t from (if_neg k1).trans ((if_neg k3).trans (if_pos k5))]
    frame_out
    first | rfl | (simp only [read_unread_whole]; rfl) | simp only [read_unread_whole]
  have e : part m c t = iblk m c 3 t := (if_neg k1).trans ((if_neg k3).trans (if_neg k5))
  by_cases k11 : t.val % 12 = 11
  · rw [outsAt0_F m c t h0 h1 k1 (by omega) (by omega) (by omega) k11, e]
    frame_out
    first | rfl | (simp only [read_unread_whole]; rfl) | simp only [read_unread_whole]
  · rw [outsAt0_E m c t h0 h1 k1 (by omega) (by omega) (by omega) k11, e]
    frame_out
    first | rfl | (simp only [read_unread_whole]; rfl) | simp only [read_unread_whole]

end Cert.KernelIdeal.Dx
-- ==== Proof.DxBlocks.lean ====
/-
  Where a grid point's blocks lie in the arrays they are read from.
-/
module

public import proofs.«01_k».proof.Proof.DxState
public import proofs.«01_k».proof.Proof.Gen.ReferenceIdeal.Read

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- An argument's array on device `c`. -/
abbrev arg (c : Dev nD) (b : Ref sig .tc) : Buf (Elt Ideal) ((c.tc : Thread nD τ).loc b) := m ((c.tc : Thread nD τ).loc b)

theorem idx0 : ∀ t : Fin cfg0.N, t.val % 12 ≤ 1 → win0_0.index t = ![t.val / 12, t.val % 12] := by decide +kernel
theorem idx1 : ∀ t : Fin cfg0.N, ¬t.val % 12 ≤ 1 → t.val % 12 ≤ 3 → win0_1.index t = ![t.val / 12, t.val % 12 - 2] := by decide +kernel
theorem idx2 : ∀ t : Fin cfg0.N, ¬t.val % 12 ≤ 3 → t.val % 12 ≤ 5 → win0_2.index t = ![t.val / 12, t.val % 12 - 4] := by decide +kernel
theorem idx3 : ∀ t : Fin cfg0.N, ¬t.val % 12 ≤ 5 → win0_3.index t = ![t.val / 12, t.val % 12 - 6] := by decide +kernel
theorem idx4 : ∀ t : Fin cfg0.N, win0_4.index t = ![t.val % 12 / 3, 0, t.val % 12 % 3] := by decide +kernel
theorem idx5 : ∀ t : Fin cfg0.N, win0_5.index t = ![t.val / 12, 0] := by decide +kernel
theorem idx6 : ∀ t : Fin cfg0.N, win0_6.index t = ![t.val / 12, 0] := by decide +kernel
theorem idx7 : ∀ t : Fin cfg0.N, win0_7.index t = ![0, 0] := by decide +kernel
theorem idx8 : ∀ t : Fin cfg0.N, win0_8.index t = ![0, 0] := by decide +kernel

theorem lt96 (t : Fin cfg0.N) : t.val < 96 := lt_of_lt_of_eq t.isLt N_0

/-- Row `r` of point `t`'s row block, among all rows. -/
abbrev row (t : Fin cfg0.N) (r : Fin 1024) : Fin 8192 := ⟨t.val / 12 * 1024 + r.val, by have := lt96 t; omega⟩
/-- Column `k` of point `t`'s column block, among all columns. -/
abbrev col (t : Fin cfg0.N) (k : Fin 768) : Fin 9216 := ⟨t.val % 12 * 768 + k.val, by omega⟩

/-- The four pieces of the projection's gradient side by side. -/
abbrev dproj (c : Dev nD) : (⟨2, ![8192, 9216]⟩ : Shape).Idx → EReal :=
  Cert.ReferenceIdeal.Read.val_main_v3 (F := Ideal) (arg m c main_arg0) (arg m c main_arg1) (arg m c main_arg2) (arg m c main_arg3)

/-- The weight, its column blocks side by side. -/
abbrev wide (c : Dev nD) : (⟨2, ![1024, 9216]⟩ : Shape).Idx → EReal :=
  Cert.ReferenceIdeal.Read.val_main_v2 (F := Ideal) (arg m c main_arg4)

theorem part_apply (c : Dev nD) (t : Fin cfg0.N) (r : Fin 1024) (k : Fin 768) :
    part m c t (ix2 r k) = dproj m c (ix2 (row t r) (col t k)) := by
  have ht := lt96 t
  unfold dproj part Cert.ReferenceIdeal.Read.val_main_v3
  pointwise
  by_cases k1 : t.val % 12 ≤ 1
  · rw [if_pos k1, dif_pos (by omega)]
    blk_ext [iblk, V, idx0 t k1]
  by_cases k3 : t.val % 12 ≤ 3
  · rw [if_neg k1, if_pos k3, dif_neg (by omega), dif_pos (by omega)]
    blk_ext [iblk, V, idx1 t k1 k3]
  by_cases k5 : t.val % 12 ≤ 5
  · rw [if_neg k1, if_neg k3, if_pos k5, dif_neg (by omega), dif_neg (by omega), dif_pos (by omega)]
    blk_ext [iblk, V, idx2 t k3 k5]
  · rw [if_neg k1, if_neg k3, if_neg k5, dif_neg (by omega), dif_neg (by omega), dif_neg (by omega)]
    blk_ext [iblk, V, idx3 t k5]

theorem w_apply (c : Dev nD) (t : Fin cfg0.N) (l : Fin 1024) (k : Fin 768) :
    (iblk m c 4 t : Vec Ideal S1x1024x768 .bf16) (ix3 0 l k) = wide m c (ix2 l (col t k)) := by
  have ht := lt96 t
  unfold wide
  rw [Cert.ReferenceIdeal.Read.val_main_v2_apply, Cert.ReferenceIdeal.Read.val_main_v1_apply,
    Cert.ReferenceIdeal.Read.val_main_v0_apply]
  blk_ext [iblk, V, idx4 t]

theorem x_apply (c : Dev nD) (t : Fin cfg0.N) (r l : Fin 1024) :
    (iblk m c 5 t : Vec Ideal S1024x1024 .f32) (ix2 r l) = arg m c main_arg5 (ix2 (row t r) l) := by
  blk_ext [iblk, V, idx5 t]

theorem dxo_apply (c : Dev nD) (t : Fin cfg0.N) (r l : Fin 1024) :
    (iblk m c 6 t : Vec Ideal S1024x1024 .f32) (ix2 r l) = arg m c main_arg6 (ix2 (row t r) l) := by
  blk_ext [iblk, V, idx6 t]

theorem g_apply (c : Dev nD) (t : Fin cfg0.N) (l : Fin 1024) :
    (iblk m c 7 t : Vec Ideal S1x1024 .f32) (ix2 0 l) = arg m c main_arg7 (ix2 0 l) := by
  blk_ext [iblk, V, idx7 t]

theorem s_apply (c : Dev nD) (t : Fin cfg0.N) (l : Fin 1024) :
    (iblk m c 8 t : Vec Ideal S1x1024 .f32) (ix2 0 l) = arg m c main_arg8 (ix2 0 l) := by
  blk_ext [iblk, V, idx8 t]

end Cert.KernelIdeal.Dx
-- ==== Proof.DxOut.lean ====
/-
  What a grid point leaves in the four results: the finishing points (the last column block of a row block) add that row
  block's part of the three parameter gradients and write the input's gradient, and the other points leave the parameter
  gradients alone.
-/
module

public import proofs.«01_k».proof.Proof.DxState

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The three parameter gradients after point `n`: of the shift, of the scale, of the norm's gain. -/
abbrev grads (c : Dev nD) (n : ℕ) (h : n < cfg0.N) :
    Vec Ideal S1x1024 .f32 × Vec Ideal S1x1024 .f32 × Vec Ideal S1x1024 .f32 :=
  ((outsAt0 m c n h).2.1, (outsAt0 m c n h).2.2.1, (outsAt0 m c n h).2.2.2.1)

theorem grads_reset (c : Dev nD) (t : Fin cfg0.N) (h1 : t.val % 96 = 0) :
    grads m c t.val t.isLt = (k0_pay9 (F := Ideal), k0_pay10 (F := Ideal), k0_pay11 (F := Ideal)) := by
  have h0 : t.val % 12 = 0 := by omega
  unfold grads
  rw [outsAt0_A m c t h0 h1 (by omega) (by omega) (by omega) (by omega) (by omega)]
  refine Prod.ext ?_ (Prod.ext ?_ ?_) <;> frame_out

theorem grads_hold (c : Dev nD) (t : Fin cfg0.N) (h1 : ¬t.val % 96 = 0) (h11 : ¬t.val % 12 = 11) :
    grads m c t.val t.isLt = grads m c (t.val - 1) (Nat.lt_of_le_of_lt (Nat.sub_le _ _) t.isLt) := by
  unfold grads
  by_cases h0 : t.val % 12 = 0
  · rw [outsAt0_G m c t h0 h1 (by omega) (by omega) (by omega) (by omega) (by omega)]; rfl
  by_cases k1 : t.val % 12 ≤ 1
  · rw [outsAt0_B m c t h0 h1 k1 (by omega) (by omega) (by omega) (by omega)]; rfl
  by_cases k3 : t.val % 12 ≤ 3
  · rw [outsAt0_C m c t h0 h1 k1 (by omega) (by omega) (by omega) (by omega)]; rfl
  by_cases k5 : t.val % 12 ≤ 5
  · rw [outsAt0_D m c t h0 h1 k1 (by omega) (by omega) (by omega) (by omega)]; rfl
  · rw [outsAt0_E m c t h0 h1 k1 (by omega) (by omega) (by omega) h11]; rfl

theorem grads_finish (c : Dev nD) (t : Fin cfg0.N) (h11 : t.val % 12 = 11) :
    grads m c t.val t.isLt
      = (k0_pay5 (accAfter m c t.val t.isLt) (grads m c (t.val - 1) (Nat.lt_of_le_of_lt (Nat.sub_le _ _) t.isLt)).1,
         k0_pay6 (accAfter m c t.val t.isLt) (iblk m c 5 t)
           (grads m c (t.val - 1) (Nat.lt_of_le_of_lt (Nat.sub_le _ _) t.isLt)).2.1 (iblk m c 7 t),
         k0_pay7 (accAfter m c t.val t.isLt) (iblk m c 5 t) (iblk m c 8 t)
           (grads m c (t.val - 1) (Nat.lt_of_le_of_lt (Nat.sub_le _ _) t.isLt)).2.2) := by
  have h0 : ¬t.val % 12 = 0 := by omega
  have h1 : ¬t.val % 96 = 0 := by omega
  rw [acc_step m c t h0]
  unfold grads
  rw [outsAt0_F m c t h0 h1 (by omega) (by omega) (by omega) (by omega) h11,
    show part m c t = iblk m c 3 t from (if_neg (by omega)).trans ((if_neg (by omega)).trans (if_neg (by omega)))]
  refine Prod.ext ?_ (Prod.ext ?_ ?_) <;> frame_out <;> simp only [read_unread_whole] <;> rfl

theorem dx_finish (c : Dev nD) (t : Fin cfg0.N) (h11 : t.val % 12 = 11) :
    (outsAt0 m c t.val t.isLt).1
      = k0_pay16 (accAfter m c t.val t.isLt) (k0_pay1 (iblk m c 5 t)) (k0_pay2 (iblk m c 5 t)) (k0_pay3 (iblk m c 8 t))
          (iblk m c 7 t) (iblk m c 6 t) := by
  have h0 : ¬t.val % 12 = 0 := by omega
  have h1 : ¬t.val % 96 = 0 := by omega
  rw [acc_step m c t h0,
    outsAt0_F m c t h0 h1 (by omega) (by omega) (by omega) (by omega) h11,
    show part m c t = iblk m c 3 t from (if_neg (by omega)).trans ((if_neg (by omega)).trans (if_neg (by omega)))]
  frame_out
  simp only [read_unread_whole]
  rfl

end Cert.KernelIdeal.Dx
-- ==== Proof.DxMath.lean ====
module

public import Idealize.ShloMosaic.PureOps.Ideal.Laws
public import Idealize.ShloMosaic.Lib.IdealHost
public import Mathlib.Data.EReal.Inv

/-! # The arithmetic of one row of the gradient

A row of the input is normalised by the reciprocal root of its mean square plus a guard.  Here are the facts about that
row over the extended reals: either every entry is a real number and the mean square plus the guard is a positive real,
or some entry is infinite, the mean square is infinite and the normalised row is zero. -/

@[expose] public section

noncomputable section

namespace Cert.KernelIdeal.Dx

open Idealize.ShloMosaic

/-- The row's length, the format's 1024. -/
theorem ofBits_1024 : Ideal.ofBits .f32 0x44800000#32 = ((1024 : ℝ) : EReal) := by
  simp [Ideal.ofBits, Ideal.ieee, -EReal.coe_mul]; norm_num

/-- The reference's factor from differentiating the reciprocal root. -/
theorem ofBits_neg_half : Ideal.ofBits .f32 0xBF000000#32 = ((-(1/2) : ℝ) : EReal) := by
  simp [Ideal.ofBits, Ideal.ieee, -EReal.coe_mul]; norm_num

/-- The guard added to the mean square is a positive real number. -/
theorem ofBits_guard : ∃ e : ℝ, 0 < e ∧ Ideal.ofBits .f32 0x358637BD#32 = (e : EReal) := by
  refine ⟨_, ?_, by simp [Ideal.ofBits, Ideal.ieee, -EReal.coe_mul]; rfl⟩
  norm_num

/-- A finite sum of real numbers is the same real number among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The guarded mean square of a row. -/
def guarded (x : Fin 1024 → EReal) : EReal :=
  Ideal.div (∑ l, x l * x l) (Ideal.ofBits .f32 0x44800000#32) + Ideal.ofBits .f32 0x358637BD#32

/-- Every row is real with a positive guarded mean square, or has an infinite one. -/
theorem guarded_cases (x : Fin 1024 → EReal) :
    (∃ (y : Fin 1024 → ℝ) (m : ℝ), (∀ l, x l = (y l : EReal)) ∧ 0 < m ∧ guarded x = (m : EReal)) ∨ guarded x = ⊤ := by
  obtain ⟨e, he, hg⟩ := ofBits_guard
  by_cases h : ∃ l, x l = ⊤ ∨ x l = ⊥
  · right
    obtain ⟨l, hl⟩ := h
    have hs : x l * x l = ⊤ := by rcases hl with h | h <;> rw [h] <;> simp
    have hnn : ∀ l, 0 ≤ x l * x l := fun l => by
      induction x l using EReal.rec with
      | bot => simp
      | top => simp
      | coe r => exact_mod_cast mul_self_nonneg r
    have hsum : (∑ l, x l * x l) = ⊤ := by
      rw [eq_top_iff, ← hs]
      exact Finset.single_le_sum (f := fun l => x l * x l) (fun i _ => hnn i) (Finset.mem_univ l)
    rw [guarded, hsum, ofBits_1024, Ideal.div_coe (by norm_num), hg, EReal.top_mul_coe_of_pos (by norm_num),
      EReal.top_add_coe]
  · left
    push Not at h
    refine ⟨fun l => (x l).toReal, (∑ l, (x l).toReal * (x l).toReal) * (1 / 1024) + e,
      fun l => (EReal.coe_toReal (h l).1 (h l).2).symm, ?_, ?_⟩
    · have : 0 ≤ ∑ l, (x l).toReal * (x l).toReal := Finset.sum_nonneg fun i _ => mul_self_nonneg _
      positivity
    · have hs : (∑ l, x l * x l) = ((∑ l, (x l).toReal * (x l).toReal : ℝ) : EReal) := by
        rw [coe_sum]
        refine Finset.sum_congr rfl fun l _ => ?_
        rw [EReal.coe_mul, EReal.coe_toReal (h l).1 (h l).2]
      rw [guarded, hs, ofBits_1024, Ideal.div_coe (by norm_num), hg, EReal.coe_add, EReal.coe_mul]

/-- The normalised row is real whatever the row is. -/
theorem normed_real (x : Fin 1024 → EReal) :
    ∃ y : Fin 1024 → ℝ, ∀ l, x l * Ideal.rsqrt (guarded x) = (y l : EReal) := by
  rcases guarded_cases x with ⟨y, m, hx, hm, hg⟩ | hg
  · refine ⟨fun l => y l * (√m)⁻¹, fun l => ?_⟩
    rw [hg, Ideal.rsqrt_coe, if_neg (not_lt.2 hm.le), if_neg hm.ne', hx, EReal.coe_mul]
  · exact ⟨fun _ => 0, fun l => by rw [hg, Ideal.rsqrt_top, mul_zero]; rfl⟩

/-- One entry of the row's gradient: the kernel's form against the form of the differentiated reference. -/
theorem row_grad (x : Fin 1024 → EReal) (d a b : Fin 1024 → ℝ) (o : EReal) (j : Fin 1024) :
    o + Ideal.rsqrt (guarded x) * ((d j : EReal) * ((b j : EReal) * (a j : EReal))
        - x j * Ideal.rsqrt (guarded x) * Ideal.div (∑ l, (d l : EReal) * ((b l : EReal) * (a l : EReal))
            * (x l * Ideal.rsqrt (guarded x))) (Ideal.ofBits .f32 0x44800000#32))
      = ((o + (d j : EReal) * (a j : EReal) * (b j : EReal) * Ideal.rsqrt (guarded x))
          + x j * Ideal.div ((∑ l, x l * ((d l : EReal) * (a l : EReal) * (b l : EReal)))
              * (Ideal.ofBits .f32 0xBF000000#32 * Ideal.div (Ideal.rsqrt (guarded x)) (guarded x)))
            (Ideal.ofBits .f32 0x44800000#32))
          + Ideal.div ((∑ l, x l * ((d l : EReal) * (a l : EReal) * (b l : EReal)))
              * (Ideal.ofBits .f32 0xBF000000#32 * Ideal.div (Ideal.rsqrt (guarded x)) (guarded x)))
            (Ideal.ofBits .f32 0x44800000#32) * x j := by
  rw [ofBits_1024, ofBits_neg_half, Ideal.div_coe (by norm_num), Ideal.div_coe (by norm_num)]
  rcases guarded_cases x with ⟨y, m, hx, hm, hg⟩ | hg
  · have hs : 0 < √m := Real.sqrt_pos.2 hm
    have hms : m = √m * √m := (Real.mul_self_sqrt hm.le).symm
    rw [hg, Ideal.rsqrt_coe, if_neg (not_lt.2 hm.le), if_neg hm.ne', Ideal.div_coe hm.ne']
    simp only [hx, ← EReal.coe_mul, ← coe_sum, ← EReal.coe_sub]
    rw [add_assoc, add_assoc, ← EReal.coe_add, ← EReal.coe_add]
    congr 2
    have e1 : ∑ l, d l * (b l * a l) * (y l * (√m)⁻¹) = (∑ l, y l * (d l * a l * b l)) * (√m)⁻¹ := by
      rw [Finset.sum_mul]; exact Finset.sum_congr rfl fun l _ => by ring
    rw [e1]
    generalize ∑ l, y l * (d l * a l * b l) = S
    generalize √m = s at *
    subst hms
    field_simp
    ring
  · have e : Ideal.div (0 : EReal) ⊤ = 0 := by simp [Ideal.div]
    rw [hg, Ideal.rsqrt_top, e]
    simp

end Cert.KernelIdeal.Dx
-- ==== Proof.DxRead.lean ====
/-
  The reference's results and the kernel's blocks of arithmetic, read at one index.
-/
module

public import proofs.«01_k».proof.Proof.DxBlocks
public import proofs.«01_k».proof.Proof.DxOut
public import proofs.«01_k».proof.Proof.DxMath

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

open Cert.ReferenceIdeal.Read

variable (x0 x1 x2 : (⟨Cert.ReferenceIdeal.S8192x1536, .bf16⟩ : BufTy).Contents (Elt Ideal))
  (x3 : (⟨Cert.ReferenceIdeal.S8192x4608, .bf16⟩ : BufTy).Contents (Elt Ideal))
  (x4 : (⟨Cert.ReferenceIdeal.S4x1024x2304, .bf16⟩ : BufTy).Contents (Elt Ideal))
  (x5 x6 : (⟨Cert.ReferenceIdeal.S8192x1024, .f32⟩ : BufTy).Contents (Elt Ideal))
  (x7 x8 : (⟨Cert.ReferenceIdeal.S1x1024, .f32⟩ : BufTy).Contents (Elt Ideal))

/-- Row `i` of the input. -/
abbrev xrow (x : (⟨Cert.ReferenceIdeal.S8192x1024, .f32⟩ : BufTy).Contents (Elt Ideal)) (i : Fin 8192) : Fin 1024 → EReal := fun l => x (ix2 i l)

/-- The gradient at the projection's input. -/
abbrev dh (i : Fin 8192) (l : Fin 1024) : EReal := val_main_v28 (F := Ideal) x0 x1 x2 x3 x4 (ix2 i l)

theorem ref_dh (i : Fin 8192) (l : Fin 1024) :
    dh x0 x1 x2 x3 x4 i l
      = ∑ k : Fin 9216, val_main_v3 (F := Ideal) x0 x1 x2 x3 (ix2 i k) * val_main_v2 (F := Ideal) x4 (ix2 l k) := by
  unfold dh
  pointwise [val_main_v28, val_main_v4]

theorem ref_shift (l : Fin 1024) :
    val_main_v30 (F := Ideal) x0 x1 x2 x3 x4 (ix2 0 l) = ∑ i : Fin 8192, dh x0 x1 x2 x3 x4 i l := by
  pointwise [val_main_v30, val_main_v29, val_main_cst_5]

theorem ref_scale (l : Fin 1024) :
    val_main_v33 (F := Ideal) x0 x1 x2 x3 x4 x5 x7 (ix2 0 l)
      = ∑ i : Fin 8192, x5 (ix2 i l) * Ideal.rsqrt (guarded (xrow x5 i)) * x7 (ix2 0 l) * dh x0 x1 x2 x3 x4 i l := by
  pointwise [val_main_v33, val_main_v32, val_main_v31, val_main_v20, val_main_v19, val_main_cst_6, val_main_v18, val_main_v17, val_main_v13, val_main_v12, val_main_v11, val_main_v10, val_main_v9, val_main_v8, val_main_v7, val_main_v6, val_main_cst_2, val_main_cst_1, val_main_cst_0]
  rfl

theorem ref_gain (l : Fin 1024) :
    val_main_v38 (F := Ideal) x0 x1 x2 x3 x4 x5 x8 (ix2 0 l)
      = ∑ i : Fin 8192, x5 (ix2 i l) * Ideal.rsqrt (guarded (xrow x5 i)) * (dh x0 x1 x2 x3 x4 i l * (1 + x8 (ix2 0 l))) := by
  pointwise [val_main_v38, val_main_v37, val_main_v36, val_main_v35, val_main_v34, val_main_v22, val_main_v21, val_main_cst_7, val_main_cst_4, val_main_v18, val_main_v17, val_main_v13, val_main_v12, val_main_v11, val_main_v10, val_main_v9, val_main_v8, val_main_v7, val_main_v6, val_main_cst_2, val_main_cst_1, val_main_cst_0]
  rfl

theorem ref_dx (i : Fin 8192) (l : Fin 1024) :
    val_main_v55 (F := Ideal) x0 x1 x2 x3 x4 x5 x6 x7 x8 (ix2 i l)
      = ((x6 (ix2 i l) + dh x0 x1 x2 x3 x4 i l * (1 + x8 (ix2 0 l)) * x7 (ix2 0 l) * Ideal.rsqrt (guarded (xrow x5 i)))
          + xrow x5 i l * Ideal.div ((∑ j, xrow x5 i j * (dh x0 x1 x2 x3 x4 i j * (1 + x8 (ix2 0 j)) * x7 (ix2 0 j)))
              * (Ideal.ofBits .f32 0xBF000000#32 * Ideal.div (Ideal.rsqrt (guarded (xrow x5 i))) (guarded (xrow x5 i))))
            (Ideal.ofBits .f32 0x44800000#32))
          + Ideal.div ((∑ j, xrow x5 i j * (dh x0 x1 x2 x3 x4 i j * (1 + x8 (ix2 0 j)) * x7 (ix2 0 j)))
              * (Ideal.ofBits .f32 0xBF000000#32 * Ideal.div (Ideal.rsqrt (guarded (xrow x5 i))) (guarded (xrow x5 i))))
            (Ideal.ofBits .f32 0x44800000#32) * xrow x5 i l := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v35, val_main_v34, val_main_v22, val_main_v21, val_main_v16, val_main_v15, val_main_v14, val_main_cst_3, val_main_cst_8, val_main_cst_9, val_main_cst_10, val_main_cst_4, val_main_v18, val_main_v17, val_main_v13, val_main_v12, val_main_v11, val_main_v10, val_main_v9, val_main_v8, val_main_v7, val_main_v6, val_main_cst_2, val_main_cst_1, val_main_cst_0]
  simp only [Fin.sum_univ_one]
  rfl

theorem pay12_apply (acc : Vec Ideal S1024x1024 .f32) (p : Vec Ideal S1024x768 .bf16) (w : Vec Ideal S1x1024x768 .bf16) (r l : Fin 1024) :
    k0_pay12 acc p w (ix2 r l) = acc (ix2 r l) + ∑ k : Fin 768, p (ix2 r k) * w (ix3 0 l k) := by
  pointwise [k0_pay12]

theorem pay5_apply (v : Vec Ideal S1024x1024 .f32) (a : Vec Ideal S1x1024 .f32) (l : Fin 1024) :
    k0_pay5 v a (ix2 0 l) = a (ix2 0 l) + ∑ r : Fin 1024, v (ix2 r l) := by
  pointwise [k0_pay5]

theorem pay6_apply (v x : Vec Ideal S1024x1024 .f32) (a g : Vec Ideal S1x1024 .f32) (l : Fin 1024) :
    k0_pay6 v x a g (ix2 0 l) = a (ix2 0 l)
      + (∑ r : Fin 1024, v (ix2 r l) * (x (ix2 r l) * Ideal.rsqrt (guarded fun k => x (ix2 r k)))) * g (ix2 0 l) := by
  pointwise [k0_pay6, k0_pay4, k0_pay2, k0_pay1]
  rfl

theorem pay7_apply (v x : Vec Ideal S1024x1024 .f32) (a s : Vec Ideal S1x1024 .f32) (l : Fin 1024) :
    k0_pay7 v x s a (ix2 0 l) = a (ix2 0 l)
      + (∑ r : Fin 1024, v (ix2 r l) * (x (ix2 r l) * Ideal.rsqrt (guarded fun k => x (ix2 r k)))) * (1 + s (ix2 0 l)) := by
  pointwise [k0_pay7, k0_pay4, k0_pay2, k0_pay1, k0_pay3]
  rfl

theorem pay16_apply (v x o : Vec Ideal S1024x1024 .f32) (s g : Vec Ideal S1x1024 .f32) (r l : Fin 1024) :
    k0_pay16 v (k0_pay1 x) (k0_pay2 x) (k0_pay3 s) g o (ix2 r l)
      = o (ix2 r l) + Ideal.rsqrt (guarded fun k => x (ix2 r k)) * (v (ix2 r l) * (g (ix2 0 l) * (1 + s (ix2 0 l)))
          - x (ix2 r l) * Ideal.rsqrt (guarded fun k => x (ix2 r k))
            * Ideal.div (∑ k, v (ix2 r k) * (g (ix2 0 k) * (1 + s (ix2 0 k))) * (x (ix2 r k) * Ideal.rsqrt (guarded fun k => x (ix2 r k))))
              (Ideal.ofBits .f32 0x44800000#32)) := by
  pointwise [k0_pay16, k0_pay1, k0_pay2, k0_pay3]
  rfl

theorem pay8_apply (r l : Fin 1024) : k0_pay8 (F := Ideal) (ix2 r l) = 0 := by pointwise [k0_pay8]
theorem pay9_apply (l : Fin 1024) : k0_pay9 (F := Ideal) (ix2 0 l) = 0 := by pointwise [k0_pay9]
theorem pay10_apply (l : Fin 1024) : k0_pay10 (F := Ideal) (ix2 0 l) = 0 := by pointwise [k0_pay10]
theorem pay11_apply (l : Fin 1024) : k0_pay11 (F := Ideal) (ix2 0 l) = 0 := by pointwise [k0_pay11]

end Cert.KernelIdeal.Dx
-- ==== Proof.DxPre.lean ====
/-
  The precondition, read: the four pieces of the projection's gradient, the weight, the norm's gain and the scale are real
  numbers.
-/
module

public import proofs.«01_k».proof.Pre_finite
public import Idealize.ShloMosaic.Lib.ReduceAll
public import Idealize.ShloMosaic.Lib.Affine
public import Idealize.ShloMosaic.Lib.Pointwise

@[expose] public section

set_option maxRecDepth 16384

noncomputable section

namespace Cert.Pre_finite

open Idealize.ShloMosaic

instance facts : Facts where
  bitsLt_bf16_f32 := by decide
  bcast_S_S8192x1536 := by decide
  reducesTo_S8192x1536_S_d0_1 := by decide
  h_S_ := by decide
  bcast_S_S8192x4608 := by decide
  reducesTo_S8192x4608_S_d0_1 := by decide
  bcast_S_S4x1024x2304 := by decide
  reducesTo_S4x1024x2304_S_d0_1_2 := by decide
  bcast_S_S1x1024 := by decide
  reducesTo_S1x1024_S_d0_1 := by decide

/-- The format's infinity is the top of the extended reals. -/
theorem ofBits_inf : Ideal.ofBits .f32 0x7F800000#32 = (⊤ : EReal) := by
  simp [Ideal.ofBits, Ideal.ieee]

/-- An extended real whose size is below the top is a real number. -/
theorem real_of_lt (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have h' : max a (-a) < (⊤ : EReal) := by
    have := (Ideal.cmp_olt_eq_one _ _).1 h
    rwa [show FloatOps.ofBits (F := Ideal) .f32 0x7F800000#32 = (⊤ : EReal) from ofBits_inf] at this
  have h1 : a ≠ ⊤ := fun e => by rw [e] at h'; simp at h'
  have h2 : a ≠ ⊥ := fun e => by rw [e] at h'; simp at h'
  exact ⟨a.toReal, (EReal.coe_toReal h1 h2).symm⟩

/-- Every element of an array is a real number. -/
abbrev Reals {s : Shape} (x : s.Idx → EReal) : Prop := ∀ i, ∃ r : ℝ, x i = (r : EReal)

theorem both {s : Shape} (x y : IVec s 1) (j : s.Idx) (h : andi x y j = 1#1) : x j = 1#1 ∧ y j = 1#1 := by
  have h' : IntOp.andi (x j) (y j) = 1#1 := h
  generalize x j = a at h' ⊢
  generalize y j = b at h' ⊢
  revert a b
  decide

/-- What the precondition says of the arguments it reads. -/
theorem reals (x0 x1 x2 : FVec Ideal S8192x1536 .bf16) (x3 : FVec Ideal S8192x4608 .bf16) (x4 : FVec Ideal S4x1024x2304 .bf16)
    (x5 x6 : FVec Ideal S8192x1024 .f32) (x7 x8 : FVec Ideal S1x1024 .f32)
    (h : fn (F := Ideal) x0 x1 x2 x3 x4 x5 x6 x7 x8 = fun _ => 1#1) :
    Reals x0 ∧ Reals x1 ∧ Reals x2 ∧ Reals x3 ∧ Reals x4 ∧ Reals x7 ∧ Reals x8 := by
  have e := congrFun h (fun a => a.elim0)
  simp only [fn, fn_part1, fn_part2] at e
  obtain ⟨e, e8⟩ := both _ _ _ e
  obtain ⟨e, e7⟩ := both _ _ _ e
  obtain ⟨e, e4⟩ := both _ _ _ e
  obtain ⟨e, e3⟩ := both _ _ _ e
  obtain ⟨e, e2⟩ := both _ _ _ e
  obtain ⟨e0, e1⟩ := both _ _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i), fun i => real_of_lt _ (Host.reduce_andi_all _ _ _ _ _ e7 i),
    fun i => real_of_lt _ (Host.reduce_andi_all _ _ _ _ _ e8 i)⟩

end Cert.Pre_finite
-- ==== Proof.DxReal.lean ====
/-
  What the precondition says of the quantities the gradient is made of: the gradient at the projection's input, the norm's
  gain and one plus the scale are real numbers, and so is every row of the input once it is normed.
-/
module

public import proofs.«01_k».proof.Proof.DxRead
public import proofs.«01_k».proof.Proof.DxPre

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

open Cert.ReferenceIdeal.Read

variable (x0 x1 x2 : (⟨Cert.ReferenceIdeal.S8192x1536, .bf16⟩ : BufTy).Contents (Elt Ideal))
  (x3 : (⟨Cert.ReferenceIdeal.S8192x4608, .bf16⟩ : BufTy).Contents (Elt Ideal))
  (x4 : (⟨Cert.ReferenceIdeal.S4x1024x2304, .bf16⟩ : BufTy).Contents (Elt Ideal))
  (x5 x6 : (⟨Cert.ReferenceIdeal.S8192x1024, .f32⟩ : BufTy).Contents (Elt Ideal))
  (x7 x8 : (⟨Cert.ReferenceIdeal.S1x1024, .f32⟩ : BufTy).Contents (Elt Ideal))

/-- What the precondition gives: the gradient at the projection's input, the gain and the scale are real numbers. -/
structure RealArgs (d : Fin 8192 → Fin 1024 → ℝ) (a b : Fin 1024 → ℝ) : Prop where
  dh_real : ∀ i l, dh x0 x1 x2 x3 x4 i l = (d i l : EReal)
  scale_real : ∀ l, 1 + (x8 (ix2 0 l) : EReal) = (a l : EReal)
  gain_real : ∀ l, (x7 (ix2 0 l) : EReal) = (b l : EReal)

theorem dproj_real (h0 : Cert.Pre_finite.Reals x0) (h1 : Cert.Pre_finite.Reals x1) (h2 : Cert.Pre_finite.Reals x2)
    (h3 : Cert.Pre_finite.Reals x3) (i : Fin 8192) (k : Fin 9216) :
    ∃ r : ℝ, (val_main_v3 (F := Ideal) x0 x1 x2 x3 (ix2 i k) : EReal) = (r : EReal) := by
  unfold val_main_v3
  pointwise
  split_ifs <;> first | exact h0 _ | exact h1 _ | exact h2 _ | exact h3 _

theorem wide_real (h4 : Cert.Pre_finite.Reals x4) (l : Fin 1024) (k : Fin 9216) :
    ∃ r : ℝ, (val_main_v2 (F := Ideal) x4 (ix2 l k) : EReal) = (r : EReal) := by
  rw [val_main_v2_apply, val_main_v1_apply, val_main_v0_apply]
  exact h4 _

theorem real_args (h : Cert.Pre_finite.fn (F := Ideal) x0 x1 x2 x3 x4 x5 x6 x7 x8 = fun _ => 1#1) :
    ∃ d a b, RealArgs x0 x1 x2 x3 x4 x7 x8 d a b := by
  obtain ⟨h0, h1, h2, h3, h4, h7, h8⟩ := Cert.Pre_finite.reals _ _ _ _ _ _ _ _ _ h
  choose p hp using dproj_real x0 x1 x2 x3 h0 h1 h2 h3
  choose w hw using wide_real x4 h4
  choose b hb using fun l : Fin 1024 => h7 (ix2 0 l)
  choose s hs using fun l : Fin 1024 => h8 (ix2 0 l)
  refine ⟨fun i l => ∑ k, p i k * w l k, fun l => 1 + s l, b, fun i l => ?_, fun l => ?_, hb⟩
  · rw [ref_dh, coe_sum]
    refine Finset.sum_congr rfl fun k _ => ?_
    rw [EReal.coe_mul]
    exact congrArg₂ (· * ·) (hp i k) (hw l k)
  · rw [EReal.coe_add]; exact congrArg (1 + ·) (hs l)

theorem normed_at (x : Fin 1024 → EReal) (l : Fin 1024) : ∃ y : ℝ, x l * Ideal.rsqrt (guarded x) = y := by
  obtain ⟨y, hy⟩ := normed_real x
  exact ⟨y l, hy l⟩

/-- A row's normed entries, each multiplied by a real, summed and then multiplied by a real: the factor may go inside. -/
theorem sum_mul_real (u v : Fin 1024 → EReal) (b : EReal) (hu : ∀ r, ∃ y : ℝ, u r = y) (hv : ∀ r, ∃ y : ℝ, v r = y)
    (hb : ∃ y : ℝ, b = y) : (∑ r, u r * v r) * b = ∑ r, v r * (u r * b) := by
  choose y hy using hu
  choose z hz using hv
  obtain ⟨w, rfl⟩ := hb
  simp only [hy, hz, ← EReal.coe_mul, ← coe_sum]
  refine congrArg _ ?_
  rw [Finset.sum_mul]
  exact Finset.sum_congr rfl fun r _ => by ring

end Cert.KernelIdeal.Dx
-- ==== Proof.DxSum.lean ====
/-
  The four results of the kernel are the reference's: the accumulator at a row block's last column block is the gradient at
  the projection's input, the parameter gradients are sums of the rows' parts, and each row's gradient is the one of the
  row's arithmetic.
-/
module

public import proofs.«01_k».proof.Proof.DxRead
public import proofs.«01_k».proof.Proof.DxReal

@[expose] public section

set_option maxRecDepth 16384

noncomputable section

namespace Cert.KernelIdeal.Dx

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient at the projection's input, from device `c`'s arguments. -/
abbrev dhm (i : Fin 8192) (l : Fin 1024) : EReal :=
  dh (arg m c main_arg0) (arg m c main_arg1) (arg m c main_arg2) (arg m c main_arg3) (arg m c main_arg4) i l

/-- What point `n` adds to the accumulator. -/
def accTerm (n : ℕ) (i : S1024x1024.Idx) : EReal :=
  if h : n < cfg0.N then ∑ k : Fin 768, dproj m c (ix2 (row ⟨n, h⟩ (i 0)) (col ⟨n, h⟩ k)) * wide m c (ix2 (i 1) (col ⟨n, h⟩ k)) else 0

theorem acc_reset_apply (t : Fin cfg0.N) (h0 : t.val % 12 = 0) (i : S1024x1024.Idx) :
    accAfter m c t.val t.isLt i = 0 + accTerm m c t.val i := by
  idx_vars i
  rw [acc_reset m c t h0, pay12_apply, pay8_apply, accTerm, dif_pos t.isLt]
  refine congrArg _ (Finset.sum_congr rfl fun k _ => ?_)
  rw [part_apply, w_apply]; rfl

theorem acc_step_apply (t : Fin cfg0.N) (h0 : ¬t.val % 12 = 0) (i : S1024x1024.Idx) :
    accAfter m c t.val t.isLt i
      = accAfter m c (t.val - 1) (Nat.lt_of_le_of_lt (Nat.sub_le _ _) t.isLt) i + accTerm m c t.val i := by
  idx_vars i
  rw [acc_step m c t h0, pay12_apply, accTerm, dif_pos t.isLt]
  refine congrArg _ (Finset.sum_congr rfl fun k _ => ?_)
  rw [part_apply, w_apply]; rfl

/-- The accumulator at a row block's last column block. -/
theorem acc_final (t : Fin cfg0.N) (h11 : t.val % 12 = 11) (r l : Fin 1024) :
    accAfter m c t.val t.isLt (ix2 r l) = dhm m c (row t r) l := by
  have ht := lt96 t
  rw [Pipeline.eq_sum_of_reset_step_apply_of_mod (fun n h => accAfter m c n h) 12 (fun _ => 0) (accTerm m c)
    (acc_reset_apply m c) (acc_step_apply m c) t h11 (ix2 r l), zero_add, Finset.sum_range, dhm, ref_dh,
    ← Fin.sum_mul_add_fin 12 768 (fun k : Fin 9216 => dproj m c (ix2 (row t r) k) * wide m c (ix2 l k)) rfl]
  refine Finset.sum_congr rfl fun s _ => ?_
  have hs := s.isLt
  have hN : 12 * (t.val / 12) + s.val < cfg0.N := lt_of_lt_of_eq (by omega) N_0.symm
  rw [accTerm, dif_pos hN]
  refine Finset.sum_congr rfl fun k _ => ?_
  have e1 : row ⟨12 * (t.val / 12) + s.val, hN⟩ r = row t r := Fin.ext (by
    show (12 * (t.val / 12) + s.val) / 12 * 1024 + r.val = t.val / 12 * 1024 + r.val; omega)
  have e2 : col ⟨12 * (t.val / 12) + s.val, hN⟩ k = ⟨s.val * 768 + k.val, by omega⟩ :=
    Fin.ext (by show (12 * (t.val / 12) + s.val) % 12 * 768 + k.val = s.val * 768 + k.val; omega)
  rw [show (ix2 r l : S1024x1024.Idx) 0 = r from rfl, show (ix2 r l : S1024x1024.Idx) 1 = l from rfl, e1, e2]

/-- A quantity cleared at the first point, left alone between row blocks and given each row block's part at its last
    column block ends as the sum of the rows' parts. -/
theorem sum_rows (f : (n : ℕ) → n < cfg0.N → Fin 1024 → EReal) (G : Fin 8192 → Fin 1024 → EReal)
    (h0 : ∀ t : Fin cfg0.N, t.val % 96 = 0 → ∀ l, f t.val t.isLt l = 0)
    (hold : ∀ t : Fin cfg0.N, ¬t.val % 96 = 0 → ¬t.val % 12 = 11 → ∀ l,
      f t.val t.isLt l = f (t.val - 1) (Nat.lt_of_le_of_lt (Nat.sub_le _ _) t.isLt) l)
    (fin : ∀ t : Fin cfg0.N, t.val % 12 = 11 → ∀ l,
      f t.val t.isLt l = f (t.val - 1) (Nat.lt_of_le_of_lt (Nat.sub_le _ _) t.isLt) l + ∑ r, G (row t r) l)
    (l : Fin 1024) (h : 95 < cfg0.N) : f 95 h l = ∑ i, G i l := by
  have e := Pipeline.eq_sum_of_reset_step_apply_single_of_mod f 96 (fun _ => 0)
    (fun n l => if hn : n < cfg0.N then (if n % 12 = 11 then ∑ r, G (row ⟨n, hn⟩ r) l else 0) else 0)
    (fun t ht l => by rw [h0 t ht l, dif_pos t.isLt, if_neg (by omega), add_zero])
    (fun t ht l => by
      rw [dif_pos t.isLt]
      by_cases h11 : t.val % 12 = 11
      · rw [if_pos h11, fin t h11 l]
      · rw [if_neg h11, add_zero, hold t ht h11 l])
    (le_of_eq N_0) ⟨95, h⟩ (r := 95) rfl l
  rw [show f 95 h l = _ from e, zero_add, show 95 + 1 = 8 * 12 from rfl, Finset.sum_range_mul_split, Finset.sum_range,
    ← Fin.sum_mul_add_fin 8 1024 (fun i : Fin 8192 => G i l) rfl]
  refine Finset.sum_congr rfl fun q _ => ?_
  have hq := q.isLt
  rw [Finset.sum_eq_single 11]
  · have hN : q.val * 12 + 11 < cfg0.N := lt_of_lt_of_eq (by omega) N_0.symm
    rw [dif_pos hN, if_pos (by omega)]
    refine Finset.sum_congr rfl fun r _ => ?_
    exact congrArg (G · l) (Fin.ext (by show (q.val * 12 + 11) / 12 * 1024 + r.val = q.val * 1024 + r.val; omega))
  · intro b hb hne
    have := Finset.mem_range.1 hb
    by_cases hN : q.val * 12 + b < cfg0.N
    · rw [dif_pos hN, if_neg (by omega)]
    · rw [dif_neg hN]
  · intro hb; exact absurd (Finset.mem_range.2 (by decide)) hb

end Cert.KernelIdeal.Dx
-- ==== Proof.DxFinal.lean ====
/-
  The kernel's four arrays are the reference's, wherever the precondition holds.
-/
module

public import proofs.«01_k».proof.Proof.DxSum
public import proofs.«01_k».proof.Proof.Gen.KernelIdeal.Value

@[expose] public section

set_option maxRecDepth 16384

noncomputable section

namespace Cert.KernelIdeal.Dx

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The input, the norm's gain and the scale, as arrays of extended reals. -/
abbrev xin : (⟨2, ![8192, 1024]⟩ : Shape).Idx → EReal := arg m c main_arg5
abbrev gin : (⟨2, ![1, 1024]⟩ : Shape).Idx → EReal := arg m c main_arg7
abbrev sin : (⟨2, ![1, 1024]⟩ : Shape).Idx → EReal := arg m c main_arg8

/-- The input, each row divided by its guarded root mean square. -/
abbrev normedm (i : Fin 8192) (l : Fin 1024) : EReal := xin m c (ix2 i l) * Ideal.rsqrt (guarded (xrow (xin m c) i))

theorem xrow_eq (t : Fin cfg0.N) (r : Fin 1024) :
    (fun k => (iblk m c 5 t : Vec Ideal S1024x1024 .f32) (ix2 r k)) = xrow (arg m c main_arg5) (row t r) :=
  funext fun k => x_apply m c t r k

theorem shift_carried (n : ℕ) (h : n < cfg0.N) (i : S1x1024.Idx) : (outsAt0 m c n h).2.1 i = (grads m c n h).1 i := rfl
theorem scale_carried (n : ℕ) (h : n < cfg0.N) (i : S1x1024.Idx) : (outsAt0 m c n h).2.2.1 i = (grads m c n h).2.1 i := rfl
theorem gain_carried (n : ℕ) (h : n < cfg0.N) (i : S1x1024.Idx) : (outsAt0 m c n h).2.2.2.1 i = (grads m c n h).2.2 i := rfl

theorem last_lt : 95 < cfg0.N := lt_of_lt_of_eq (by decide) N_0.symm

section

variable {d : Fin 8192 → Fin 1024 → ℝ} {a b : Fin 1024 → ℝ} (R : RealArgs (arg m c main_arg0) (arg m c main_arg1)
  (arg m c main_arg2) (arg m c main_arg3) (arg m c main_arg4) (arg m c main_arg7) (arg m c main_arg8) d a b)
include R

theorem shift_eq : G10 m c = Cert.ReferenceIdeal.Read.val_main_v30 (F := Ideal) (arg m c main_arg0) (arg m c main_arg1) (arg m c main_arg2)
    (arg m c main_arg3) (arg m c main_arg4) := by
  rw [G10_last, ← outsAt0_sweep m c 95 last_lt]
  funext i
  obtain ⟨z, l, rfl⟩ : ∃ (z : Fin 1) (l : Fin 1024), i = ix2 z l := ⟨i 0, i 1, (ix2_eta i).symm⟩
  obtain rfl : z = 0 := Subsingleton.elim _ _
  rw [ref_shift, shift_carried]
  refine Eq.trans ?_ (sum_rows (fun n h l => (grads m c n h).1 (ix2 0 l)) (dhm m c) (fun t ht l => ?_) (fun t ht h11 l => ?_) (fun t h11 l => ?_) l last_lt)
  · rfl
  · rw [grads_reset m c t ht]; exact pay9_apply l
  · rw [grads_hold m c t ht h11]
  · rw [grads_finish m c t h11]
    dsimp only
    rw [pay5_apply]
    exact congrArg _ (Finset.sum_congr rfl fun r _ => acc_final m c t h11 r l)

theorem scale_eq : G11 m c = Cert.ReferenceIdeal.Read.val_main_v33 (F := Ideal) (arg m c main_arg0) (arg m c main_arg1) (arg m c main_arg2)
    (arg m c main_arg3) (arg m c main_arg4) (arg m c main_arg5) (arg m c main_arg7) := by
  rw [G11_last, ← outsAt0_sweep m c 95 last_lt]
  funext i
  obtain ⟨z, l, rfl⟩ : ∃ (z : Fin 1) (l : Fin 1024), i = ix2 z l := ⟨i 0, i 1, (ix2_eta i).symm⟩
  obtain rfl : z = 0 := Subsingleton.elim _ _
  rw [ref_scale, scale_carried]
  refine Eq.trans ?_ (sum_rows (fun n h l => (grads m c n h).2.1 (ix2 0 l)) (fun i l => xin m c (ix2 i l)
    * Ideal.rsqrt (guarded (xrow (arg m c main_arg5) i)) * gin m c (ix2 0 l) * dhm m c i l)
    (fun t ht l => ?_) (fun t ht h11 l => ?_) (fun t h11 l => ?_) l last_lt)
  · rfl
  · rw [grads_reset m c t ht]; exact pay10_apply l
  · rw [grads_hold m c t ht h11]
  · rw [grads_finish m c t h11]
    dsimp only
    rw [pay6_apply]
    refine congrArg _ ?_
    simp only [xrow_eq, x_apply, g_apply, acc_final m c t h11]
    refine (sum_mul_real (fun r => dhm m c (row t r) l) (fun r => normedm m c (row t r) l) _ (fun r => ⟨_, R.dh_real _ _⟩)
      (fun r => normed_at (xrow (xin m c) (row t r)) l) ⟨_, R.gain_real l⟩).trans ?_
    refine Finset.sum_congr rfl fun r _ => ?_
    rw [mul_comm (dhm m c _ _), ← mul_assoc]

theorem gain_eq : G12 m c = Cert.ReferenceIdeal.Read.val_main_v38 (F := Ideal) (arg m c main_arg0) (arg m c main_arg1) (arg m c main_arg2)
    (arg m c main_arg3) (arg m c main_arg4) (arg m c main_arg5) (arg m c main_arg8) := by
  rw [G12_last, ← outsAt0_sweep m c 95 last_lt]
  funext i
  obtain ⟨z, l, rfl⟩ : ∃ (z : Fin 1) (l : Fin 1024), i = ix2 z l := ⟨i 0, i 1, (ix2_eta i).symm⟩
  obtain rfl : z = 0 := Subsingleton.elim _ _
  rw [ref_gain, gain_carried]
  refine Eq.trans ?_ (sum_rows (fun n h l => (grads m c n h).2.2 (ix2 0 l)) (fun i l => xin m c (ix2 i l)
    * Ideal.rsqrt (guarded (xrow (arg m c main_arg5) i)) * (dhm m c i l * (1 + sin m c (ix2 0 l))))
    (fun t ht l => ?_) (fun t ht h11 l => ?_) (fun t h11 l => ?_) l last_lt)
  · rfl
  · rw [grads_reset m c t ht]; exact pay11_apply l
  · rw [grads_hold m c t ht h11]
  · rw [grads_finish m c t h11]
    dsimp only
    rw [pay7_apply]
    refine congrArg _ ?_
    simp only [xrow_eq, x_apply, s_apply, acc_final m c t h11]
    exact sum_mul_real (fun r => dhm m c (row t r) l) (fun r => normedm m c (row t r) l) _ (fun r => ⟨_, R.dh_real _ _⟩)
      (fun r => normed_at (xrow (xin m c) (row t r)) l) ⟨_, R.scale_real l⟩

theorem dx_eq : G9 m c = Cert.ReferenceIdeal.Read.val_main_v55 (F := Ideal) (arg m c main_arg0) (arg m c main_arg1) (arg m c main_arg2)
    (arg m c main_arg3) (arg m c main_arg4) (arg m c main_arg5) (arg m c main_arg6) (arg m c main_arg7) (arg m c main_arg8) := by
  funext j
  obtain ⟨i, l, rfl⟩ : ∃ (i : Fin 8192) (l : Fin 1024), j = ix2 i l := ⟨j 0, j 1, (ix2_eta j).symm⟩
  have hi := i.isLt
  have hp : pt9Of (ix2 i l) = 12 * (i.val / 1024) + 11 := by
    show 12 * (1 * (i.val / 1024 - 0) + 1 * (l.val / 1024 - 0)) + 11 = _
    omega
  have hN : pt9Of (ix2 i l) < cfg0.N := lt_of_lt_of_eq (by rw [hp]; omega) N_0.symm
  have hl : loc9Of (ix2 i l) = ix2 ⟨i.val % 1024, Nat.mod_lt _ (by decide)⟩ l := by
    funext q
    match q with
    | ⟨0, _⟩ => rfl
    | ⟨1, _⟩ => exact Fin.ext (Nat.mod_eq_of_lt l.isLt)
  have h11 : (⟨pt9Of (ix2 i l), hN⟩ : Fin cfg0.N).val % 12 = 11 := by show pt9Of (ix2 i l) % 12 = 11; omega
  have hrow : row ⟨pt9Of (ix2 i l), hN⟩ ⟨i.val % 1024, Nat.mod_lt _ (by decide)⟩ = i :=
    Fin.ext (by show pt9Of (ix2 i l) / 12 * 1024 + i.val % 1024 = i.val; omega)
  rw [G9, dif_pos hN, ← outsAt0_sweep m c _ hN, hl, dx_finish m c ⟨_, hN⟩ h11, pay16_apply, ref_dx]
  simp only [xrow_eq, x_apply, g_apply, s_apply, dxo_apply, acc_final m c ⟨_, hN⟩ h11, hrow, R.scale_real, R.gain_real]
  have hd : ∀ l, dh (arg m c main_arg0) (arg m c main_arg1) (arg m c main_arg2) (arg m c main_arg3) (arg m c main_arg4) i l = (d i l : EReal) :=
    R.dh_real i
  simp only [hd]
  exact row_grad (xrow (arg m c main_arg5) i) (d i) a b _ l

end

end Cert.KernelIdeal.Dx
-- ==== Proof.DxHalves.lean ====
/-
  What the two halves' statements add: which rows of the first half's result are claimed, and the second half's
  precondition read as the first's.
-/
module

public import proofs.«01_k».proof.Proof.DxPre
public import proofs.«01_k».proof.Pre_finite9
public import proofs.«01_k».proof.On_written

@[expose] public section

set_option maxRecDepth 16384

noncomputable section

open Idealize.ShloMosaic

instance Cert.Pre_finite9.facts : Cert.Pre_finite9.Facts where
  bitsLt_bf16_f32 := by decide
  bcast_S_S8192x1536 := by decide
  reducesTo_S8192x1536_S_d0_1 := by decide
  h_S_ := by decide
  bcast_S_S8192x4608 := by decide
  reducesTo_S8192x4608_S_d0_1 := by decide
  bcast_S_S4x1024x2304 := by decide
  reducesTo_S4x1024x2304_S_d0_1_2 := by decide
  bcast_S_S1x1024 := by decide
  reducesTo_S1x1024_S_d0_1 := by decide

instance Cert.On_written.facts : Cert.On_written.Facts where
  bcast_S_S1x1024 := by decide
  bcast_S_S8192x1024 := by decide

namespace Cert.On_written

/-- The second half's precondition is the first half's: it asks nothing of the array the first half wrote. -/
theorem pre_same (x0 x1 x2 : FVec Ideal S8192x1536 .bf16) (x3 : FVec Ideal S8192x4608 .bf16) (x4 : FVec Ideal S4x1024x2304 .bf16)
    (x5 x6 x9 : FVec Ideal S8192x1024 .f32) (x7 x8 : FVec Ideal S1x1024 .f32) :
    Cert.Pre_finite9.fn (F := Ideal) x0 x1 x2 x3 x4 x5 x6 x7 x8 x9 = Cert.Pre_finite.fn (F := Ideal) x0 x1 x2 x3 x4 x5 x6 x7 x8 := rfl

/-- Of the input's gradient the first 4096 rows are claimed. -/
theorem rows_of_written (x0 x1 x2 : FVec Ideal S8192x1536 .bf16) (x3 : FVec Ideal S8192x4608 .bf16) (x4 : FVec Ideal S4x1024x2304 .bf16)
    (x5 x6 : FVec Ideal S8192x1024 .f32) (x7 x8 : FVec Ideal S1x1024 .f32) (i : S8192x1024.Idx)
    (h : (fn (F := Ideal) x0 x1 x2 x3 x4 x5 x6 x7 x8).1 i = 1#1) : (i 0).val < 4096 := by
  have h' : IntOp.cmpi .slt (BitVec.ofNat 32 (i 0).val) 4096#32 = 1#1 := h
  have hi : (i 0).val < 8192 := (i 0).isLt
  generalize (i 0).val = n at h' hi ⊢
  by_contra hn
  rw [show IntOp.cmpi .slt (BitVec.ofNat 32 n) 4096#32 = 0#1 from ?_] at h'
  · exact absurd h' (by decide)
  · have e : (BitVec.ofNat 32 n).slt 4096#32 = false := by
      have ha : (BitVec.ofNat 32 n).toInt = n := (BitVec.toInt_ofNat n).trans (Int.bmod_eq_of_le (by omega) (by omega))
      rw [BitVec.slt_eq_decide, ha, show (4096#32).toInt = 4096 from rfl, decide_eq_false_iff_not]
      omega
    simp [IntOp.cmpi, e]

end Cert.On_written
-- ==== Proof.DxHalf.lean ====
/-
  A sweep of the input gradient's call over half of the rows: four row blocks by twelve column blocks, from row block
  `first` on. The arithmetic of a grid point is the whole call's, so what such a sweep computes is stated once, of any
  sweep whose points do that arithmetic, against the arrays of all the rows.
-/
module

public import proofs.«01_k».proof.Proof.DxReal

@[expose] public section

set_option maxRecDepth 16384

noncomputable section

namespace Cert.KernelIdeal.Dx

open Cert.KernelIdeal Cert.KernelIdeal.Gen Idealize.ShloMosaic Idealize.ShloMosaic.TcCoe Idealize.SL.Sem
open Cert.ReferenceIdeal.Read

/-- Row `r` of point `t`'s row block, among all rows. -/
abbrev halfRow (first : ℕ) (hf : first ≤ 4) {N : ℕ} (hN : N = 48) (t : Fin N) (r : Fin 1024) : Fin 8192 :=
  ⟨(first + t.val / 12) * 1024 + r.val, by have := t.isLt; omega⟩
/-- Column `k` of point `t`'s column block, among all columns. -/
abbrev halfCol {N : ℕ} (t : Fin N) (k : Fin 768) : Fin 9216 := ⟨t.val % 12 * 768 + k.val, by omega⟩
/-- Row `i` of the half, among all rows. -/
abbrev rowOf (first : ℕ) (hf : first ≤ 4) (i : Fin 4096) : Fin 8192 := ⟨first * 1024 + i.val, by omega⟩

/-- The point before `t`. -/
abbrev before {N : ℕ} (t : Fin N) : t.val - 1 < N := Nat.lt_of_le_of_lt (Nat.sub_le _ _) t.isLt

variable (first : ℕ) (hf : first ≤ 4) {N : ℕ} (hN : N = 48)
  (x0 x1 x2 : (⟨Cert.ReferenceIdeal.S8192x1536, .bf16⟩ : BufTy).Contents (Elt Ideal))
  (x3 : (⟨Cert.ReferenceIdeal.S8192x4608, .bf16⟩ : BufTy).Contents (Elt Ideal))
  (x4 : (⟨Cert.ReferenceIdeal.S4x1024x2304, .bf16⟩ : BufTy).Contents (Elt Ideal))
  (x5 x6 : (⟨Cert.ReferenceIdeal.S8192x1024, .f32⟩ : BufTy).Contents (Elt Ideal))
  (x7 x8 : (⟨Cert.ReferenceIdeal.S1x1024, .f32⟩ : BufTy).Contents (Elt Ideal))

/-- The blocks a point reads lie where the half's rows and the point's columns are. -/
structure Blocks (part : Fin N → Vec Ideal S1024x768 .bf16) (w : Fin N → Vec Ideal S1x1024x768 .bf16)
    (x o : Fin N → Vec Ideal S1024x1024 .f32) (g s : Fin N → Vec Ideal S1x1024 .f32) : Prop where
  part_apply : ∀ t r k, (part t (ix2 r k) : EReal)
    = val_main_v3 (F := Ideal) x0 x1 x2 x3 (ix2 (halfRow first hf hN t r) (halfCol t k))
  w_apply : ∀ t l k, (w t (ix3 0 l k) : EReal) = val_main_v2 (F := Ideal) x4 (ix2 l (halfCol t k))
  x_apply : ∀ t r l, (x t (ix2 r l) : EReal) = x5 (ix2 (halfRow first hf hN t r) l)
  o_apply : ∀ t r l, (o t (ix2 r l) : EReal) = x6 (ix2 (halfRow first hf hN t r) l)
  g_apply : ∀ t l, (g t (ix2 0 l) : EReal) = x7 (ix2 0 l)
  s_apply : ∀ t l, (s t (ix2 0 l) : EReal) = x8 (ix2 0 l)

/-- What the points leave in the accumulator, in the three parameter gradients and in the input's gradient's block. -/
structure Sweep (N : ℕ) (part : Fin N → Vec Ideal S1024x768 .bf16) (w : Fin N → Vec Ideal S1x1024x768 .bf16)
    (x o : Fin N → Vec Ideal S1024x1024 .f32) (g s : Fin N → Vec Ideal S1x1024 .f32)
    (acc : (n : ℕ) → n < N → Vec Ideal S1024x1024 .f32)
    (grads : (n : ℕ) → n < N → Vec Ideal S1x1024 .f32 × Vec Ideal S1x1024 .f32 × Vec Ideal S1x1024 .f32)
    (dx : (n : ℕ) → n < N → Vec Ideal S1024x1024 .f32) : Prop where
  acc_reset : ∀ t : Fin N, t.val % 12 = 0 → acc t.val t.isLt = k0_pay12 (k0_pay8 (F := Ideal)) (part t) (w t)
  acc_step : ∀ t : Fin N, ¬t.val % 12 = 0 → acc t.val t.isLt = k0_pay12 (acc (t.val - 1) (before t)) (part t) (w t)
  grads_reset : ∀ t : Fin N, t.val % 48 = 0 →
    grads t.val t.isLt = (k0_pay9 (F := Ideal), k0_pay10 (F := Ideal), k0_pay11 (F := Ideal))
  grads_hold : ∀ t : Fin N, ¬t.val % 48 = 0 → ¬t.val % 12 = 11 → grads t.val t.isLt = grads (t.val - 1) (before t)
  grads_finish : ∀ t : Fin N, t.val % 12 = 11 → grads t.val t.isLt
    = (k0_pay5 (acc t.val t.isLt) (grads (t.val - 1) (before t)).1,
       k0_pay6 (acc t.val t.isLt) (x t) (grads (t.val - 1) (before t)).2.1 (g t),
       k0_pay7 (acc t.val t.isLt) (x t) (s t) (grads (t.val - 1) (before t)).2.2)
  dx_finish : ∀ t : Fin N, t.val % 12 = 11 → dx t.val t.isLt
    = k0_pay16 (acc t.val t.isLt) (k0_pay1 (x t)) (k0_pay2 (x t)) (k0_pay3 (s t)) (g t) (o t)

section

include hN in
/-- A quantity cleared at the first point, left alone between row blocks and given each row block's part at its last
    column block ends as the sum of the half's rows' parts. -/
theorem sum_half (f : (n : ℕ) → n < N → Fin 1024 → EReal) (G : Fin 8192 → Fin 1024 → EReal)
    (h0 : ∀ t : Fin N, t.val % 48 = 0 → ∀ l, f t.val t.isLt l = 0)
    (hold : ∀ t : Fin N, ¬t.val % 48 = 0 → ¬t.val % 12 = 11 → ∀ l, f t.val t.isLt l = f (t.val - 1) (before t) l)
    (fin : ∀ t : Fin N, t.val % 12 = 11 → ∀ l,
      f t.val t.isLt l = f (t.val - 1) (before t) l + ∑ r, G (halfRow first hf hN t r) l)
    (t : Fin N) (ht : t.val = 47) (l : Fin 1024) : f t.val t.isLt l = ∑ i, G (rowOf first hf i) l := by
  obtain ⟨n, h⟩ := t
  obtain rfl : n = 47 := ht
  have e := Pipeline.eq_sum_of_reset_step_apply_single_of_mod f 48 (fun _ => 0)
    (fun n l => if hn : n < N then (if n % 12 = 11 then ∑ r, G (halfRow first hf hN ⟨n, hn⟩ r) l else 0) else 0)
    (fun t ht l => by rw [h0 t ht l, dif_pos t.isLt, if_neg (by omega), add_zero])
    (fun t ht l => by
      rw [dif_pos t.isLt]
      by_cases h11 : t.val % 12 = 11
      · rw [if_pos h11, fin t h11 l]
      · rw [if_neg h11, add_zero, hold t ht h11 l])
    (le_of_eq hN) ⟨47, h⟩ (r := 47) rfl l
  rw [show f 47 h l = _ from e, zero_add, show 47 + 1 = 4 * 12 from rfl, Finset.sum_range_mul_split, Finset.sum_range,
    ← Fin.sum_mul_add_fin 4 1024 (fun i : Fin 4096 => G (rowOf first hf i) l) rfl]
  refine Finset.sum_congr rfl fun q _ => ?_
  have hq := q.isLt
  rw [Finset.sum_eq_single 11]
  · have hn : q.val * 12 + 11 < N := by omega
    rw [dif_pos hn, if_pos (by omega)]
    refine Finset.sum_congr rfl fun r _ => ?_
    exact congrArg (G · l) (Fin.ext (by
      show (first + (q.val * 12 + 11) / 12) * 1024 + r.val = first * 1024 + (q.val * 1024 + r.val); omega))
  · intro b hb hne
    have := Finset.mem_range.1 hb
    by_cases hn : q.val * 12 + b < N
    · rw [dif_pos hn, if_neg (by omega)]
    · rw [dif_neg hn]
  · intro hb; exact absurd (Finset.mem_range.2 (by decide)) hb

variable {first hf hN x0 x1 x2 x3 x4 x5 x6 x7 x8}
variable {part : Fin N → Vec Ideal S1024x768 .bf16} {w : Fin N → Vec Ideal S1x1024x768 .bf16}
  {x o : Fin N → Vec Ideal S1024x1024 .f32} {g s : Fin N → Vec Ideal S1x1024 .f32}
  {acc : (n : ℕ) → n < N → Vec Ideal S1024x1024 .f32}
  {grads : (n : ℕ) → n < N → Vec Ideal S1x1024 .f32 × Vec Ideal S1x1024 .f32 × Vec Ideal S1x1024 .f32}
  {dx : (n : ℕ) → n < N → Vec Ideal S1024x1024 .f32}
variable (B : Blocks first hf hN x0 x1 x2 x3 x4 x5 x6 x7 x8 part w x o g s) (S : Sweep N part w x o g s acc grads dx)
include B S

/-- The accumulator at a row block's last column block. -/
theorem half_acc (t : Fin N) (h11 : t.val % 12 = 11) (r l : Fin 1024) :
    (acc t.val t.isLt (ix2 r l) : EReal) = dh x0 x1 x2 x3 x4 (halfRow first hf hN t r) l := by
  have ht := t.isLt
  have e := Pipeline.eq_sum_of_reset_step_apply_of_mod (fun n h => acc n h) 12 (fun _ => (0 : EReal))
    (fun n (i : S1024x1024.Idx) => if h : n < N then ∑ k : Fin 768,
      (val_main_v3 (F := Ideal) x0 x1 x2 x3 (ix2 (halfRow first hf hN ⟨n, h⟩ (i 0)) (halfCol ⟨n, h⟩ k)) : EReal)
        * val_main_v2 (F := Ideal) x4 (ix2 (i 1) (halfCol ⟨n, h⟩ k)) else 0)
    (fun t h0 i => by
      idx_vars i
      rw [S.acc_reset t h0, pay12_apply, pay8_apply, dif_pos t.isLt]
      refine congrArg _ (Finset.sum_congr rfl fun k _ => ?_)
      rw [B.part_apply, B.w_apply])
    (fun t h0 i => by
      idx_vars i
      rw [S.acc_step t h0, pay12_apply, dif_pos t.isLt]
      refine congrArg _ (Finset.sum_congr rfl fun k _ => ?_)
      rw [B.part_apply, B.w_apply])
    t h11 (ix2 r l)
  refine e.trans ?_
  rw [zero_add, Finset.sum_range, ref_dh,
    ← Fin.sum_mul_add_fin 12 768 (fun k : Fin 9216 =>
      (val_main_v3 (F := Ideal) x0 x1 x2 x3 (ix2 (halfRow first hf hN t r) k) : EReal) * val_main_v2 (F := Ideal) x4 (ix2 l k)) rfl]
  refine Finset.sum_congr rfl fun q _ => ?_
  have hq := q.isLt
  have hn : 12 * (t.val / 12) + q.val < N := by omega
  rw [dif_pos hn]
  refine Finset.sum_congr rfl fun k _ => ?_
  have e1 : halfRow first hf hN ⟨12 * (t.val / 12) + q.val, hn⟩ r = halfRow first hf hN t r := Fin.ext (by
    show (first + (12 * (t.val / 12) + q.val) / 12) * 1024 + r.val = (first + t.val / 12) * 1024 + r.val; omega)
  have e2 : halfCol ⟨12 * (t.val / 12) + q.val, hn⟩ k = ⟨q.val * 768 + k.val, by omega⟩ :=
    Fin.ext (by show (12 * (t.val / 12) + q.val) % 12 * 768 + k.val = q.val * 768 + k.val; omega)
  rw [show (ix2 r l : S1024x1024.Idx) 0 = r from rfl, show (ix2 r l : S1024x1024.Idx) 1 = l from rfl, e1, e2]

omit S in
theorem half_xrow (t : Fin N) (r : Fin 1024) : (fun k => (x t (ix2 r k) : EReal)) = xrow x5 (halfRow first hf hN t r) :=
  funext fun k => B.x_apply t r k

/-- The shift's gradient after the last point. -/
theorem half_shift (t : Fin N) (ht : t.val = 47) (l : Fin 1024) :
    ((grads t.val t.isLt).1 (ix2 0 l) : EReal) = ∑ i, dh x0 x1 x2 x3 x4 (rowOf first hf i) l := by
  refine sum_half first hf hN (fun n h l => (grads n h).1 (ix2 0 l)) (dh x0 x1 x2 x3 x4) (fun t ht l => ?_)
    (fun t ht h11 l => ?_) (fun t h11 l => ?_) t ht l
  · rw [S.grads_reset t ht]; exact pay9_apply l
  · rw [S.grads_hold t ht h11]
  · rw [S.grads_finish t h11]
    dsimp only
    rw [pay5_apply]
    exact congrArg _ (Finset.sum_congr rfl fun r _ => half_acc B S t h11 r l)

variable {d : Fin 8192 → Fin 1024 → ℝ} {a b : Fin 1024 → ℝ} (R : RealArgs x0 x1 x2 x3 x4 x7 x8 d a b)
include R

/-- The scale's gradient after the last point. -/
theorem half_scale (t : Fin N) (ht : t.val = 47) (l : Fin 1024) :
    ((grads t.val t.isLt).2.1 (ix2 0 l) : EReal) = ∑ i, (x5 (ix2 (rowOf first hf i) l) : EReal)
      * Ideal.rsqrt (guarded (xrow x5 (rowOf first hf i))) * x7 (ix2 0 l) * dh x0 x1 x2 x3 x4 (rowOf first hf i) l := by
  refine sum_half first hf hN (fun n h l => (grads n h).2.1 (ix2 0 l)) (fun i l => (x5 (ix2 i l) : EReal)
      * Ideal.rsqrt (guarded (xrow x5 i)) * x7 (ix2 0 l) * dh x0 x1 x2 x3 x4 i l) (fun t ht l => ?_)
    (fun t ht h11 l => ?_) (fun t h11 l => ?_) t ht l
  · rw [S.grads_reset t ht]; exact pay10_apply l
  · rw [S.grads_hold t ht h11]
  · rw [S.grads_finish t h11]
    dsimp only
    rw [pay6_apply]
    refine congrArg _ ?_
    simp only [half_xrow B, B.x_apply, B.g_apply, half_acc B S t h11]
    refine (sum_mul_real (fun r => dh x0 x1 x2 x3 x4 (halfRow first hf hN t r) l)
      (fun r => xrow x5 (halfRow first hf hN t r) l * Ideal.rsqrt (guarded (xrow x5 (halfRow first hf hN t r)))) _
      (fun r => ⟨_, R.dh_real _ _⟩) (fun r => normed_at (xrow x5 (halfRow first hf hN t r)) l) ⟨_, R.gain_real l⟩).trans ?_
    refine Finset.sum_congr rfl fun r _ => ?_
    rw [mul_comm (dh x0 x1 x2 x3 x4 _ _), ← mul_assoc]

/-- The gain's gradient after the last point. -/
theorem half_gain (t : Fin N) (ht : t.val = 47) (l : Fin 1024) :
    ((grads t.val t.isLt).2.2 (ix2 0 l) : EReal) = ∑ i, (x5 (ix2 (rowOf first hf i) l) : EReal)
      * Ideal.rsqrt (guarded (xrow x5 (rowOf first hf i))) * (dh x0 x1 x2 x3 x4 (rowOf first hf i) l * (1 + x8 (ix2 0 l))) := by
  refine sum_half first hf hN (fun n h l => (grads n h).2.2 (ix2 0 l)) (fun i l => (x5 (ix2 i l) : EReal)
      * Ideal.rsqrt (guarded (xrow x5 i)) * (dh x0 x1 x2 x3 x4 i l * (1 + x8 (ix2 0 l)))) (fun t ht l => ?_)
    (fun t ht h11 l => ?_) (fun t h11 l => ?_) t ht l
  · rw [S.grads_reset t ht]; exact pay11_apply l
  · rw [S.grads_hold t ht h11]
  · rw [S.grads_finish t h11]
    dsimp only
    rw [pay7_apply]
    refine congrArg _ ?_
    simp only [half_xrow B, B.x_apply, B.s_apply, half_acc B S t h11]
    exact sum_mul_real (fun r => dh x0 x1 x2 x3 x4 (halfRow first hf hN t r) l)
      (fun r => xrow x5 (halfRow first hf hN t r) l * Ideal.rsqrt (guarded (xrow x5 (halfRow first hf hN t r)))) _
      (fun r => ⟨_, R.dh_real _ _⟩) (fun r => normed_at (xrow x5 (halfRow first hf hN t r)) l) ⟨_, R.scale_real l⟩

/-- A row block's input gradient is those rows of the gradient over all the rows. -/
theorem half_dx (t : Fin N) (h11 : t.val % 12 = 11) (r l : Fin 1024) :
    (dx t.val t.isLt (ix2 r l) : EReal)
      = val_main_v55 (F := Ideal) x0 x1 x2 x3 x4 x5 x6 x7 x8 (ix2 (halfRow first hf hN t r) l) := by
  rw [S.dx_finish t h11, pay16_apply, ref_dx]
  have hd : ∀ i l, dh x0 x1 x2 x3 x4 i l = (d i l : EReal) := R.dh_real
  simp only [half_xrow B, B.x_apply, B.g_apply, B.s_apply, B.o_apply, half_acc B S t h11, R.scale_real, R.gain_real, hd]
  exact row_grad (xrow x5 (halfRow first hf hN t r)) (d (halfRow first hf hN t r)) a b _ l

end

end Cert.KernelIdeal.Dx
-- ==== Proof.DxaRef.lean ====
/-
  The first half's reference, read at one index: the whole gradient's quantities on the first 4096 rows.
-/
module

public import proofs.«01_k».proof.Proof.DxHalf
public import proofs.«01_k».proof.Proof.Gen.Reference8Ideal.Read

@[expose] public section

set_option maxRecDepth 16384

noncomputable section

namespace Cert.Reference8Ideal.Half

open Cert.Reference8Ideal Cert.Reference8Ideal.Read Idealize.ShloMosaic
open Cert.KernelIdeal.Dx (dh rowOf guarded xrow ref_dh ref_dx)

variable (x0 x1 x2 : (⟨S8192x1536, .bf16⟩ : BufTy).Contents (Elt Ideal))
  (x3 : (⟨S8192x4608, .bf16⟩ : BufTy).Contents (Elt Ideal))
  (x4 : (⟨S4x1024x2304, .bf16⟩ : BufTy).Contents (Elt Ideal))
  (x5 x6 : (⟨S8192x1024, .f32⟩ : BufTy).Contents (Elt Ideal))
  (x7 x8 : (⟨S1x1024, .f32⟩ : BufTy).Contents (Elt Ideal))

/-- Row `i` of the half, among all rows. -/
abbrev at_ (i : Fin 4096) : Fin 8192 := rowOf 0 (by decide) i

theorem cat_apply (i : Fin 4096) (k : Fin 9216) : (val_main_v9 (F := Ideal) x0 x1 x2 x3 (ix2 i k) : EReal)
    = Cert.ReferenceIdeal.Read.val_main_v3 (F := Ideal) x0 x1 x2 x3 (ix2 (at_ i) k) := by
  unfold val_main_v9 Cert.ReferenceIdeal.Read.val_main_v3
  pointwise [val_main_v0, val_main_v1, val_main_v2, val_main_v3]

theorem dh_apply (i : Fin 4096) (l : Fin 1024) : (val_main_v34 (F := Ideal) x0 x1 x2 x3 x4 (ix2 i l) : EReal)
    = dh x0 x1 x2 x3 x4 (at_ i) l := by
  rw [ref_dh]
  pointwise [val_main_v34, val_main_v10]
  simp only [cat_apply]
  rfl

theorem x_apply (i : Fin 4096) (l : Fin 1024) : (val_main_v4 (F := Ideal) x5 (ix2 i l) : EReal) = x5 (ix2 (at_ i) l) := by
  pointwise [val_main_v4]
  exact congrArg (fun j => x5 (ix2 j l)) (Fin.ext (by show i.val = 0 * 1024 + i.val; omega))

theorem o_apply (i : Fin 4096) (l : Fin 1024) : (val_main_v5 (F := Ideal) x6 (ix2 i l) : EReal) = x6 (ix2 (at_ i) l) := by
  pointwise [val_main_v5]
  exact congrArg (fun j => x6 (ix2 j l)) (Fin.ext (by show i.val = 0 * 1024 + i.val; omega))

theorem root_apply (i : Fin 4096) : (val_main_v18 (F := Ideal) x5 (ix2 i 0) : EReal) = guarded (xrow x5 (at_ i)) := by
  pointwise [val_main_v18, val_main_v17, val_main_v16, val_main_v15, val_main_v14, val_main_v13, val_main_v12, val_main_cst_2,
    val_main_cst_1, val_main_cst_0]
  simp only [x_apply]
  rfl

theorem shift_apply (l : Fin 1024) : (val_main_v36 (F := Ideal) x0 x1 x2 x3 x4 (ix2 0 l) : EReal)
    = ∑ i, dh x0 x1 x2 x3 x4 (at_ i) l := by
  pointwise [val_main_v36, val_main_v35, val_main_cst_5]
  simp only [dh_apply]

theorem scale_apply (l : Fin 1024) : (val_main_v39 (F := Ideal) x0 x1 x2 x3 x4 x5 x7 (ix2 0 l) : EReal)
    = ∑ i, (x5 (ix2 (at_ i) l) : EReal) * Ideal.rsqrt (guarded (xrow x5 (at_ i))) * x7 (ix2 0 l) * dh x0 x1 x2 x3 x4 (at_ i) l := by
  pointwise [val_main_v39, val_main_v38, val_main_v37, val_main_v26, val_main_v25, val_main_v24, val_main_v23, val_main_v19, val_main_cst_6]
  simp only [dh_apply, x_apply, root_apply]

theorem gain_apply (l : Fin 1024) : (val_main_v44 (F := Ideal) x0 x1 x2 x3 x4 x5 x8 (ix2 0 l) : EReal)
    = ∑ i, (x5 (ix2 (at_ i) l) : EReal) * Ideal.rsqrt (guarded (xrow x5 (at_ i))) * (dh x0 x1 x2 x3 x4 (at_ i) l * (1 + x8 (ix2 0 l))) := by
  pointwise [val_main_v44, val_main_v43, val_main_v42, val_main_v41, val_main_v40, val_main_v28, val_main_v27, val_main_v24, val_main_v23,
    val_main_v19, val_main_cst_7, val_main_cst_4]
  simp only [dh_apply, x_apply, root_apply]

theorem rows_apply (i : Fin 4096) (l : Fin 1024) : (val_main_v61 (F := Ideal) x0 x1 x2 x3 x4 x5 x6 x7 x8 (ix2 i l) : EReal)
    = Cert.ReferenceIdeal.Read.val_main_v55 (F := Ideal) x0 x1 x2 x3 x4 x5 x6 x7 x8 (ix2 (at_ i) l) := by
  rw [ref_dx]
  pointwise [val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v41,
    val_main_v40, val_main_v28, val_main_v27, val_main_v22, val_main_v21, val_main_v20, val_main_v19, val_main_cst_3, val_main_cst_4,
    val_main_cst_8, val_main_cst_9, val_main_cst_10]
  simp only [dh_apply, x_apply, o_apply, root_apply, Fin.sum_univ_one]

/-- The result's first rows are the half's. -/
theorem dx_apply (i : Fin 8192) (hi : i.val < 4096) (l : Fin 1024) :
    (val_main_v63 (F := Ideal) x0 x1 x2 x3 x4 x5 x6 x7 x8 (ix2 i l) : EReal)
      = Cert.ReferenceIdeal.Read.val_main_v55 (F := Ideal) x0 x1 x2 x3 x4 x5 x6 x7 x8 (ix2 i l) := by
  unfold val_main_v63
  pointwise
  rw [dif_pos hi, rows_apply]
  exact congrArg (fun j => Cert.ReferenceIdeal.Read.val_main_v55 (F := Ideal) x0 x1 x2 x3 x4 x5 x6 x7 x8 (ix2 j l))
    (Fin.ext (by show 0 * 1024 + i.val = i.val; omega))

end Cert.Reference8Ideal.Half
-- ==== Proof.DxaValue.lean ====
/-
  The first half of the input gradient's call: what its points leave is a sweep over the first four row blocks, so its
  results are the first half's; the rows it does not write keep what the array held.
-/
module

public import proofs.«01_k».proof.Proof.DxaRef
public import proofs.«01_k».proof.Proof.Gen.Kernel8Ideal.Frame

@[expose] public section

set_option maxRecDepth 16384

noncomputable section

namespace Cert.Kernel8Ideal.Half

open Cert.Kernel8Ideal Cert.Kernel8Ideal.Gen Idealize.ShloMosaic Idealize.ShloMosaic.TcCoe Idealize.SL.Sem
open Idealize.ShloMosaic.Pipeline (Dat)
open Cert.KernelIdeal.Dx (halfRow halfCol rowOf Blocks Sweep RealArgs dh before)

variable (m : (ℓ : Loc nD τ sig) → Buf (Elt Ideal) ℓ) (c : Dev nD)

/-- An argument's array on device `c`. -/
abbrev arg (b : Ref sig .tc) : Buf (Elt Ideal) ((c.tc : Thread nD τ).loc b) := m ((c.tc : Thread nD τ).loc b)

/-- The column block of the projection's gradient that point `t` multiplies: which of the four arrays it is read from. -/
def part (t : Fin cfg0.N) : Vec Ideal S1024x768 .bf16 :=
  if t.val % 12 ≤ 1 then iblk m c 0 t else if t.val % 12 ≤ 3 then iblk m c 1 t
  else if t.val % 12 ≤ 5 then iblk m c 2 t else iblk m c 3 t

/-- The accumulator and the three parameter gradients after point `n`. -/
abbrev acc (n : ℕ) (h : n < cfg0.N) : Vec Ideal S1024x1024 .f32 := (outsAt0 m c n h).2.2.2.2
abbrev grads (n : ℕ) (h : n < cfg0.N) : Vec Ideal S1x1024 .f32 × Vec Ideal S1x1024 .f32 × Vec Ideal S1x1024 .f32 :=
  ((outsAt0 m c n h).2.1, (outsAt0 m c n h).2.2.1, (outsAt0 m c n h).2.2.2.1)

theorem acc_step (t : Fin cfg0.N) (h0 : ¬t.val % 12 = 0) :
    acc m c t.val t.isLt = k0_pay12 (acc m c (t.val - 1) (before t)) (part m c t) (iblk m c 4 t) := by
  unfold acc part
  have h1 : ¬t.val % 48 = 0 := by omega
  by_cases k1 : t.val % 12 ≤ 1
  · rw [outsAt0_B m c t h0 h1 k1 (by omega) (by omega) (by omega) (by omega), if_pos k1]
    frame_out; first | rfl | (simp only [read_unread_whole]; rfl) | simp only [read_unread_whole]
  by_cases k3 : t.val % 12 ≤ 3
  · rw [outsAt0_C m c t h0 h1 k1 (by omega) (by omega) (by omega) (by omega), if_neg k1, if_pos k3]
    frame_out; first | rfl | (simp only [read_unread_whole]; rfl) | simp only [read_unread_whole]
  by_cases k5 : t.val % 12 ≤ 5
  · rw [outsAt0_D m c t h0 h1 k1 (by omega) (by omega) (by omega) (by omega), if_neg k1, if_neg k3, if_pos k5]
    frame_out; first | rfl | (simp only [read_unread_whole]; rfl) | simp only [read_unread_whole]
  by_cases k11 : t.val % 12 = 11
  · rw [outsAt0_F m c t h0 h1 k1 (by omega) (by omega) (by omega) k11, if_neg k1, if_neg k3, if_neg k5]
    frame_out; first | rfl | (simp only [read_unread_whole]; rfl) | simp only [read_unread_whole]
  · rw [outsAt0_E m c t h0 h1 k1 (by omega) (by omega) (by omega) k11, if_neg k1, if_neg k3, if_neg k5]
    frame_out; first | rfl | (simp only [read_unread_whole]; rfl) | simp only [read_unread_whole]

/-- The points do the sweep's arithmetic. -/
theorem sweep : Sweep cfg0.N (part m c) (fun t => iblk m c 4 t) (fun t => iblk m c 5 t) (fun t => iblk m c 6 t)
    (fun t => iblk m c 7 t) (fun t => iblk m c 8 t) (acc m c) (grads m c) (fun n h => (outsAt0 m c n h).1) where
  acc_reset t h0 := by
    show acc m c t.val t.isLt = k0_pay12 (k0_pay8 (F := Ideal)) (part m c t) (iblk m c 4 t)
    rw [show part m c t = iblk m c 0 t from if_pos (by omega)]
    unfold acc
    by_cases h1 : t.val % 48 = 0
    · rw [outsAt0_A m c t h0 h1 (by omega) (by omega) (by omega) (by omega) (by omega)]; frame_out
    · rw [outsAt0_G m c t h0 h1 (by omega) (by omega) (by omega) (by omega) (by omega)]; frame_out
  acc_step t h0 := acc_step m c t h0
  grads_reset t h1 := by
    show grads m c t.val t.isLt = (k0_pay9 (F := Ideal), k0_pay10 (F := Ideal), k0_pay11 (F := Ideal))
    unfold grads
    rw [outsAt0_A m c t (by omega) h1 (by omega) (by omega) (by omega) (by omega) (by omega)]
    refine Prod.ext ?_ (Prod.ext ?_ ?_) <;> frame_out
  grads_hold t h1 h11 := by
    unfold grads
    by_cases h0 : t.val % 12 = 0
    · rw [outsAt0_G m c t h0 h1 (by omega) (by omega) (by omega) (by omega) (by omega)]; rfl
    by_cases k1 : t.val % 12 ≤ 1
    · rw [outsAt0_B m c t h0 h1 k1 (by omega) (by omega) (by omega) (by omega)]; rfl
    by_cases k3 : t.val % 12 ≤ 3
    · rw [outsAt0_C m c t h0 h1 k1 (by omega) (by omega) (by omega) (by omega)]; rfl
    by_cases k5 : t.val % 12 ≤ 5
    · rw [outsAt0_D m c t h0 h1 k1 (by omega) (by omega) (by omega) (by omega)]; rfl
    · rw [outsAt0_E m c t h0 h1 k1 (by omega) (by omega) (by omega) h11]; rfl
  grads_finish t h11 := by
    rw [acc_step m c t (by omega)]
    unfold grads
    rw [outsAt0_F m c t (by omega) (by omega) (by omega) (by omega) (by omega) (by omega) h11,
      show part m c t = iblk m c 3 t from (if_neg (by omega)).trans ((if_neg (by omega)).trans (if_neg (by omega)))]
    refine Prod.ext ?_ (Prod.ext ?_ ?_) <;> frame_out <;> simp only [read_unread_whole] <;> rfl
  dx_finish t h11 := by
    rw [acc_step m c t (by omega), outsAt0_F m c t (by omega) (by omega) (by omega) (by omega) (by omega) (by omega) h11,
      show part m c t = iblk m c 3 t from (if_neg (by omega)).trans ((if_neg (by omega)).trans (if_neg (by omega)))]
    frame_out
    simp only [read_unread_whole]
    rfl

theorem idx0 : ∀ t : Fin cfg0.N, t.val % 12 ≤ 1 → win0_0.index t = ![t.val / 12, t.val % 12] := by decide +kernel
theorem idx1 : ∀ t : Fin cfg0.N, ¬t.val % 12 ≤ 1 → t.val % 12 ≤ 3 → win0_1.index t = ![t.val / 12, t.val % 12 - 2] := by decide +kernel
theorem idx2 : ∀ t : Fin cfg0.N, ¬t.val % 12 ≤ 3 → t.val % 12 ≤ 5 → win0_2.index t = ![t.val / 12, t.val % 12 - 4] := by decide +kernel
theorem idx3 : ∀ t : Fin cfg0.N, ¬t.val % 12 ≤ 5 → win0_3.index t = ![t.val / 12, t.val % 12 - 6] := by decide +kernel
theorem idx4 : ∀ t : Fin cfg0.N, win0_4.index t = ![t.val % 12 / 3, 0, t.val % 12 % 3] := by decide +kernel
theorem idx5 : ∀ t : Fin cfg0.N, win0_5.index t = ![t.val / 12, 0] := by decide +kernel
theorem idx6 : ∀ t : Fin cfg0.N, win0_6.index t = ![t.val / 12, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val / 12, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel

theorem lt48 (t : Fin cfg0.N) : t.val < 48 := lt_of_lt_of_eq t.isLt N_0

/-- Row `r` of point `t`'s row block, among all rows. -/
abbrev row (t : Fin cfg0.N) (r : Fin 1024) : Fin 8192 := halfRow 0 (by decide) N_0 t r

theorem part_apply (t : Fin cfg0.N) (r : Fin 1024) (k : Fin 768) : (part m c t (ix2 r k) : EReal)
    = Cert.ReferenceIdeal.Read.val_main_v3 (F := Ideal) (arg m c main_arg0) (arg m c main_arg1) (arg m c main_arg2)
        (arg m c main_arg3) (ix2 (row t r) (halfCol t k)) := by
  have ht := lt48 t
  unfold part Cert.ReferenceIdeal.Read.val_main_v3
  pointwise
  by_cases k1 : t.val % 12 ≤ 1
  · rw [if_pos k1, dif_pos (by omega)]
    blk_ext [iblk, V, idx0 t k1]
  by_cases k3 : t.val % 12 ≤ 3
  · rw [if_neg k1, if_pos k3, dif_neg (by omega), dif_pos (by omega)]
    blk_ext [iblk, V, idx1 t k1 k3]
  by_cases k5 : t.val % 12 ≤ 5
  · rw [if_neg k1, if_neg k3, if_pos k5, dif_neg (by omega), dif_neg (by omega), dif_pos (by omega)]
    blk_ext [iblk, V, idx2 t k3 k5]
  · rw [if_neg k1, if_neg k3, if_neg k5, dif_neg (by omega), dif_neg (by omega), dif_neg (by omega)]
    blk_ext [iblk, V, idx3 t k5]

theorem w_apply (t : Fin cfg0.N) (l : Fin 1024) (k : Fin 768) : (iblk m c 4 t : Vec Ideal S1x1024x768 .bf16) (ix3 0 l k)
    = Cert.ReferenceIdeal.Read.val_main_v2 (F := Ideal) (arg m c main_arg4) (ix2 l (halfCol t k)) := by
  have ht := lt48 t
  rw [Cert.ReferenceIdeal.Read.val_main_v2_apply, Cert.ReferenceIdeal.Read.val_main_v1_apply,
    Cert.ReferenceIdeal.Read.val_main_v0_apply]
  blk_ext [iblk, V, idx4 t]

theorem x_apply (t : Fin cfg0.N) (r l : Fin 1024) :
    (iblk m c 5 t : Vec Ideal S1024x1024 .f32) (ix2 r l) = arg m c main_arg5 (ix2 (row t r) l) := by
  blk_ext [iblk, V, idx5 t]

theorem o_apply (t : Fin cfg0.N) (r l : Fin 1024) :
    (iblk m c 6 t : Vec Ideal S1024x1024 .f32) (ix2 r l) = arg m c main_arg6 (ix2 (row t r) l) := by
  blk_ext [iblk, V, idx6 t]

theorem g_apply (t : Fin cfg0.N) (l : Fin 1024) :
    (iblk m c 7 t : Vec Ideal S1x1024 .f32) (ix2 0 l) = arg m c main_arg7 (ix2 0 l) := by
  blk_ext [iblk, V, idx7 t]

theorem s_apply (t : Fin cfg0.N) (l : Fin 1024) :
    (iblk m c 8 t : Vec Ideal S1x1024 .f32) (ix2 0 l) = arg m c main_arg8 (ix2 0 l) := by
  blk_ext [iblk, V, idx8 t]

/-- The blocks are read from the first half's rows. -/
theorem blocks : Blocks 0 (by decide) N_0 (arg m c main_arg0) (arg m c main_arg1) (arg m c main_arg2) (arg m c main_arg3)
    (arg m c main_arg4) (arg m c main_arg5) (arg m c main_arg6) (arg m c main_arg7) (arg m c main_arg8)
    (part m c) (fun t => iblk m c 4 t) (fun t => iblk m c 5 t) (fun t => iblk m c 6 t)
    (fun t => iblk m c 7 t) (fun t => iblk m c 8 t) :=
  ⟨part_apply m c, w_apply m c, x_apply m c, o_apply m c, g_apply m c, s_apply m c⟩

/-- There is a last point, and it writes the three parameter gradients back whole. -/
theorem exists_last : ∃ t : Fin cfg0.N, t.val = 47 := ⟨⟨47, lt_of_lt_of_eq (by decide) N_0.symm⟩, rfl⟩
theorem whole10 : ∀ t : Fin cfg0.N, t.val = 47 → (cfg0.win 10).WholeAt t := by decide +kernel
theorem whole11 : ∀ t : Fin cfg0.N, t.val = 47 → (cfg0.win 11).WholeAt t := by decide +kernel
theorem whole12 : ∀ t : Fin cfg0.N, t.val = 47 → (cfg0.win 12).WholeAt t := by decide +kernel

/-- The gradient of the input over all the rows, from device `c`'s arguments. -/
abbrev allRows : (⟨2, ![8192, 1024]⟩ : Shape).Idx → EReal :=
  Cert.ReferenceIdeal.Read.val_main_v55 (F := Ideal) (arg m c main_arg0) (arg m c main_arg1) (arg m c main_arg2) (arg m c main_arg3)
    (arg m c main_arg4) (arg m c main_arg5) (arg m c main_arg6) (arg m c main_arg7) (arg m c main_arg8)

/-- The input's gradient as the half leaves it: its own rows, and elsewhere what the array held. -/
abbrev dxa : Buf (Elt Ideal) ((c.tc : Thread nD τ).loc main_v0_0) := fun i : S8192x1024.Idx =>
  if (i 0).val < 4096 then allRows m c i else (dats m 0 c).A 9 i

/-- The half's three parameter gradients: of the shift, of the scale, of the norm's gain. -/
abbrev shift : Buf (Elt Ideal) ((c.tc : Thread nD τ).loc main_v0_1) := Cert.Reference8Ideal.Read.val_main_v36 (F := Ideal)
  (arg m c main_arg0) (arg m c main_arg1) (arg m c main_arg2) (arg m c main_arg3) (arg m c main_arg4)
abbrev scale : Buf (Elt Ideal) ((c.tc : Thread nD τ).loc main_v0_2) := Cert.Reference8Ideal.Read.val_main_v39 (F := Ideal)
  (arg m c main_arg0) (arg m c main_arg1) (arg m c main_arg2) (arg m c main_arg3) (arg m c main_arg4) (arg m c main_arg5) (arg m c main_arg7)
abbrev gain : Buf (Elt Ideal) ((c.tc : Thread nD τ).loc main_v0_3) := Cert.Reference8Ideal.Read.val_main_v44 (F := Ideal)
  (arg m c main_arg0) (arg m c main_arg1) (arg m c main_arg2) (arg m c main_arg3) (arg m c main_arg4) (arg m c main_arg5) (arg m c main_arg8)

/-- What the precondition gives. -/
abbrev Reals (d : Fin 8192 → Fin 1024 → ℝ) (a b : Fin 1024 → ℝ) : Prop := RealArgs (arg m c main_arg0) (arg m c main_arg1)
  (arg m c main_arg2) (arg m c main_arg3) (arg m c main_arg4) (arg m c main_arg7) (arg m c main_arg8) d a b

section

variable {d : Fin 8192 → Fin 1024 → ℝ} {a b : Fin 1024 → ℝ} (R : Reals m c d a b)

theorem shift_eq : (dats m 0 c).arrAt 10 cfg0.N = shift m c := by
  obtain ⟨t, ht⟩ := exists_last
  refine (dats m 0 c).arrAt_eq_of_after_last 10 t (whole10 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_10]
  exact (Cert.KernelIdeal.Dx.half_shift (blocks m c) (sweep m c) t ht l).trans
    (Cert.Reference8Ideal.Half.shift_apply _ _ _ _ _ l).symm

include R

theorem scale_eq : (dats m 0 c).arrAt 11 cfg0.N = scale m c := by
  obtain ⟨t, ht⟩ := exists_last
  refine (dats m 0 c).arrAt_eq_of_after_last 11 t (whole11 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_11]
  exact (Cert.KernelIdeal.Dx.half_scale (blocks m c) (sweep m c) R t ht l).trans
    (Cert.Reference8Ideal.Half.scale_apply _ _ _ _ _ _ _ l).symm

theorem gain_eq : (dats m 0 c).arrAt 12 cfg0.N = gain m c := by
  obtain ⟨t, ht⟩ := exists_last
  refine (dats m 0 c).arrAt_eq_of_after_last 12 t (whole12 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_12]
  exact (Cert.KernelIdeal.Dx.half_gain (blocks m c) (sweep m c) R t ht l).trans
    (Cert.Reference8Ideal.Half.gain_apply _ _ _ _ _ _ _ l).symm

/-- The input's gradient is written on the half's rows and keeps what the array held elsewhere. -/
theorem dx_eq : (dats m 0 c).arrAt 9 cfg0.N = dxa m c := by
  refine (dats m 0 c).arrAt_eq_of_coversWhere 9 _ (fun β => β (0 : Fin 2) < 4) (by decide +kernel) (fun t hf y => ?_) fun j => ?_
  · have h11 : t.val % 12 = 11 := (flush0_9 t).mp hf
    rw [after0_9]
    obtain ⟨r, l, rfl⟩ : ∃ (r : Fin 1024) (l : Fin 1024), y = ix2 r l := ⟨y 0, y 1, (ix2_eta y).symm⟩
    have e : ((cfg0.win 9).blk t).view.emb (ix2 r l) = (ix2 (row t r) l : S8192x1024.Idx) := by
      have hi := idx9 t
      funext a
      match a with
      | ⟨0, _⟩ => exact Fin.ext (by
          show win0_9.index t (0 : Fin 2) * 1024 + 1 * r.val = (0 + t.val / 12) * 1024 + r.val; rw [hi]
          show t.val / 12 * 1024 + 1 * r.val = _; omega)
      | ⟨1, _⟩ => exact Fin.ext (by
          show win0_9.index t (1 : Fin 2) * 1024 + 1 * l.val = l.val; rw [hi]; show 0 * 1024 + 1 * l.val = _; omega)
    rw [e]
    exact Cert.KernelIdeal.Dx.half_dx (blocks m c) (sweep m c) R t h11 r l
  · show (j (0 : Fin 2)).val < 4096 ↔ (j (0 : Fin 2)).val / 1024 < 4
    omega

end

/-- The run, with what it leaves in the results and in the arguments. -/
theorem run_value (ρ : Dev nD → PrngReg) (h : ∀ c, ∃ d a b, Reals m c d a b) :
    θ_run defs (onTc (τ := τ) (main (F := Ideal))) ⟨m, fun _ => 0, ρ⟩ fun r => ∀ c : Dev nD,
    r.2.mem ((c.tc : Thread nD τ).loc main_v0_0) = dxa m c
    ∧ r.2.mem ((c.tc : Thread nD τ).loc main_v0_1) = shift m c
    ∧ r.2.mem ((c.tc : Thread nD τ).loc main_v0_2) = scale m c
    ∧ r.2.mem ((c.tc : Thread nD τ).loc main_v0_3) = gain m c
    ∧ r.2.mem ((c.tc : Thread nD τ).loc main_arg0) = arg m c main_arg0 ∧ r.2.mem ((c.tc : Thread nD τ).loc main_arg1) = arg m c main_arg1 ∧
      r.2.mem ((c.tc : Thread nD τ).loc main_arg2) = arg m c main_arg2 ∧ r.2.mem ((c.tc : Thread nD τ).loc main_arg3) = arg m c main_arg3 ∧
      r.2.mem ((c.tc : Thread nD τ).loc main_arg4) = arg m c main_arg4 ∧ r.2.mem ((c.tc : Thread nD τ).loc main_arg5) = arg m c main_arg5 ∧
      r.2.mem ((c.tc : Thread nD τ).loc main_arg6) = arg m c main_arg6 ∧ r.2.mem ((c.tc : Thread nD τ).loc main_arg7) = arg m c main_arg7 ∧
      r.2.mem ((c.tc : Thread nD τ).loc main_arg8) = arg m c main_arg8 :=
  (θ_run defs _ _).mono (fun r hr c => by
    obtain ⟨d, a, b, R⟩ := h c
    exact ⟨(hr.out_eq c 9).trans (dx_eq m c R), (hr.out_eq c 10).trans (shift_eq m c), (hr.out_eq c 11).trans (scale_eq m c R),
      (hr.out_eq c 12).trans (gain_eq m c R),
      (hr.in_eq c 0 rfl).trans (A_eq m c 0), (hr.in_eq c 1 rfl).trans (A_eq m c 1), (hr.in_eq c 2 rfl).trans (A_eq m c 2), (hr.in_eq c 3 rfl).trans (A_eq m c 3),
      (hr.in_eq c 4 rfl).trans (A_eq m c 4), (hr.in_eq c 5 rfl).trans (A_eq m c 5), (hr.in_eq c 6 rfl).trans (A_eq m c 6), (hr.in_eq c 7 rfl).trans (A_eq m c 7),
      (hr.in_eq c 8 rfl).trans (A_eq m c 8)⟩)
    (run_main m ρ)

end Cert.Kernel8Ideal.Half
-- ==== Proof.DxbRef.lean ====
/-
  The second half's reference, read at one index: the whole gradient's quantities on the last 4096 rows.
-/
module

public import proofs.«01_k».proof.Proof.DxHalf
public import proofs.«01_k».proof.Proof.Gen.Reference9Ideal.Read

@[expose] public section

set_option maxRecDepth 16384

noncomputable section

namespace Cert.Reference9Ideal.Half

open Cert.Reference9Ideal Cert.Reference9Ideal.Read Idealize.ShloMosaic
open Cert.KernelIdeal.Dx (dh rowOf guarded xrow ref_dh ref_dx)

variable (x0 x1 x2 : (⟨S8192x1536, .bf16⟩ : BufTy).Contents (Elt Ideal))
  (x3 : (⟨S8192x4608, .bf16⟩ : BufTy).Contents (Elt Ideal))
  (x4 : (⟨S4x1024x2304, .bf16⟩ : BufTy).Contents (Elt Ideal))
  (x5 x6 : (⟨S8192x1024, .f32⟩ : BufTy).Contents (Elt Ideal))
  (x7 x8 : (⟨S1x1024, .f32⟩ : BufTy).Contents (Elt Ideal))

/-- Row `i` of the half, among all rows. -/
abbrev at_ (i : Fin 4096) : Fin 8192 := rowOf 4 (by decide) i

theorem cat_apply (i : Fin 4096) (k : Fin 9216) : (val_main_v9 (F := Ideal) x0 x1 x2 x3 (ix2 i k) : EReal)
    = Cert.ReferenceIdeal.Read.val_main_v3 (F := Ideal) x0 x1 x2 x3 (ix2 (at_ i) k) := by
  unfold val_main_v9 Cert.ReferenceIdeal.Read.val_main_v3
  pointwise [val_main_v0, val_main_v1, val_main_v2, val_main_v3]

theorem dh_apply (i : Fin 4096) (l : Fin 1024) : (val_main_v34 (F := Ideal) x0 x1 x2 x3 x4 (ix2 i l) : EReal)
    = dh x0 x1 x2 x3 x4 (at_ i) l := by
  rw [ref_dh]
  pointwise [val_main_v34, val_main_v10]
  simp only [cat_apply]
  rfl

theorem x_apply (i : Fin 4096) (l : Fin 1024) : (val_main_v4 (F := Ideal) x5 (ix2 i l) : EReal) = x5 (ix2 (at_ i) l) := by
  pointwise [val_main_v4]

theorem o_apply (i : Fin 4096) (l : Fin 1024) : (val_main_v5 (F := Ideal) x6 (ix2 i l) : EReal) = x6 (ix2 (at_ i) l) := by
  pointwise [val_main_v5]

theorem root_apply (i : Fin 4096) : (val_main_v18 (F := Ideal) x5 (ix2 i 0) : EReal) = guarded (xrow x5 (at_ i)) := by
  pointwise [val_main_v18, val_main_v17, val_main_v16, val_main_v15, val_main_v14, val_main_v13, val_main_v12, val_main_cst_2,
    val_main_cst_1, val_main_cst_0]
  simp only [x_apply]
  rfl

theorem shift_apply (l : Fin 1024) : (val_main_v36 (F := Ideal) x0 x1 x2 x3 x4 (ix2 0 l) : EReal)
    = ∑ i, dh x0 x1 x2 x3 x4 (at_ i) l := by
  pointwise [val_main_v36, val_main_v35, val_main_cst_5]
  simp only [dh_apply]

theorem scale_apply (l : Fin 1024) : (val_main_v39 (F := Ideal) x0 x1 x2 x3 x4 x5 x7 (ix2 0 l) : EReal)
    = ∑ i, (x5 (ix2 (at_ i) l) : EReal) * Ideal.rsqrt (guarded (xrow x5 (at_ i))) * x7 (ix2 0 l) * dh x0 x1 x2 x3 x4 (at_ i) l := by
  pointwise [val_main_v39, val_main_v38, val_main_v37, val_main_v26, val_main_v25, val_main_v24, val_main_v23, val_main_v19, val_main_cst_6]
  simp only [dh_apply, x_apply, root_apply]

theorem gain_apply (l : Fin 1024) : (val_main_v44 (F := Ideal) x0 x1 x2 x3 x4 x5 x8 (ix2 0 l) : EReal)
    = ∑ i, (x5 (ix2 (at_ i) l) : EReal) * Ideal.rsqrt (guarded (xrow x5 (at_ i))) * (dh x0 x1 x2 x3 x4 (at_ i) l * (1 + x8 (ix2 0 l))) := by
  pointwise [val_main_v44, val_main_v43, val_main_v42, val_main_v41, val_main_v40, val_main_v28, val_main_v27, val_main_v24, val_main_v23,
    val_main_v19, val_main_cst_7, val_main_cst_4]
  simp only [dh_apply, x_apply, root_apply]

theorem rows_apply (i : Fin 4096) (l : Fin 1024) : (val_main_v61 (F := Ideal) x0 x1 x2 x3 x4 x5 x6 x7 x8 (ix2 i l) : EReal)
    = Cert.ReferenceIdeal.Read.val_main_v55 (F := Ideal) x0 x1 x2 x3 x4 x5 x6 x7 x8 (ix2 (at_ i) l) := by
  rw [ref_dx]
  pointwise [val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v41,
    val_main_v40, val_main_v28, val_main_v27, val_main_v22, val_main_v21, val_main_v20, val_main_v19, val_main_cst_3, val_main_cst_4,
    val_main_cst_8, val_main_cst_9, val_main_cst_10]
  simp only [dh_apply, x_apply, o_apply, root_apply, Fin.sum_univ_one]

/-- The result's last rows are the half's. -/
theorem dx_apply (x9 : (⟨S8192x1024, .f32⟩ : BufTy).Contents (Elt Ideal)) (i : Fin 8192) (hi : ¬i.val < 4096) (l : Fin 1024) :
    (val_main_v63 (F := Ideal) x0 x1 x2 x3 x4 x5 x6 x7 x8 x9 (ix2 i l) : EReal)
      = Cert.ReferenceIdeal.Read.val_main_v55 (F := Ideal) x0 x1 x2 x3 x4 x5 x6 x7 x8 (ix2 i l) := by
  have h := i.isLt
  unfold val_main_v63
  pointwise
  rw [dif_neg hi, rows_apply]
  exact congrArg (fun j => Cert.ReferenceIdeal.Read.val_main_v55 (F := Ideal) x0 x1 x2 x3 x4 x5 x6 x7 x8 (ix2 j l))
    (Fin.ext (by show 4 * 1024 + (i.val - 4096) = i.val; omega))

/-- Its first rows are those of the array the first half wrote. -/
theorem dx_kept (x9 : (⟨S8192x1024, .f32⟩ : BufTy).Contents (Elt Ideal)) (i : Fin 8192) (hi : i.val < 4096) (l : Fin 1024) :
    (val_main_v63 (F := Ideal) x0 x1 x2 x3 x4 x5 x6 x7 x8 x9 (ix2 i l) : EReal) = x9 (ix2 i l) := by
  unfold val_main_v63
  pointwise [val_main_v62]
  rw [dif_pos hi]

end Cert.Reference9Ideal.Half
-- ==== Proof.DxbValue.lean ====
/-
  The second half of the input gradient's call: what its points leave is a sweep over the last four row blocks, so its
  results are the second half's; it goes on in the array that the first half wrote, whose rows it keeps.
-/
module

public import proofs.«01_k».proof.Proof.DxbRef
public import proofs.«01_k».proof.Proof.Gen.Kernel9Ideal.Frame

@[expose] public section

set_option maxRecDepth 16384

noncomputable section

namespace Cert.Kernel9Ideal.Half

open Cert.Kernel9Ideal Cert.Kernel9Ideal.Gen Idealize.ShloMosaic Idealize.ShloMosaic.TcCoe Idealize.SL.Sem
open Idealize.ShloMosaic.Pipeline (Dat)
open Cert.KernelIdeal.Dx (halfRow halfCol rowOf Blocks Sweep RealArgs dh before)

variable (m : (ℓ : Loc nD τ sig) → Buf (Elt Ideal) ℓ) (c : Dev nD)

/-- An argument's array on device `c`. -/
abbrev arg (b : Ref sig .tc) : Buf (Elt Ideal) ((c.tc : Thread nD τ).loc b) := m ((c.tc : Thread nD τ).loc b)

/-- The column block of the projection's gradient that point `t` multiplies: which of the four arrays it is read from. -/
def part (t : Fin cfg0.N) : Vec Ideal S1024x768 .bf16 :=
  if t.val % 12 ≤ 1 then iblk m c 0 t else if t.val % 12 ≤ 3 then iblk m c 1 t
  else if t.val % 12 ≤ 5 then iblk m c 2 t else iblk m c 3 t

/-- The accumulator and the three parameter gradients after point `n`. -/
abbrev acc (n : ℕ) (h : n < cfg0.N) : Vec Ideal S1024x1024 .f32 := (outsAt0 m c n h).2.2.2.2
abbrev grads (n : ℕ) (h : n < cfg0.N) : Vec Ideal S1x1024 .f32 × Vec Ideal S1x1024 .f32 × Vec Ideal S1x1024 .f32 :=
  ((outsAt0 m c n h).2.1, (outsAt0 m c n h).2.2.1, (outsAt0 m c n h).2.2.2.1)

theorem acc_step (t : Fin cfg0.N) (h0 : ¬t.val % 12 = 0) :
    acc m c t.val t.isLt = k0_pay12 (acc m c (t.val - 1) (before t)) (part m c t) (iblk m c 4 t) := by
  unfold acc part
  have h1 : ¬t.val % 48 = 0 := by omega
  by_cases k1 : t.val % 12 ≤ 1
  · rw [outsAt0_B m c t h0 h1 k1 (by omega) (by omega) (by omega) (by omega), if_pos k1]
    frame_out; first | rfl | (simp only [read_unread_whole]; rfl) | simp only [read_unread_whole]
  by_cases k3 : t.val % 12 ≤ 3
  · rw [outsAt0_C m c t h0 h1 k1 (by omega) (by omega) (by omega) (by omega), if_neg k1, if_pos k3]
    frame_out; first | rfl | (simp only [read_unread_whole]; rfl) | simp only [read_unread_whole]
  by_cases k5 : t.val % 12 ≤ 5
  · rw [outsAt0_D m c t h0 h1 k1 (by omega) (by omega) (by omega) (by omega), if_neg k1, if_neg k3, if_pos k5]
    frame_out; first | rfl | (simp only [read_unread_whole]; rfl) | simp only [read_unread_whole]
  by_cases k11 : t.val % 12 = 11
  · rw [outsAt0_F m c t h0 h1 k1 (by omega) (by omega) (by omega) k11, if_neg k1, if_neg k3, if_neg k5]
    frame_out; first | rfl | (simp only [read_unread_whole]; rfl) | simp only [read_unread_whole]
  · rw [outsAt0_E m c t h0 h1 k1 (by omega) (by omega) (by omega) k11, if_neg k1, if_neg k3, if_neg k5]
    frame_out; first | rfl | (simp only [read_unread_whole]; rfl) | simp only [read_unread_whole]

/-- The points do the sweep's arithmetic. -/
theorem sweep : Sweep cfg0.N (part m c) (fun t => iblk m c 4 t) (fun t => iblk m c 5 t) (fun t => iblk m c 6 t)
    (fun t => iblk m c 7 t) (fun t => iblk m c 8 t) (acc m c) (grads m c) (fun n h => (outsAt0 m c n h).1) where
  acc_reset t h0 := by
    show acc m c t.val t.isLt = k0_pay12 (k0_pay8 (F := Ideal)) (part m c t) (iblk m c 4 t)
    rw [show part m c t = iblk m c 0 t from if_pos (by omega)]
    unfold acc
    by_cases h1 : t.val % 48 = 0
    · rw [outsAt0_A m c t h0 h1 (by omega) (by omega) (by omega) (by omega) (by omega)]; frame_out
    · rw [outsAt0_G m c t h0 h1 (by omega) (by omega) (by omega) (by omega) (by omega)]; frame_out
  acc_step t h0 := acc_step m c t h0
  grads_reset t h1 := by
    show grads m c t.val t.isLt = (k0_pay9 (F := Ideal), k0_pay10 (F := Ideal), k0_pay11 (F := Ideal))
    unfold grads
    rw [outsAt0_A m c t (by omega) h1 (by omega) (by omega) (by omega) (by omega) (by omega)]
    refine Prod.ext ?_ (Prod.ext ?_ ?_) <;> frame_out
  grads_hold t h1 h11 := by
    unfold grads
    by_cases h0 : t.val % 12 = 0
    · rw [outsAt0_G m c t h0 h1 (by omega) (by omega) (by omega) (by omega) (by omega)]; rfl
    by_cases k1 : t.val % 12 ≤ 1
    · rw [outsAt0_B m c t h0 h1 k1 (by omega) (by omega) (by omega) (by omega)]; rfl
    by_cases k3 : t.val % 12 ≤ 3
    · rw [outsAt0_C m c t h0 h1 k1 (by omega) (by omega) (by omega) (by omega)]; rfl
    by_cases k5 : t.val % 12 ≤ 5
    · rw [outsAt0_D m c t h0 h1 k1 (by omega) (by omega) (by omega) (by omega)]; rfl
    · rw [outsAt0_E m c t h0 h1 k1 (by omega) (by omega) (by omega) h11]; rfl
  grads_finish t h11 := by
    rw [acc_step m c t (by omega)]
    unfold grads
    rw [outsAt0_F m c t (by omega) (by omega) (by omega) (by omega) (by omega) (by omega) h11,
      show part m c t = iblk m c 3 t from (if_neg (by omega)).trans ((if_neg (by omega)).trans (if_neg (by omega)))]
    refine Prod.ext ?_ (Prod.ext ?_ ?_) <;> frame_out <;> simp only [read_unread_whole] <;> rfl
  dx_finish t h11 := by
    rw [acc_step m c t (by omega), outsAt0_F m c t (by omega) (by omega) (by omega) (by omega) (by omega) (by omega) h11,
      show part m c t = iblk m c 3 t from (if_neg (by omega)).trans ((if_neg (by omega)).trans (if_neg (by omega)))]
    frame_out
    simp only [read_unread_whole]
    rfl

theorem idx0 : ∀ t : Fin cfg0.N, t.val % 12 ≤ 1 → win0_0.index t = ![4 + t.val / 12, t.val % 12] := by decide +kernel
theorem idx1 : ∀ t : Fin cfg0.N, ¬t.val % 12 ≤ 1 → t.val % 12 ≤ 3 → win0_1.index t = ![4 + t.val / 12, t.val % 12 - 2] := by decide +kernel
theorem idx2 : ∀ t : Fin cfg0.N, ¬t.val % 12 ≤ 3 → t.val % 12 ≤ 5 → win0_2.index t = ![4 + t.val / 12, t.val % 12 - 4] := by decide +kernel
theorem idx3 : ∀ t : Fin cfg0.N, ¬t.val % 12 ≤ 5 → win0_3.index t = ![4 + t.val / 12, t.val % 12 - 6] := by decide +kernel
theorem idx4 : ∀ t : Fin cfg0.N, win0_4.index t = ![t.val % 12 / 3, 0, t.val % 12 % 3] := by decide +kernel
theorem idx5 : ∀ t : Fin cfg0.N, win0_5.index t = ![4 + t.val / 12, 0] := by decide +kernel
theorem idx6 : ∀ t : Fin cfg0.N, win0_6.index t = ![4 + t.val / 12, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![4 + t.val / 12, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel

theorem lt48 (t : Fin cfg0.N) : t.val < 48 := lt_of_lt_of_eq t.isLt N_0

/-- Row `r` of point `t`'s row block, among all rows. -/
abbrev row (t : Fin cfg0.N) (r : Fin 1024) : Fin 8192 := halfRow 4 (by decide) N_0 t r

theorem part_apply (t : Fin cfg0.N) (r : Fin 1024) (k : Fin 768) : (part m c t (ix2 r k) : EReal)
    = Cert.ReferenceIdeal.Read.val_main_v3 (F := Ideal) (arg m c main_arg0) (arg m c main_arg1) (arg m c main_arg2)
        (arg m c main_arg3) (ix2 (row t r) (halfCol t k)) := by
  have ht := lt48 t
  unfold part Cert.ReferenceIdeal.Read.val_main_v3
  pointwise
  by_cases k1 : t.val % 12 ≤ 1
  · rw [if_pos k1, dif_pos (by omega)]
    blk_ext [iblk, V, idx0 t k1]
  by_cases k3 : t.val % 12 ≤ 3
  · rw [if_neg k1, if_pos k3, dif_neg (by omega), dif_pos (by omega)]
    blk_ext [iblk, V, idx1 t k1 k3]
  by_cases k5 : t.val % 12 ≤ 5
  · rw [if_neg k1, if_neg k3, if_pos k5, dif_neg (by omega), dif_neg (by omega), dif_pos (by omega)]
    blk_ext [iblk, V, idx2 t k3 k5]
  · rw [if_neg k1, if_neg k3, if_neg k5, dif_neg (by omega), dif_neg (by omega), dif_neg (by omega)]
    blk_ext [iblk, V, idx3 t k5]

theorem w_apply (t : Fin cfg0.N) (l : Fin 1024) (k : Fin 768) : (iblk m c 4 t : Vec Ideal S1x1024x768 .bf16) (ix3 0 l k)
    = Cert.ReferenceIdeal.Read.val_main_v2 (F := Ideal) (arg m c main_arg4) (ix2 l (halfCol t k)) := by
  have ht := lt48 t
  rw [Cert.ReferenceIdeal.Read.val_main_v2_apply, Cert.ReferenceIdeal.Read.val_main_v1_apply,
    Cert.ReferenceIdeal.Read.val_main_v0_apply]
  blk_ext [iblk, V, idx4 t]

theorem x_apply (t : Fin cfg0.N) (r l : Fin 1024) :
    (iblk m c 5 t : Vec Ideal S1024x1024 .f32) (ix2 r l) = arg m c main_arg5 (ix2 (row t r) l) := by
  blk_ext [iblk, V, idx5 t]

theorem o_apply (t : Fin cfg0.N) (r l : Fin 1024) :
    (iblk m c 6 t : Vec Ideal S1024x1024 .f32) (ix2 r l) = arg m c main_arg6 (ix2 (row t r) l) := by
  blk_ext [iblk, V, idx6 t]

theorem g_apply (t : Fin cfg0.N) (l : Fin 1024) :
    (iblk m c 7 t : Vec Ideal S1x1024 .f32) (ix2 0 l) = arg m c main_arg7 (ix2 0 l) := by
  blk_ext [iblk, V, idx7 t]

theorem s_apply (t : Fin cfg0.N) (l : Fin 1024) :
    (iblk m c 8 t : Vec Ideal S1x1024 .f32) (ix2 0 l) = arg m c main_arg8 (ix2 0 l) := by
  blk_ext [iblk, V, idx8 t]

/-- The blocks are read from the second half's rows. -/
theorem blocks : Blocks 4 (by decide) N_0 (arg m c main_arg0) (arg m c main_arg1) (arg m c main_arg2) (arg m c main_arg3)
    (arg m c main_arg4) (arg m c main_arg5) (arg m c main_arg6) (arg m c main_arg7) (arg m c main_arg8)
    (part m c) (fun t => iblk m c 4 t) (fun t => iblk m c 5 t) (fun t => iblk m c 6 t)
    (fun t => iblk m c 7 t) (fun t => iblk m c 8 t) :=
  ⟨part_apply m c, w_apply m c, x_apply m c, o_apply m c, g_apply m c, s_apply m c⟩

/-- There is a last point, and it writes the three parameter gradients back whole. -/
theorem exists_last : ∃ t : Fin cfg0.N, t.val = 47 := ⟨⟨47, lt_of_lt_of_eq (by decide) N_0.symm⟩, rfl⟩
theorem whole10 : ∀ t : Fin cfg0.N, t.val = 47 → (cfg0.win 10).WholeAt t := by decide +kernel
theorem whole11 : ∀ t : Fin cfg0.N, t.val = 47 → (cfg0.win 11).WholeAt t := by decide +kernel
theorem whole12 : ∀ t : Fin cfg0.N, t.val = 47 → (cfg0.win 12).WholeAt t := by decide +kernel

/-- The gradient of the input over all the rows, from device `c`'s arguments. -/
abbrev allRows : (⟨2, ![8192, 1024]⟩ : Shape).Idx → EReal :=
  Cert.ReferenceIdeal.Read.val_main_v55 (F := Ideal) (arg m c main_arg0) (arg m c main_arg1) (arg m c main_arg2) (arg m c main_arg3)
    (arg m c main_arg4) (arg m c main_arg5) (arg m c main_arg6) (arg m c main_arg7) (arg m c main_arg8)

/-- The input's gradient as the half leaves it: its own rows, and elsewhere the rows of the array it goes on in. -/
abbrev dxb : Buf (Elt Ideal) ((c.tc : Thread nD τ).loc main_v0_0) := fun i : S8192x1024.Idx =>
  if 4096 ≤ (i 0).val then allRows m c i else arg m c main_arg9 i

/-- The half's three parameter gradients: of the shift, of the scale, of the norm's gain. -/
abbrev shift : Buf (Elt Ideal) ((c.tc : Thread nD τ).loc main_v0_1) := Cert.Reference9Ideal.Read.val_main_v36 (F := Ideal)
  (arg m c main_arg0) (arg m c main_arg1) (arg m c main_arg2) (arg m c main_arg3) (arg m c main_arg4)
abbrev scale : Buf (Elt Ideal) ((c.tc : Thread nD τ).loc main_v0_2) := Cert.Reference9Ideal.Read.val_main_v39 (F := Ideal)
  (arg m c main_arg0) (arg m c main_arg1) (arg m c main_arg2) (arg m c main_arg3) (arg m c main_arg4) (arg m c main_arg5) (arg m c main_arg7)
abbrev gain : Buf (Elt Ideal) ((c.tc : Thread nD τ).loc main_v0_3) := Cert.Reference9Ideal.Read.val_main_v44 (F := Ideal)
  (arg m c main_arg0) (arg m c main_arg1) (arg m c main_arg2) (arg m c main_arg3) (arg m c main_arg4) (arg m c main_arg5) (arg m c main_arg8)

/-- What the precondition gives. -/
abbrev Reals (d : Fin 8192 → Fin 1024 → ℝ) (a b : Fin 1024 → ℝ) : Prop := RealArgs (arg m c main_arg0) (arg m c main_arg1)
  (arg m c main_arg2) (arg m c main_arg3) (arg m c main_arg4) (arg m c main_arg7) (arg m c main_arg8) d a b

/-- The call finds its result holding the array the first half wrote. -/
theorem entry : (dats m 0 c).A 9 = arg m c main_arg9 := (A_eq m c 9).trans (by rfl)

section

variable {d : Fin 8192 → Fin 1024 → ℝ} {a b : Fin 1024 → ℝ} (R : Reals m c d a b)

theorem shift_eq : (dats m 0 c).arrAt 10 cfg0.N = shift m c := by
  obtain ⟨t, ht⟩ := exists_last
  refine (dats m 0 c).arrAt_eq_of_after_last 10 t (whole10 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_10]
  exact (Cert.KernelIdeal.Dx.half_shift (blocks m c) (sweep m c) t ht l).trans
    (Cert.Reference9Ideal.Half.shift_apply _ _ _ _ _ l).symm

include R

theorem scale_eq : (dats m 0 c).arrAt 11 cfg0.N = scale m c := by
  obtain ⟨t, ht⟩ := exists_last
  refine (dats m 0 c).arrAt_eq_of_after_last 11 t (whole11 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_11]
  exact (Cert.KernelIdeal.Dx.half_scale (blocks m c) (sweep m c) R t ht l).trans
    (Cert.Reference9Ideal.Half.scale_apply _ _ _ _ _ _ _ l).symm

theorem gain_eq : (dats m 0 c).arrAt 12 cfg0.N = gain m c := by
  obtain ⟨t, ht⟩ := exists_last
  refine (dats m 0 c).arrAt_eq_of_after_last 12 t (whole12 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_12]
  exact (Cert.KernelIdeal.Dx.half_gain (blocks m c) (sweep m c) R t ht l).trans
    (Cert.Reference9Ideal.Half.gain_apply _ _ _ _ _ _ _ l).symm

/-- The input's gradient is written on the half's rows and keeps the first half's elsewhere. -/
theorem dx_eq : (dats m 0 c).arrAt 9 cfg0.N = dxb m c := by
  unfold dxb
  rw [← entry m c]
  refine (dats m 0 c).arrAt_eq_of_coversWhere 9 _ (fun β => 4 ≤ β (0 : Fin 2)) (by decide +kernel) (fun t hf y => ?_) fun j => ?_
  · have h11 : t.val % 12 = 11 := (flush0_9 t).mp hf
    rw [after0_9]
    obtain ⟨r, l, rfl⟩ : ∃ (r : Fin 1024) (l : Fin 1024), y = ix2 r l := ⟨y 0, y 1, (ix2_eta y).symm⟩
    have e : ((cfg0.win 9).blk t).view.emb (ix2 r l) = (ix2 (row t r) l : S8192x1024.Idx) := by
      have hi := idx9 t
      funext a
      match a with
      | ⟨0, _⟩ => exact Fin.ext (by
          show win0_9.index t (0 : Fin 2) * 1024 + 1 * r.val = (4 + t.val / 12) * 1024 + r.val; rw [hi]
          show (4 + t.val / 12) * 1024 + 1 * r.val = _; omega)
      | ⟨1, _⟩ => exact Fin.ext (by
          show win0_9.index t (1 : Fin 2) * 1024 + 1 * l.val = l.val; rw [hi]; show 0 * 1024 + 1 * l.val = _; omega)
    rw [e]
    exact Cert.KernelIdeal.Dx.half_dx (blocks m c) (sweep m c) R t h11 r l
  · show 4096 ≤ (j (0 : Fin 2)).val ↔ 4 ≤ (j (0 : Fin 2)).val / 1024
    omega

end

/-- The run, with what it leaves in the results and in the arguments. -/
theorem run_value (ρ : Dev nD → PrngReg) (h : ∀ c, ∃ d a b, Reals m c d a b) :
    θ_run defs (onTc (τ := τ) (main (F := Ideal))) ⟨m, fun _ => 0, ρ⟩ fun r => ∀ c : Dev nD,
    r.2.mem ((c.tc : Thread nD τ).loc main_v0_0) = dxb m c
    ∧ r.2.mem ((c.tc : Thread nD τ).loc main_v0_1) = shift m c
    ∧ r.2.mem ((c.tc : Thread nD τ).loc main_v0_2) = scale m c
    ∧ r.2.mem ((c.tc : Thread nD τ).loc main_v0_3) = gain m c
    ∧ r.2.mem ((c.tc : Thread nD τ).loc main_arg0) = arg m c main_arg0 ∧ r.2.mem ((c.tc : Thread nD τ).loc main_arg1) = arg m c main_arg1 ∧
      r.2.mem ((c.tc : Thread nD τ).loc main_arg2) = arg m c main_arg2 ∧ r.2.mem ((c.tc : Thread nD τ).loc main_arg3) = arg m c main_arg3 ∧
      r.2.mem ((c.tc : Thread nD τ).loc main_arg4) = arg m c main_arg4 ∧ r.2.mem ((c.tc : Thread nD τ).loc main_arg5) = arg m c main_arg5 ∧
      r.2.mem ((c.tc : Thread nD τ).loc main_arg6) = arg m c main_arg6 ∧ r.2.mem ((c.tc : Thread nD τ).loc main_arg7) = arg m c main_arg7 ∧
      r.2.mem ((c.tc : Thread nD τ).loc main_arg8) = arg m c main_arg8
    ∧ r.2.mem ((c.tc : Thread nD τ).loc main_arg9) = arg m c main_arg9 :=
  (θ_run defs _ _).mono (fun r hr c => by
    obtain ⟨d, a, b, R⟩ := h c
    exact ⟨(hr.out_eq c 9).trans (dx_eq m c R), (hr.out_eq c 10).trans (shift_eq m c), (hr.out_eq c 11).trans (scale_eq m c R),
      (hr.out_eq c 12).trans (gain_eq m c R),
      (hr.in_eq c 0 rfl).trans (A_eq m c 0), (hr.in_eq c 1 rfl).trans (A_eq m c 1), (hr.in_eq c 2 rfl).trans (A_eq m c 2), (hr.in_eq c 3 rfl).trans (A_eq m c 3),
      (hr.in_eq c 4 rfl).trans (A_eq m c 4), (hr.in_eq c 5 rfl).trans (A_eq m c 5), (hr.in_eq c 6 rfl).trans (A_eq m c 6), (hr.in_eq c 7 rfl).trans (A_eq m c 7),
      (hr.in_eq c 8 rfl).trans (A_eq m c 8),
      hr.rest_eq c main_arg9 (by decide)⟩)
    (run_main m ρ)

end Cert.Kernel9Ideal.Half
-- ==== Proof.WoValue.lean ====
/-
  The gradient of a square weight (the output projection's, the recurrent branch's): the left operand is read transposed,
  the products of four row blocks are summed in an accumulator, and the last row block's point writes it out as four
  row blocks of the weight.
-/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel6Ideal.Wo

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- An argument's array on device `c`. -/
abbrev arg (c : Dev nD) (b : Ref sig .tc) : Buf (Elt Ideal) ((c.tc : Thread nD τ).loc b) := m ((c.tc : Thread nD τ).loc b)

/-- The two operands, as arrays of extended reals: the left one lies transposed. -/
abbrev left (c : Dev nD) : (⟨2, ![1024, 8192]⟩ : Shape).Idx → EReal := arg m c main_arg0
abbrev right (c : Dev nD) : (⟨2, ![8192, 1024]⟩ : Shape).Idx → EReal := arg m c main_arg1

/-- The accumulator after point `n`. -/
abbrev accAfter (c : Dev nD) (n : ℕ) (h : n < cfg0.N) : Vec Ideal S1024x1024 .f32 := (outsAt0 m c n h).2

theorem lt4 (t : Fin cfg0.N) : t.val < 4 := lt_of_lt_of_eq t.isLt N_0

/-- Row `r` of point `t`'s row block, among all rows. -/
abbrev row (t : Fin cfg0.N) (r : Fin 2048) : Fin 8192 := ⟨t.val * 2048 + r.val, by have := lt4 t; omega⟩

theorem acc_reset (c : Dev nD) (t : Fin cfg0.N) (h : t.val % 4 = 0) :
    accAfter m c t.val t.isLt = k0_pay2 (iblk m c 0 t) (iblk m c 1 t) := by
  have ht := lt4 t
  unfold accAfter
  rw [outsAt0_A m c t h (by omega) (by omega)]
  frame_out

theorem acc_step (c : Dev nD) (t : Fin cfg0.N) (h : ¬t.val % 4 = 0) :
    accAfter m c t.val t.isLt
      = k0_pay3 (iblk m c 0 t) (iblk m c 1 t) (accAfter m c (t.val - 1) (Nat.lt_of_le_of_lt (Nat.sub_le _ _) t.isLt)) := by
  have ht := lt4 t
  unfold accAfter
  by_cases h3 : t.val % 4 = 3
  · rw [outsAt0_C m c t h (by omega) h3]; frame_out; simp only [read_unread_whole] <;> rfl
  · rw [outsAt0_B m c t h (by omega) h3]; frame_out; simp only [read_unread_whole] <;> rfl

theorem out_finish (c : Dev nD) (t : Fin cfg0.N) (h3 : t.val % 4 = 3) :
    (outsAt0 m c t.val t.isLt).1 = k0_pay4 (accAfter m c t.val t.isLt) := by
  have ht := lt4 t
  rw [acc_step m c t (by omega), outsAt0_C m c t (by omega) (by omega) h3]
  frame_out; simp only [read_unread_whole] <;> rfl

theorem idx0 : ∀ t : Fin cfg0.N, win0_0.index t = ![0, t.val] := by decide +kernel
theorem idx1 : ∀ t : Fin cfg0.N, win0_1.index t = ![t.val, 0] := by decide +kernel
theorem idx2 : ∀ t : Fin cfg0.N, win0_2.index t = ![0, 0, 0] := by decide +kernel

theorem left_apply (c : Dev nD) (t : Fin cfg0.N) (l : Fin 1024) (r : Fin 2048) :
    (iblk m c 0 t : Vec Ideal S1024x2048 .bf16) (ix2 l r) = left m c (ix2 l (row t r)) := by
  blk_ext [iblk, V, idx0 t]
theorem right_apply (c : Dev nD) (t : Fin cfg0.N) (r : Fin 2048) (k : Fin 1024) :
    (iblk m c 1 t : Vec Ideal S2048x1024 .bf16) (ix2 r k) = right m c (ix2 (row t r) k) := by
  blk_ext [iblk, V, idx1 t]

theorem pay2_apply (a : Vec Ideal S1024x2048 .bf16) (b : Vec Ideal S2048x1024 .bf16) (l k : Fin 1024) :
    k0_pay2 a b (ix2 l k) = ∑ r : Fin 2048, a (ix2 l r) * b (ix2 r k) := by
  pointwise [k0_pay2, k0_pay1]

theorem pay3_apply (a : Vec Ideal S1024x2048 .bf16) (b : Vec Ideal S2048x1024 .bf16) (acc : Vec Ideal S1024x1024 .f32) (l k : Fin 1024) :
    k0_pay3 a b acc (ix2 l k) = acc (ix2 l k) + ∑ r : Fin 2048, a (ix2 l r) * b (ix2 r k) := by
  pointwise [k0_pay3, k0_pay1]

theorem pay4_apply (v : Vec Ideal S1024x1024 .f32) (q : Fin 4) (p : Fin 256) (k : Fin 1024) :
    k0_pay4 v (ix3 q p k) = v (ix2 ⟨q.val * 256 + p.val, by omega⟩ k) := by
  pointwise [k0_pay4]

/-- The weight's gradient: the left operand's rows against the right operand's columns. -/
abbrev dw (c : Dev nD) (l k : Fin 1024) : EReal := ∑ i : Fin 8192, left m c (ix2 l i) * right m c (ix2 i k)

theorem sum_swap (a b : Fin 8192 → EReal) : ∑ i, a i * b i = ∑ i, b i * a i := Finset.sum_congr rfl fun i _ => mul_comm _ _

/-- What point `n` adds to the accumulator. -/
def accTerm (c : Dev nD) (n : ℕ) (i : S1024x1024.Idx) : EReal :=
  if h : n < cfg0.N then ∑ r : Fin 2048, left m c (ix2 (i 0) (row ⟨n, h⟩ r)) * right m c (ix2 (row ⟨n, h⟩ r) (i 1)) else 0

theorem acc_reset_apply (c : Dev nD) (t : Fin cfg0.N) (h0 : t.val % 4 = 0) (i : S1024x1024.Idx) :
    accAfter m c t.val t.isLt i = 0 + accTerm m c t.val i := by
  idx_vars i
  rw [acc_reset m c t h0, pay2_apply, accTerm, dif_pos t.isLt, zero_add]
  exact Finset.sum_congr rfl fun r _ => by rw [left_apply, right_apply]; rfl

theorem acc_step_apply (c : Dev nD) (t : Fin cfg0.N) (h0 : ¬t.val % 4 = 0) (i : S1024x1024.Idx) :
    accAfter m c t.val t.isLt i
      = accAfter m c (t.val - 1) (Nat.lt_of_le_of_lt (Nat.sub_le _ _) t.isLt) i + accTerm m c t.val i := by
  idx_vars i
  rw [acc_step m c t h0, pay3_apply, accTerm, dif_pos t.isLt]
  exact congrArg _ (Finset.sum_congr rfl fun r _ => by rw [left_apply, right_apply]; rfl)

/-- The accumulator at the last row block. -/
theorem acc_final (c : Dev nD) (t : Fin cfg0.N) (h3 : t.val % 4 = 3) (l k : Fin 1024) :
    accAfter m c t.val t.isLt (ix2 l k) = dw m c l k := by
  have ht := lt4 t
  rw [Pipeline.eq_sum_of_reset_step_apply_of_mod (fun n h => accAfter m c n h) 4 (fun _ => 0) (accTerm m c)
    (acc_reset_apply m c) (acc_step_apply m c) t h3 (ix2 l k), zero_add, Finset.sum_range, dw,
    ← Fin.sum_mul_add_fin 4 2048 (fun i : Fin 8192 => left m c (ix2 l i) * right m c (ix2 i k)) rfl]
  refine Finset.sum_congr rfl fun s _ => ?_
  have hs := s.isLt
  have hN : 4 * (t.val / 4) + s.val < cfg0.N := lt_of_lt_of_eq (by omega) N_0.symm
  rw [accTerm, dif_pos hN]
  refine Finset.sum_congr rfl fun r _ => ?_
  have e1 : row ⟨4 * (t.val / 4) + s.val, hN⟩ r = ⟨s.val * 2048 + r.val, by omega⟩ := Fin.ext (by
    show (4 * (t.val / 4) + s.val) * 2048 + r.val = s.val * 2048 + r.val; omega)
  rw [show (ix2 l k : S1024x1024.Idx) 0 = l from rfl, show (ix2 l k : S1024x1024.Idx) 1 = k from rfl, e1]

/-- The reference's array, from device `c`'s arguments. -/
abbrev want (c : Dev nD) : Buf (Elt Ideal) ((c.tc : Thread nD τ).loc main_v0) :=
  Cert.Reference6Ideal.Read.val_main_v8 (F := Ideal) (arg m c main_arg0) (arg m c main_arg1)

open Cert.Reference6Ideal.Read in
theorem want_apply (c : Dev nD) (q : Fin 4) (p : Fin 256) (k : Fin 1024) :
    want m c (ix3 q p k) = dw m c ⟨q.val * 256 + p.val, by omega⟩ k := by
  have e : idx_main_v7 (idx_main_v8 (ix3 q p k)) = ix2 k ⟨q.val * 256 + p.val, by omega⟩ := by
    funext a
    match a with
    | ⟨0, _⟩ => exact Fin.ext (by show ((q.val * 256 + p.val) * 1024 + k.val) % 1024 = k.val; omega)
    | ⟨1, _⟩ => exact Fin.ext (by show ((q.val * 256 + p.val) * 1024 + k.val) / 1024 = q.val * 256 + p.val; omega)
  unfold want
  rw [val_main_v8_apply, val_main_v7_apply, e]
  unfold dw
  pointwise [val_main_v6, val_main_v2, val_main_v1, val_main_v0]
  exact sum_swap (fun i => right m c (ix2 i k)) (fun i => left m c (ix2 ⟨q.val * 256 + p.val, by omega⟩ i))

/-- The write-back writes its block of the reference's array. -/
theorem flushed_eq (c : Dev nD) (t : Fin cfg0.N) (hf : (cfg0.win 2).flush t = true) :
    (dats m 0 c).flushed 2 t = ((cfg0.win 2).blk t).view.read (Elt Ideal) (want m c) := by
  have h3 : t.val % 4 = 3 := (flush0_2 t).mp hf
  show (cfg0.win 2).cut (grid0.coords t) ((dats m 0 c).after 2 t) = _
  rw [after0_2, out_finish m c t h3]
  funext y
  obtain ⟨q, p, k, rfl⟩ : ∃ (q : Fin 4) (p : Fin 256) (k : Fin 1024), y = ix3 q p k := ⟨y 0, y 1, y 2, (ix3_eta y).symm⟩
  have e : ((cfg0.win 2).blk t).view.emb (ix3 q p k) = (ix3 q p k : S4x256x1024.Idx) := by
    have hi := idx2 t
    funext a
    match a with
    | ⟨0, _⟩ => exact Fin.ext (by show win0_2.index t (0 : Fin 3) * 4 + 1 * q.val = q.val; rw [hi]; show 0 * 4 + 1 * q.val = _; omega)
    | ⟨1, _⟩ => exact Fin.ext (by show win0_2.index t (1 : Fin 3) * 256 + 1 * p.val = p.val; rw [hi]; show 0 * 256 + 1 * p.val = _; omega)
    | ⟨2, _⟩ => exact Fin.ext (by show win0_2.index t (2 : Fin 3) * 1024 + 1 * k.val = k.val; rw [hi]; show 0 * 1024 + 1 * k.val = _; omega)
  show k0_pay4 (accAfter m c t.val t.isLt) (ix3 q p k) = want m c (((cfg0.win 2).blk t).view.emb (ix3 q p k))
  rw [e, pay4_apply, acc_final m c t h3]
  exact (want_apply m c q p k).symm

/-- The one point that writes back. -/
abbrev last : Fin cfg0.N := ⟨3, lt_of_lt_of_eq (by decide) N_0.symm⟩

/-- The kernel's array ends as the reference's. -/
theorem dw_eq (c : Dev nD) : (dats m 0 c).arrAt 2 cfg0.N = want m c := by
  refine (dats m 0 c).arrAt_eq_of_cover 2 _ (fun t hf => flushed_eq m c t hf) fun i => ?_
  obtain ⟨q, p, k, rfl⟩ : ∃ (q : Fin 4) (p : Fin 256) (k : Fin 1024), i = ix3 q p k := ⟨i 0, i 1, i 2, (ix3_eta i).symm⟩
  refine ⟨last, (flush0_2 _).mpr rfl, ?_⟩
  show (ix3 q p k : S4x256x1024.Idx) ∈ ((View.whole main_v0).slice (win0_2.rect last)).set
  rw [View.set_slice_whole, Rect.mem_set_unit]
  have hi := idx2 last
  intro a
  match a with
  | ⟨0, _⟩ =>
    show win0_2.index last (0 : Fin 3) * 4 ≤ q.val ∧ q.val < win0_2.index last (0 : Fin 3) * 4 + 4
    rw [hi]; show 0 * 4 ≤ q.val ∧ q.val < 0 * 4 + 4; omega
  | ⟨1, _⟩ =>
    show win0_2.index last (1 : Fin 3) * 256 ≤ p.val ∧ p.val < win0_2.index last (1 : Fin 3) * 256 + 256
    rw [hi]; show 0 * 256 ≤ p.val ∧ p.val < 0 * 256 + 256; omega
  | ⟨2, _⟩ =>
    show win0_2.index last (2 : Fin 3) * 1024 ≤ k.val ∧ k.val < win0_2.index last (2 : Fin 3) * 1024 + 1024
    rw [hi]; show 0 * 1024 ≤ k.val ∧ k.val < 0 * 1024 + 1024; omega

/-- The run, with what it leaves in the result and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v0) = want m c
    ∧ r.2.mem ((c.tc : Thread nD τ).loc main_arg0) = arg m c main_arg0 ∧ r.2.mem ((c.tc : Thread nD τ).loc main_arg1) = arg m c main_arg1 :=
  (θ_run defs _ _).mono (fun r h c =>
    ⟨(h.out_eq c 2).trans (dw_eq m c), (h.in_eq c 0 rfl).trans (A_eq m c 0), (h.in_eq c 1 rfl).trans (A_eq m c 1)⟩)
    (run_main m ρ)

end Cert.Kernel6Ideal.Wo
-- ==== Proof.WpaValue.lean ====
/-
  The gradient of the attention branch's weight: one column block of the weight at a time, the left operand read
  transposed, the products of four row blocks summed in an accumulator and written out at the last of them.
-/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel7Ideal.Wpa

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- An argument's array on device `c`. -/
abbrev arg (c : Dev nD) (b : Ref sig .tc) : Buf (Elt Ideal) ((c.tc : Thread nD τ).loc b) := m ((c.tc : Thread nD τ).loc b)

/-- The two operands, as arrays of extended reals: the left one lies transposed. -/
abbrev left (c : Dev nD) : (⟨2, ![512, 8192]⟩ : Shape).Idx → EReal := arg m c main_arg0
abbrev right (c : Dev nD) : (⟨2, ![8192, 1024]⟩ : Shape).Idx → EReal := arg m c main_arg1

/-- The accumulator after point `n`. -/
abbrev accAfter (c : Dev nD) (n : ℕ) (h : n < cfg0.N) : Vec Ideal S512x256 .f32 := (outsAt0 m c n h).2

theorem lt16 (t : Fin cfg0.N) : t.val < 16 := lt_of_lt_of_eq t.isLt N_0

/-- Row `r` of point `t`'s row block, among all rows; column `k` of its column block, among all columns. -/
abbrev row (t : Fin cfg0.N) (r : Fin 2048) : Fin 8192 := ⟨t.val % 4 * 2048 + r.val, by have := lt16 t; omega⟩
abbrev col (t : Fin cfg0.N) (k : Fin 256) : Fin 1024 := ⟨t.val / 4 * 256 + k.val, by have := lt16 t; omega⟩

theorem acc_reset (c : Dev nD) (t : Fin cfg0.N) (h : t.val % 4 = 0) :
    accAfter m c t.val t.isLt = k0_pay2 (iblk m c 0 t) (iblk m c 1 t) := by
  have ht := lt16 t
  unfold accAfter
  rw [outsAt0_A m c t h (by omega) (by omega)]
  frame_out

theorem acc_step (c : Dev nD) (t : Fin cfg0.N) (h : ¬t.val % 4 = 0) :
    accAfter m c t.val t.isLt
      = k0_pay3 (iblk m c 0 t) (iblk m c 1 t) (accAfter m c (t.val - 1) (Nat.lt_of_le_of_lt (Nat.sub_le _ _) t.isLt)) := by
  have ht := lt16 t
  unfold accAfter
  by_cases h3 : t.val % 4 = 3
  · rw [outsAt0_C m c t h (by omega) h3]; frame_out; simp only [read_unread_whole] <;> rfl
  · rw [outsAt0_B m c t h (by omega) h3]; frame_out; simp only [read_unread_whole] <;> rfl

theorem out_finish (c : Dev nD) (t : Fin cfg0.N) (h3 : t.val % 4 = 3) :
    (outsAt0 m c t.val t.isLt).1 = k0_pay4 (accAfter m c t.val t.isLt) := by
  have ht := lt16 t
  rw [acc_step m c t (by omega), outsAt0_C m c t (by omega) (by omega) h3]
  frame_out; simp only [read_unread_whole] <;> rfl

theorem idx0 : ∀ t : Fin cfg0.N, win0_0.index t = ![0, t.val % 4] := by decide +kernel
theorem idx1 : ∀ t : Fin cfg0.N, win0_1.index t = ![t.val % 4, t.val / 4] := by decide +kernel
theorem idx2 : ∀ t : Fin cfg0.N, win0_2.index t = ![t.val / 4, 0, 0] := by decide +kernel

theorem left_apply (c : Dev nD) (t : Fin cfg0.N) (l : Fin 512) (r : Fin 2048) :
    (iblk m c 0 t : Vec Ideal S512x2048 .bf16) (ix2 l r) = left m c (ix2 l (row t r)) := by
  blk_ext [iblk, V, idx0 t]
theorem right_apply (c : Dev nD) (t : Fin cfg0.N) (r : Fin 2048) (k : Fin 256) :
    (iblk m c 1 t : Vec Ideal S2048x256 .bf16) (ix2 r k) = right m c (ix2 (row t r) (col t k)) := by
  blk_ext [iblk, V, idx1 t]

theorem pay2_apply (a : Vec Ideal S512x2048 .bf16) (b : Vec Ideal S2048x256 .bf16) (l : Fin 512) (k : Fin 256) :
    k0_pay2 a b (ix2 l k) = ∑ r : Fin 2048, a (ix2 l r) * b (ix2 r k) := by
  pointwise [k0_pay2, k0_pay1]

theorem pay3_apply (a : Vec Ideal S512x2048 .bf16) (b : Vec Ideal S2048x256 .bf16) (acc : Vec Ideal S512x256 .f32) (l : Fin 512) (k : Fin 256) :
    k0_pay3 a b acc (ix2 l k) = acc (ix2 l k) + ∑ r : Fin 2048, a (ix2 l r) * b (ix2 r k) := by
  pointwise [k0_pay3, k0_pay1]

theorem pay4_apply (v : Vec Ideal S512x256 .f32) (q : Fin 1) (l : Fin 512) (k : Fin 256) :
    k0_pay4 v (ix3 q l k) = v (ix2 l k) := by
  pointwise [k0_pay4]

/-- The weight's gradient: the left operand's rows against the right operand's columns. -/
abbrev dw (c : Dev nD) (l : Fin 512) (k : Fin 1024) : EReal := ∑ i : Fin 8192, left m c (ix2 l i) * right m c (ix2 i k)

theorem sum_swap (a b : Fin 8192 → EReal) : ∑ i, a i * b i = ∑ i, b i * a i := Finset.sum_congr rfl fun i _ => mul_comm _ _

/-- What point `n` adds to the accumulator. -/
def accTerm (c : Dev nD) (n : ℕ) (i : S512x256.Idx) : EReal :=
  if h : n < cfg0.N then ∑ r : Fin 2048, left m c (ix2 (i 0) (row ⟨n, h⟩ r)) * right m c (ix2 (row ⟨n, h⟩ r) (col ⟨n, h⟩ (i 1))) else 0

theorem acc_reset_apply (c : Dev nD) (t : Fin cfg0.N) (h0 : t.val % 4 = 0) (i : S512x256.Idx) :
    accAfter m c t.val t.isLt i = 0 + accTerm m c t.val i := by
  idx_vars i
  rw [acc_reset m c t h0, pay2_apply, accTerm, dif_pos t.isLt, zero_add]
  exact Finset.sum_congr rfl fun r _ => by rw [left_apply, right_apply]; rfl

theorem acc_step_apply (c : Dev nD) (t : Fin cfg0.N) (h0 : ¬t.val % 4 = 0) (i : S512x256.Idx) :
    accAfter m c t.val t.isLt i
      = accAfter m c (t.val - 1) (Nat.lt_of_le_of_lt (Nat.sub_le _ _) t.isLt) i + accTerm m c t.val i := by
  idx_vars i
  rw [acc_step m c t h0, pay3_apply, accTerm, dif_pos t.isLt]
  exact congrArg _ (Finset.sum_congr rfl fun r _ => by rw [left_apply, right_apply]; rfl)

/-- The accumulator at the last row block. -/
theorem acc_final (c : Dev nD) (t : Fin cfg0.N) (h3 : t.val % 4 = 3) (l : Fin 512) (k : Fin 256) :
    accAfter m c t.val t.isLt (ix2 l k) = dw m c l (col t k) := by
  have ht := lt16 t
  rw [Pipeline.eq_sum_of_reset_step_apply_of_mod (fun n h => accAfter m c n h) 4 (fun _ => 0) (accTerm m c)
    (acc_reset_apply m c) (acc_step_apply m c) t h3 (ix2 l k), zero_add, Finset.sum_range, dw,
    ← Fin.sum_mul_add_fin 4 2048 (fun i : Fin 8192 => left m c (ix2 l i) * right m c (ix2 i (col t k))) rfl]
  refine Finset.sum_congr rfl fun s _ => ?_
  have hs := s.isLt
  have hN : 4 * (t.val / 4) + s.val < cfg0.N := lt_of_lt_of_eq (by omega) N_0.symm
  rw [accTerm, dif_pos hN]
  refine Finset.sum_congr rfl fun r _ => ?_
  have e1 : row ⟨4 * (t.val / 4) + s.val, hN⟩ r = ⟨s.val * 2048 + r.val, by omega⟩ := Fin.ext (by
    show (4 * (t.val / 4) + s.val) % 4 * 2048 + r.val = s.val * 2048 + r.val; omega)
  have e2 : col ⟨4 * (t.val / 4) + s.val, hN⟩ k = col t k := Fin.ext (by
    show (4 * (t.val / 4) + s.val) / 4 * 256 + k.val = t.val / 4 * 256 + k.val; omega)
  rw [show (ix2 l k : S512x256.Idx) 0 = l from rfl, show (ix2 l k : S512x256.Idx) 1 = k from rfl, e1, e2]

/-- The reference's array, from device `c`'s arguments. -/
abbrev want (c : Dev nD) : Buf (Elt Ideal) ((c.tc : Thread nD τ).loc main_v0) :=
  Cert.Reference7Ideal.Read.val_main_v10 (F := Ideal) (arg m c main_arg0) (arg m c main_arg1)

open Cert.Reference7Ideal.Read in
theorem want_apply (c : Dev nD) (n : Fin 4) (l : Fin 512) (k : Fin 256) :
    want m c (ix3 n l k) = dw m c l ⟨n.val * 256 + k.val, by omega⟩ := by
  have e : idx_main_v8 (idx_main_v9 (idx_main_v10 (ix3 n l k))) = ix2 ⟨n.val * 256 + k.val, by omega⟩ l := by
    funext a
    match a with
    | ⟨0, _⟩ => exact Fin.ext (by show ((l.val * 4 + n.val) * 256 + k.val) % 1024 = n.val * 256 + k.val; omega)
    | ⟨1, _⟩ => exact Fin.ext (by show ((l.val * 4 + n.val) * 256 + k.val) / 1024 = l.val; omega)
  unfold want
  rw [val_main_v10_apply, val_main_v9_apply, val_main_v8_apply, e]
  unfold dw
  pointwise [val_main_v7, val_main_v2, val_main_v1, val_main_v0]
  exact sum_swap (fun i => right m c (ix2 i ⟨n.val * 256 + k.val, by omega⟩)) (fun i => left m c (ix2 l i))

/-- The write-back writes its block of the reference's array. -/
theorem flushed_eq (c : Dev nD) (t : Fin cfg0.N) (hf : (cfg0.win 2).flush t = true) :
    (dats m 0 c).flushed 2 t = ((cfg0.win 2).blk t).view.read (Elt Ideal) (want m c) := by
  have h3 : t.val % 4 = 3 := (flush0_2 t).mp hf
  have ht := lt16 t
  show (cfg0.win 2).cut (grid0.coords t) ((dats m 0 c).after 2 t) = _
  rw [after0_2, out_finish m c t h3]
  funext y
  obtain ⟨q, l, k, rfl⟩ : ∃ (q : Fin 1) (l : Fin 512) (k : Fin 256), y = ix3 q l k := ⟨y 0, y 1, y 2, (ix3_eta y).symm⟩
  have e : ((cfg0.win 2).blk t).view.emb (ix3 q l k) = (ix3 ⟨t.val / 4, by omega⟩ l k : S4x512x256.Idx) := by
    have hi := idx2 t
    have hq : q.val = 0 := by omega
    funext a
    match a with
    | ⟨0, _⟩ => exact Fin.ext (by show win0_2.index t (0 : Fin 3) * 1 + 1 * q.val = t.val / 4; rw [hi]; show t.val / 4 * 1 + 1 * q.val = _; omega)
    | ⟨1, _⟩ => exact Fin.ext (by show win0_2.index t (1 : Fin 3) * 512 + 1 * l.val = l.val; rw [hi]; show 0 * 512 + 1 * l.val = _; omega)
    | ⟨2, _⟩ => exact Fin.ext (by show win0_2.index t (2 : Fin 3) * 256 + 1 * k.val = k.val; rw [hi]; show 0 * 256 + 1 * k.val = _; omega)
  show k0_pay4 (accAfter m c t.val t.isLt) (ix3 q l k) = want m c (((cfg0.win 2).blk t).view.emb (ix3 q l k))
  rw [e, pay4_apply, acc_final m c t h3]
  exact (want_apply m c ⟨t.val / 4, by omega⟩ l k).symm

/-- The point that writes back column block `n`. -/
abbrev last (n : Fin 4) : Fin cfg0.N := ⟨n.val * 4 + 3, lt_of_lt_of_eq (by omega) N_0.symm⟩

/-- The kernel's array ends as the reference's. -/
theorem dw_eq (c : Dev nD) : (dats m 0 c).arrAt 2 cfg0.N = want m c := by
  refine (dats m 0 c).arrAt_eq_of_cover 2 _ (fun t hf => flushed_eq m c t hf) fun i => ?_
  obtain ⟨n, l, k, rfl⟩ : ∃ (n : Fin 4) (l : Fin 512) (k : Fin 256), i = ix3 n l k := ⟨i 0, i 1, i 2, (ix3_eta i).symm⟩
  refine ⟨last n, (flush0_2 _).mpr (by show (n.val * 4 + 3) % 4 = 3; omega), ?_⟩
  show (ix3 n l k : S4x512x256.Idx) ∈ ((View.whole main_v0).slice (win0_2.rect (last n))).set
  rw [View.set_slice_whole, Rect.mem_set_unit]
  have hi := idx2 (last n)
  intro a
  match a with
  | ⟨0, _⟩ =>
    show win0_2.index (last n) (0 : Fin 3) * 1 ≤ n.val ∧ n.val < win0_2.index (last n) (0 : Fin 3) * 1 + 1
    rw [hi]; show (n.val * 4 + 3) / 4 * 1 ≤ n.val ∧ n.val < (n.val * 4 + 3) / 4 * 1 + 1; omega
  | ⟨1, _⟩ =>
    show win0_2.index (last n) (1 : Fin 3) * 512 ≤ l.val ∧ l.val < win0_2.index (last n) (1 : Fin 3) * 512 + 512
    rw [hi]; show 0 * 512 ≤ l.val ∧ l.val < 0 * 512 + 512; omega
  | ⟨2, _⟩ =>
    show win0_2.index (last n) (2 : Fin 3) * 256 ≤ k.val ∧ k.val < win0_2.index (last n) (2 : Fin 3) * 256 + 256
    rw [hi]; show 0 * 256 ≤ k.val ∧ k.val < 0 * 256 + 256; omega

/-- The run, with what it leaves in the result and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v0) = want m c
    ∧ r.2.mem ((c.tc : Thread nD τ).loc main_arg0) = arg m c main_arg0 ∧ r.2.mem ((c.tc : Thread nD τ).loc main_arg1) = arg m c main_arg1 :=
  (θ_run defs _ _).mono (fun r h c =>
    ⟨(h.out_eq c 2).trans (dw_eq m c), (h.in_eq c 0 rfl).trans (A_eq m c 0), (h.in_eq c 1 rfl).trans (A_eq m c 1)⟩)
    (run_main m ρ)

end Cert.Kernel7Ideal.Wpa
-- ==== Proof.GwState.lean ====
/-
  The projection weight's gradient call, point by point: 12 column blocks, each summed over 4 row blocks in an
  accumulator. The projection's gradient lies in four arrays, and a column block is read from one of them.
-/
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel2Ideal.Gw

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- An argument's array on device `c`. -/
abbrev arg (c : Dev nD) (b : Ref sig .tc) : Buf (Elt Ideal) ((c.tc : Thread nD τ).loc b) := m ((c.tc : Thread nD τ).loc b)

/-- The block of the projection's gradient that point `t` multiplies: which of the four arrays it is read from. -/
def part (c : Dev nD) (t : Fin cfg0.N) : Vec Ideal S2048x768 .bf16 :=
  if t.val < 8 then iblk m c 1 t else if t.val < 16 then iblk m c 2 t
  else if t.val < 24 then iblk m c 3 t else iblk m c 4 t

/-- The accumulator after point `n`. -/
abbrev accAfter (c : Dev nD) (n : ℕ) (h : n < cfg0.N) : Vec Ideal S1024x768 .f32 := (outsAt0 m c n h).2

theorem lt48 (t : Fin cfg0.N) : t.val < 48 := lt_of_lt_of_eq t.isLt N_0

theorem part_first (c : Dev nD) (t : Fin cfg0.N) (h : t.val < 8) : part m c t = iblk m c 1 t := if_pos h
theorem part_second (c : Dev nD) (t : Fin cfg0.N) (h : 2 ≤ t.val / 4 % 12 ∧ t.val / 4 % 12 ≤ 3) : part m c t = iblk m c 2 t := by
  have := lt48 t
  exact (if_neg (by omega)).trans (if_pos (by omega))
theorem part_third (c : Dev nD) (t : Fin cfg0.N) (h : 4 ≤ t.val / 4 % 12 ∧ t.val / 4 % 12 ≤ 5) : part m c t = iblk m c 3 t := by
  have := lt48 t
  exact (if_neg (by omega)).trans ((if_neg (by omega)).trans (if_pos (by omega)))
theorem part_last (c : Dev nD) (t : Fin cfg0.N) (h : 24 ≤ t.val) : part m c t = iblk m c 4 t :=
  (if_neg (by omega)).trans ((if_neg (by omega)).trans (if_neg (by omega)))

theorem acc_reset (c : Dev nD) (t : Fin cfg0.N) (h0 : t.val % 4 = 0) :
    accAfter m c t.val t.isLt = k0_pay2 (k0_pay1 (F := Ideal)) (iblk m c 0 t) (part m c t) := by
  have ht := lt48 t
  unfold accAfter
  by_cases h1 : t.val < 8
  · rw [outsAt0_A m c t h0 h1 (by omega) (by omega) (by omega) (by omega), part_first m c t h1]
    frame_out
  by_cases h2 : 2 ≤ t.val / 4 % 12 ∧ t.val / 4 % 12 ≤ 3
  · rw [outsAt0_D m c t h0 h1 h2 (by omega) (by omega) (by omega), part_second m c t h2]
    frame_out
    rfl
  by_cases h3 : 4 ≤ t.val / 4 % 12 ∧ t.val / 4 % 12 ≤ 5
  · rw [outsAt0_G m c t h0 h1 h2 h3 (by omega) (by omega), part_third m c t h3]
    frame_out
    rfl
  · rw [outsAt0_J m c t h0 h1 h2 h3 (by omega) (by omega), part_last m c t (by omega)]
    frame_out
    rfl

theorem acc_step (c : Dev nD) (t : Fin cfg0.N) (h0 : ¬t.val % 4 = 0) :
    accAfter m c t.val t.isLt
      = k0_pay2 (accAfter m c (t.val - 1) (Nat.lt_of_le_of_lt (Nat.sub_le _ _) t.isLt)) (iblk m c 0 t) (part m c t) := by
  have ht := lt48 t
  unfold accAfter
  by_cases h1 : t.val < 8
  · rw [part_first m c t h1]
    by_cases h5 : t.val % 4 = 3
    · rw [outsAt0_C m c t h0 h1 (by omega) (by omega) (by omega) h5]; frame_out; simp only [read_unread_whole] <;> rfl
    · rw [outsAt0_B m c t h0 h1 (by omega) (by omega) (by omega) h5]; frame_out; simp only [read_unread_whole] <;> rfl
  by_cases h2 : 2 ≤ t.val / 4 % 12 ∧ t.val / 4 % 12 ≤ 3
  · rw [part_second m c t h2]
    by_cases h5 : t.val % 4 = 3
    · rw [outsAt0_F m c t h0 h1 h2 (by omega) (by omega) h5]; frame_out; simp only [read_unread_whole] <;> rfl
    · rw [outsAt0_E m c t h0 h1 h2 (by omega) (by omega) h5]; frame_out; simp only [read_unread_whole] <;> rfl
  by_cases h3 : 4 ≤ t.val / 4 % 12 ∧ t.val / 4 % 12 ≤ 5
  · rw [part_third m c t h3]
    by_cases h5 : t.val % 4 = 3
    · rw [outsAt0_I m c t h0 h1 h2 h3 (by omega) h5]; frame_out; simp only [read_unread_whole] <;> rfl
    · rw [outsAt0_H m c t h0 h1 h2 h3 (by omega) h5]; frame_out; simp only [read_unread_whole] <;> rfl
  · rw [part_last m c t (by omega)]
    by_cases h5 : t.val % 4 = 3
    · rw [outsAt0_L m c t h0 h1 h2 h3 (by omega) h5]; frame_out; simp only [read_unread_whole] <;> rfl
    · rw [outsAt0_K m c t h0 h1 h2 h3 (by omega) h5]; frame_out; simp only [read_unread_whole] <;> rfl

/-- The last row block's point writes out what the accumulator then holds. -/
theorem out_finish (c : Dev nD) (t : Fin cfg0.N) (h5 : t.val % 4 = 3) :
    (outsAt0 m c t.val t.isLt).1 = k0_pay6 (accAfter m c t.val t.isLt) := by
  have ht := lt48 t
  have h0 : ¬t.val % 4 = 0 := by omega
  rw [acc_step m c t h0]
  by_cases h1 : t.val < 8
  · rw [outsAt0_C m c t h0 h1 (by omega) (by omega) (by omega) h5, part_first m c t h1]
    frame_out; simp only [read_unread_whole] <;> rfl
  by_cases h2 : 2 ≤ t.val / 4 % 12 ∧ t.val / 4 % 12 ≤ 3
  · rw [outsAt0_F m c t h0 h1 h2 (by omega) (by omega) h5, part_second m c t h2]
    frame_out; simp only [read_unread_whole] <;> rfl
  by_cases h3 : 4 ≤ t.val / 4 % 12 ∧ t.val / 4 % 12 ≤ 5
  · rw [outsAt0_I m c t h0 h1 h2 h3 (by omega) h5, part_third m c t h3]
    frame_out; simp only [read_unread_whole] <;> rfl
  · rw [outsAt0_L m c t h0 h1 h2 h3 (by omega) h5, part_last m c t (by omega)]
    frame_out; simp only [read_unread_whole] <;> rfl

end Cert.Kernel2Ideal.Gw
-- ==== Proof.GwValue.lean ====
/-
  The projection weight's gradient: the blocks that the call reads, what its accumulator sums, and the equality with
  the gradient of the product.
-/
module

public import proofs.«01_k».proof.Proof.GwState
public import proofs.«01_k».proof.Proof.Gen.Reference2Ideal.Read

@[expose] public section

set_option maxRecDepth 16384

noncomputable section

namespace Cert.Kernel2Ideal.Gw

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![0, t.val % 4] := by decide +kernel
theorem idx1 : ∀ t : Fin cfg0.N, t.val < 8 → win0_1.index t = ![t.val % 4, t.val / 4] := by decide +kernel
theorem idx2 : ∀ t : Fin cfg0.N, ¬t.val < 8 → t.val < 16 → win0_2.index t = ![t.val % 4, t.val / 4 - 2] := by decide +kernel
theorem idx3 : ∀ t : Fin cfg0.N, ¬t.val < 16 → t.val < 24 → win0_3.index t = ![t.val % 4, t.val / 4 - 4] := by decide +kernel
theorem idx4 : ∀ t : Fin cfg0.N, ¬t.val < 24 → win0_4.index t = ![t.val % 4, t.val / 4 - 6] := by decide +kernel

/-- Row `r` of point `t`'s row block, among all rows. -/
abbrev row (t : Fin cfg0.N) (r : Fin 2048) : Fin 8192 := ⟨t.val % 4 * 2048 + r.val, by omega⟩
/-- Column `k` of point `t`'s column block, among all columns. -/
abbrev col (t : Fin cfg0.N) (k : Fin 768) : Fin 9216 := ⟨t.val / 4 * 768 + k.val, by have := lt48 t; omega⟩

/-- The four pieces of the projection's gradient side by side. -/
abbrev dproj (c : Dev nD) : (⟨2, ![8192, 9216]⟩ : Shape).Idx → EReal :=
  Cert.Reference2Ideal.Read.val_main_v0 (F := Ideal) (arg m c main_arg4) (arg m c main_arg5) (arg m c main_arg6) (arg m c main_arg7)

/-- The projection's input: the normed and modulated rows. -/
abbrev hidden (c : Dev nD) : (⟨2, ![8192, 1024]⟩ : Shape).Idx → EReal :=
  Cert.Reference2Ideal.Read.val_main_v20 (F := Ideal) (arg m c main_arg0) (arg m c main_arg1) (arg m c main_arg2) (arg m c main_arg3)

theorem part_apply (c : Dev nD) (t : Fin cfg0.N) (r : Fin 2048) (k : Fin 768) :
    part m c t (ix2 r k) = dproj m c (ix2 (row t r) (col t k)) := by
  have ht := lt48 t
  unfold dproj part Cert.Reference2Ideal.Read.val_main_v0
  pointwise
  by_cases k1 : t.val < 8
  · rw [if_pos k1, dif_pos (by omega)]
    blk_ext [iblk, V, idx1 t k1]
  by_cases k3 : t.val < 16
  · rw [if_neg k1, if_pos k3, dif_neg (by omega), dif_pos (by omega)]
    blk_ext [iblk, V, idx2 t k1 k3]
  by_cases k5 : t.val < 24
  · rw [if_neg k1, if_neg k3, if_pos k5, dif_neg (by omega), dif_neg (by omega), dif_pos (by omega)]
    blk_ext [iblk, V, idx3 t k3 k5]
  · rw [if_neg k1, if_neg k3, if_neg k5, dif_neg (by omega), dif_neg (by omega), dif_neg (by omega)]
    blk_ext [iblk, V, idx4 t k5]

/-- The array that the host lays out for the call is the projection's input, transposed. -/
theorem hidden_array (c : Dev nD) : (V m c main_v19 : Vec Ideal S1024x8192 .bf16)
    = truncf (F := Ideal) .bf16 (transpose S1024x8192 [1, 0] (Cert.Reference2Ideal.Read.val_main_v20 (F := Ideal) (arg m c main_arg0)
        (arg m c main_arg1) (arg m c main_arg2) (arg m c main_arg3) : Vec Ideal S8192x1024 .f32) transposes_S8192x1024_S1024x8192_1_0)
        bitsLt_bf16_f32 := by
  unfold V
  after_results_simp
  rfl

theorem hidden_apply (c : Dev nD) (t : Fin cfg0.N) (l : Fin 1024) (r : Fin 2048) :
    (iblk m c 0 t : Vec Ideal S1024x2048 .bf16) (ix2 l r) = hidden m c (ix2 (row t r) l) := by
  have e : (iblk m c 0 t : Vec Ideal S1024x2048 .bf16) (ix2 l r) = (V m c main_v19 : Vec Ideal S1024x8192 .bf16) (ix2 l (row t r)) := by
    blk_ext [iblk, idx0 t]
  rw [e, hidden_array]
  unfold hidden
  generalize Cert.Reference2Ideal.Read.val_main_v20 (F := Ideal) (arg m c main_arg0) (arg m c main_arg1) (arg m c main_arg2) (arg m c main_arg3) = y
  pointwise

theorem pay2_apply (acc : Vec Ideal S1024x768 .f32) (h : Vec Ideal S1024x2048 .bf16) (p : Vec Ideal S2048x768 .bf16) (l : Fin 1024) (k : Fin 768) :
    k0_pay2 acc h p (ix2 l k) = acc (ix2 l k) + ∑ r : Fin 2048, h (ix2 l r) * p (ix2 r k) := by
  pointwise [k0_pay2]

theorem pay1_apply (l : Fin 1024) (k : Fin 768) : k0_pay1 (F := Ideal) (ix2 l k) = 0 := by pointwise [k0_pay1]

theorem pay6_apply (v : Vec Ideal S1024x768 .f32) (l : Fin 1024) (k : Fin 768) : k0_pay6 v (ix3 0 l k) = v (ix2 l k) := by
  pointwise [k0_pay6]

/-- The weight's gradient: rows of the input against columns of the projection's gradient. -/
abbrev dw (c : Dev nD) (l : Fin 1024) (k : Fin 9216) : EReal := ∑ i : Fin 8192, hidden m c (ix2 i l) * dproj m c (ix2 i k)

open Cert.Reference2Ideal.Read in
theorem ref_dw (c : Dev nD) (q : Fin 4) (l : Fin 1024) (k : Fin 2304) :
    val_main_v25 (F := Ideal) (arg m c main_arg0) (arg m c main_arg1) (arg m c main_arg2) (arg m c main_arg3)
      (arg m c main_arg4) (arg m c main_arg5) (arg m c main_arg6) (arg m c main_arg7) (ix3 q l k)
      = dw m c l ⟨q.val * 2304 + k.val, by omega⟩ := by
  have e : idx_main_v24 (idx_main_v25 (ix3 q l k)) = ix2 l ⟨q.val * 2304 + k.val, by omega⟩ := by
    funext a
    match a with
    | ⟨0, _⟩ => exact Fin.ext (by show ((l.val * 4 + q.val) * 2304 + k.val) / 9216 = l.val; omega)
    | ⟨1, _⟩ => exact Fin.ext (by show ((l.val * 4 + q.val) * 2304 + k.val) % 9216 = q.val * 2304 + k.val; omega)
  rw [val_main_v25_apply, val_main_v24_apply, e]
  unfold dw
  pointwise [val_main_v23, val_main_v22, val_main_v1]
  exact Finset.sum_congr rfl fun i _ => mul_comm _ _

/-- What point `n` adds to the accumulator. -/
def accTerm (c : Dev nD) (n : ℕ) (i : S1024x768.Idx) : EReal :=
  if h : n < cfg0.N then ∑ r : Fin 2048, hidden m c (ix2 (row ⟨n, h⟩ r) (i 0)) * dproj m c (ix2 (row ⟨n, h⟩ r) (col ⟨n, h⟩ (i 1))) else 0

theorem acc_reset_apply (c : Dev nD) (t : Fin cfg0.N) (h0 : t.val % 4 = 0) (i : S1024x768.Idx) :
    accAfter m c t.val t.isLt i = 0 + accTerm m c t.val i := by
  idx_vars i
  rw [acc_reset m c t h0, pay2_apply, pay1_apply, accTerm, dif_pos t.isLt]
  refine congrArg _ (Finset.sum_congr rfl fun r _ => ?_)
  rw [part_apply, hidden_apply]; rfl

theorem acc_step_apply (c : Dev nD) (t : Fin cfg0.N) (h0 : ¬t.val % 4 = 0) (i : S1024x768.Idx) :
    accAfter m c t.val t.isLt i
      = accAfter m c (t.val - 1) (Nat.lt_of_le_of_lt (Nat.sub_le _ _) t.isLt) i + accTerm m c t.val i := by
  idx_vars i
  rw [acc_step m c t h0, pay2_apply, accTerm, dif_pos t.isLt]
  refine congrArg _ (Finset.sum_congr rfl fun r _ => ?_)
  rw [part_apply, hidden_apply]; rfl

/-- The accumulator at a column block's last row block. -/
theorem acc_final (c : Dev nD) (t : Fin cfg0.N) (h3 : t.val % 4 = 3) (l : Fin 1024) (k : Fin 768) :
    accAfter m c t.val t.isLt (ix2 l k) = dw m c l (col t k) := by
  have ht := lt48 t
  rw [Pipeline.eq_sum_of_reset_step_apply_of_mod (fun n h => accAfter m c n h) 4 (fun _ => 0) (accTerm m c)
    (acc_reset_apply m c) (acc_step_apply m c) t h3 (ix2 l k), zero_add, Finset.sum_range, dw,
    ← Fin.sum_mul_add_fin 4 2048 (fun i : Fin 8192 => hidden m c (ix2 i l) * dproj m c (ix2 i (col t k))) rfl]
  refine Finset.sum_congr rfl fun s _ => ?_
  have hs := s.isLt
  have hN : 4 * (t.val / 4) + s.val < cfg0.N := lt_of_lt_of_eq (by omega) N_0.symm
  rw [accTerm, dif_pos hN]
  refine Finset.sum_congr rfl fun r _ => ?_
  have e1 : row ⟨4 * (t.val / 4) + s.val, hN⟩ r = ⟨s.val * 2048 + r.val, by omega⟩ := Fin.ext (by
    show (4 * (t.val / 4) + s.val) % 4 * 2048 + r.val = s.val * 2048 + r.val; omega)
  have e2 : col ⟨4 * (t.val / 4) + s.val, hN⟩ k = col t k :=
    Fin.ext (by show (4 * (t.val / 4) + s.val) / 4 * 768 + k.val = t.val / 4 * 768 + k.val; omega)
  rw [show (ix2 l k : S1024x768.Idx) 0 = l from rfl, show (ix2 l k : S1024x768.Idx) 1 = k from rfl, e1, e2]

/-- The reference's array, from device `c`'s arguments. -/
abbrev want (c : Dev nD) : Buf (Elt Ideal) ((c.tc : Thread nD τ).loc main_v20) :=
  Cert.Reference2Ideal.Read.val_main_v25 (F := Ideal) (arg m c main_arg0) (arg m c main_arg1)
    (arg m c main_arg2) (arg m c main_arg3) (arg m c main_arg4) (arg m c main_arg5) (arg m c main_arg6) (arg m c main_arg7)

theorem idx5 : ∀ t : Fin cfg0.N, win0_5.index t = ![t.val / 12, 0, t.val / 4 % 3] := by decide +kernel

/-- The point that writes back the block of column `k` of quarter `q`. -/
abbrev ptOf (q : Fin 4) (k : Fin 2304) : Fin cfg0.N := ⟨q.val * 12 + k.val / 768 * 4 + 3, lt_of_lt_of_eq (by omega) N_0.symm⟩

/-- Every write-back writes its block of the reference's array. -/
theorem flushed_eq (c : Dev nD) (t : Fin cfg0.N) (hf : (cfg0.win 5).flush t = true) :
    (dats m 0 c).flushed 5 t = ((cfg0.win 5).blk t).view.read (Elt Ideal) (want m c) := by
  have h3 : t.val % 4 = 3 := (flush0_5 t).mp hf
  have ht := lt48 t
  show (cfg0.win 5).cut (grid0.coords t) ((dats m 0 c).after 5 t) = _
  rw [after0_5, out_finish m c t h3]
  funext y
  obtain ⟨z, l, k, rfl⟩ : ∃ (z : Fin 1) (l : Fin 1024) (k : Fin 768), y = ix3 z l k := ⟨y 0, y 1, y 2, (ix3_eta y).symm⟩
  obtain rfl : z = 0 := Subsingleton.elim _ _
  have e : ((cfg0.win 5).blk t).view.emb (ix3 0 l k)
      = (ix3 (⟨t.val / 12, by omega⟩ : Fin 4) l (⟨t.val / 4 % 3 * 768 + k.val, by omega⟩ : Fin 2304) : S4x1024x2304.Idx) := by
    have hi := idx5 t
    funext a
    match a with
    | ⟨0, _⟩ => exact Fin.ext (by show win0_5.index t (0 : Fin 3) * 1 + 1 * 0 = t.val / 12; rw [hi]; show t.val / 12 * 1 + 1 * 0 = _; omega)
    | ⟨1, _⟩ => exact Fin.ext (by show win0_5.index t (1 : Fin 3) * 1024 + 1 * l.val = l.val; rw [hi]; show 0 * 1024 + 1 * l.val = _; omega)
    | ⟨2, _⟩ => exact Fin.ext (by
        show win0_5.index t (2 : Fin 3) * 768 + 1 * k.val = t.val / 4 % 3 * 768 + k.val
        rw [hi]; show t.val / 4 % 3 * 768 + 1 * k.val = _; omega)
  show k0_pay6 (accAfter m c t.val t.isLt) (ix3 0 l k) = want m c (((cfg0.win 5).blk t).view.emb (ix3 0 l k))
  rw [e, pay6_apply, acc_final m c t h3]
  refine Eq.trans ?_ (ref_dw m c _ l _).symm
  exact congrArg (dw m c l) (Fin.ext (by show t.val / 4 * 768 + k.val = t.val / 12 * 2304 + (t.val / 4 % 3 * 768 + k.val); omega))

/-- The kernel's array ends as the reference's. -/
theorem dw_eq (c : Dev nD) : (dats m 0 c).arrAt 5 cfg0.N = want m c := by
  refine (dats m 0 c).arrAt_eq_of_cover 5 _ (fun t hf => flushed_eq m c t hf) fun i => ?_
  obtain ⟨q, l, k, rfl⟩ : ∃ (q : Fin 4) (l : Fin 1024) (k : Fin 2304), i = ix3 q l k := ⟨i 0, i 1, i 2, (ix3_eta i).symm⟩
  refine ⟨ptOf q k, (flush0_5 _).mpr (by show (q.val * 12 + k.val / 768 * 4 + 3) % 4 = 3; omega), ?_⟩
  show (ix3 q l k : S4x1024x2304.Idx) ∈ ((View.whole main_v20).slice (win0_5.rect (ptOf q k))).set
  rw [View.set_slice_whole, Rect.mem_set_unit]
  have hi := idx5 (ptOf q k)
  intro a
  match a with
  | ⟨0, _⟩ =>
    show win0_5.index (ptOf q k) (0 : Fin 3) * 1 ≤ q.val ∧ q.val < win0_5.index (ptOf q k) (0 : Fin 3) * 1 + 1
    rw [hi]
    show (q.val * 12 + k.val / 768 * 4 + 3) / 12 * 1 ≤ q.val ∧ q.val < (q.val * 12 + k.val / 768 * 4 + 3) / 12 * 1 + 1
    omega
  | ⟨1, _⟩ =>
    show win0_5.index (ptOf q k) (1 : Fin 3) * 1024 ≤ l.val ∧ l.val < win0_5.index (ptOf q k) (1 : Fin 3) * 1024 + 1024
    rw [hi]
    show 0 * 1024 ≤ l.val ∧ l.val < 0 * 1024 + 1024
    omega
  | ⟨2, _⟩ =>
    show win0_5.index (ptOf q k) (2 : Fin 3) * 768 ≤ k.val ∧ k.val < win0_5.index (ptOf q k) (2 : Fin 3) * 768 + 768
    rw [hi]
    show (q.val * 12 + k.val / 768 * 4 + 3) / 4 % 3 * 768 ≤ k.val ∧ k.val < (q.val * 12 + k.val / 768 * 4 + 3) / 4 % 3 * 768 + 768
    omega

/-- The run, with what it leaves in the result and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v20) = want m c
    ∧ r.2.mem ((c.tc : Thread nD τ).loc main_arg0) = arg m c main_arg0 ∧ r.2.mem ((c.tc : Thread nD τ).loc main_arg1) = arg m c main_arg1
    ∧ r.2.mem ((c.tc : Thread nD τ).loc main_arg2) = arg m c main_arg2 ∧ r.2.mem ((c.tc : Thread nD τ).loc main_arg3) = arg m c main_arg3
    ∧ r.2.mem ((c.tc : Thread nD τ).loc main_arg4) = arg m c main_arg4 ∧ r.2.mem ((c.tc : Thread nD τ).loc main_arg5) = arg m c main_arg5
    ∧ r.2.mem ((c.tc : Thread nD τ).loc main_arg6) = arg m c main_arg6 ∧ r.2.mem ((c.tc : Thread nD τ).loc main_arg7) = arg m c main_arg7 :=
  (θ_run defs _ _).mono (fun r h c =>
    ⟨(h.out_eq c 5).trans (dw_eq m c),
      (h.rest_eq c main_arg0 (by decide)).trans (V_main_arg0 m c), (h.rest_eq c main_arg1 (by decide)).trans (V_main_arg1 m c),
      (h.rest_eq c main_arg2 (by decide)).trans (V_main_arg2 m c), (h.rest_eq c main_arg3 (by decide)).trans (V_main_arg3 m c),
      (h.in_eq c 1 rfl).trans ((A_eq m c 1).trans (V_main_arg4 m c)), (h.in_eq c 2 rfl).trans ((A_eq m c 2).trans (V_main_arg5 m c)),
      (h.in_eq c 3 rfl).trans ((A_eq m c 3).trans (V_main_arg6 m c)), (h.in_eq c 4 rfl).trans ((A_eq m c 4).trans (V_main_arg7 m c))⟩)
    (run_main m ρ)

end Cert.Kernel2Ideal.Gw
-- ==== Proof.ProjRun.lean ====
/-
  The forward projection's call, point by point. The grid has eight row blocks and four column blocks; a row block's
  first point norms and modulates its rows, keeps them in scratch and stores them transposed; every point multiplies
  them by its column block of the weight. The run holds over any float values.
-/
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.Pipeline.TableIdle
public import Idealize.ShloMosaic.Lib.VecWindow
public import Idealize.ShloMosaic.Lib.Claim
public import Idealize.ShloMosaic.Lib.Tactic

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scr : Memref sig .tc .vmem S1024x1024 .bf16 := Memref.whole cc0_scratch0

theorem lt32 (t : Fin cfg0.N) : t.val < 32 := lt_of_lt_of_eq t.isLt N_0

/-- The first point of `t`'s row block. -/
abbrev base (t : Fin cfg0.N) : Fin cfg0.N := ⟨t.val / 4 * 4, lt_of_le_of_lt (Nat.div_mul_le_self _ _) t.isLt⟩

/-- The rows' block of `t`, normed and modulated: what the scratch holds. -/
def rowsOf (c : Dev nD) (t : Fin cfg0.N) : Vec F S1024x1024 .bf16 :=
  k0_pay2 (iblk m c 0 (base t)) (iblk m c 1 (base t)) (iblk m c 3 (base t)) (iblk m c 2 (base t))
/-- The same transposed: what the second result's block holds. -/
def colsOf (c : Dev nD) (t : Fin cfg0.N) : Vec F S1024x1024 .bf16 :=
  k0_pay3 (iblk m c 0 (base t)) (iblk m c 1 (base t)) (iblk m c 3 (base t)) (iblk m c 2 (base t))
/-- The product of `t`'s rows and its column block of the weight. -/
def prodOf (c : Dev nD) (t : Fin cfg0.N) : Vec F S1024x2304 .bf16 := k0_pay4 (rowsOf m c t) (iblk m c 4 t)

theorem base_first (t : Fin cfg0.N) (h : t.val % 4 = 0) : base t = t := Fin.ext (by show t.val / 4 * 4 = t.val; omega)
theorem base_pred (t : Fin cfg0.N) (h : t.val % 4 ≠ 0) (h' : t.val - 1 < cfg0.N) : base ⟨t.val - 1, h'⟩ = base t :=
  Fin.ext (by show (t.val - 1) / 4 * 4 = t.val / 4 * 4; omega)
theorem rowsOf_pred (c : Dev nD) (t : Fin cfg0.N) (h : t.val % 4 ≠ 0) (h' : t.val - 1 < cfg0.N) :
    rowsOf m c ⟨t.val - 1, h'⟩ = rowsOf m c t := by unfold rowsOf; rw [base_pred t h]
theorem colsOf_pred (c : Dev nD) (t : Fin cfg0.N) (h : t.val % 4 ≠ 0) (h' : t.val - 1 < cfg0.N) :
    colsOf m c ⟨t.val - 1, h'⟩ = colsOf m c t := by unfold colsOf; rw [base_pred t h]

/-! ## The body -/

set_option maxHeartbeats 1000000 in
/-- The body at a row block's first point. -/
theorem body_first (c : Dev nD) (i : grid0.Coords) (M0 : Memref sig .tc .vmem S1024x1024 .f32) (h0 : M0.IsWhole)
    (M1 : Memref sig .tc .vmem S1x1024 .f32) (h1 : M1.IsWhole) (M2 : Memref sig .tc .vmem S1x1024 .f32) (h2 : M2.IsWhole)
    (M3 : Memref sig .tc .vmem S1x1024 .f32) (h3 : M3.IsWhole) (M4 : Memref sig .tc .vmem S1x1024x2304 .bf16) (h4 : M4.IsWhole)
    (M5 : Memref sig .tc .vmem S1024x2304 .bf16) (h5 : M5.IsWhole) (M6 : Memref sig .tc .vmem S1024x1024 .bf16) (h6 : M6.IsWhole)
    (M7 : Memref sig .tc .vmem S1024x1024 .bf16) (h7 : M7.IsWhole) (hc : k0_cond1 i = 1#1)
    (x0 : Vec F S1024x1024 .f32) (x1 x2 x3 : Vec F S1x1024 .f32) (x4 : Vec F S1x1024x2304 .bf16) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ (∃ d, owns (c : Thread nD τ) M6 fullShare d) ∗ (∃ d, owns (c : Thread nD τ) M7 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4
            ∗ owns (c : Thread nD τ) M5 fullShare (k0_pay4 (k0_pay2 x0 x1 x3 x2) x4) ∗ owns (c : Thread nD τ) M6 fullShare (k0_pay3 x0 x1 x3 x2)
            ∗ owns (c : Thread nD τ) M7 fullShare (k0_pay2 x0 x1 x3 x2)) -∗ K ⟨⟩))
      ⊢ wp frame (wpE (defs₀ (F := F)) Variants.none c none) E (cc0_proj i M0 h0 M1 h1 M2 h2 M3 h3 M4 h4 M5 h5 M6 h6 M7 h7) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h0.eq_unread hf0; obtain rfl := h1.eq_unread hf1; obtain rfl := h2.eq_unread hf2
  obtain rfl := h3.eq_unread hf3; obtain rfl := h4.eq_unread hf4
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    frame_out
    exact View.read_writes_full _ _ _ _ []
  isplitl [H6]
  · iexists _; isplitr
    swap; · iexact H6
    ipureintro
    frame_out
    exact View.read_writes_full _ _ _ _ []
  iexists _; isplitr
  swap; · iexact H7
  ipureintro
  frame_out
  exact View.read_writes_full _ _ _ _ []

set_option maxHeartbeats 1000000 in
/-- The body at a row block's other points: the rows are in scratch, and the second result's block is not touched. -/
theorem body_next (c : Dev nD) (i : grid0.Coords) (M0 : Memref sig .tc .vmem S1024x1024 .f32) (h0 : M0.IsWhole)
    (M1 : Memref sig .tc .vmem S1x1024 .f32) (h1 : M1.IsWhole) (M2 : Memref sig .tc .vmem S1x1024 .f32) (h2 : M2.IsWhole)
    (M3 : Memref sig .tc .vmem S1x1024 .f32) (h3 : M3.IsWhole) (M4 : Memref sig .tc .vmem S1x1024x2304 .bf16) (h4 : M4.IsWhole)
    (M5 : Memref sig .tc .vmem S1024x2304 .bf16) (h5 : M5.IsWhole) (M6 : Memref sig .tc .vmem S1024x1024 .bf16) (h6 : M6.IsWhole)
    (M7 : Memref sig .tc .vmem S1024x1024 .bf16) (h7 : M7.IsWhole) (hc : ¬ k0_cond1 i = 1#1)
    (x4 : Vec F S1x1024x2304 .bf16) (x7 : Vec F S1024x1024 .bf16) (E : Set ℕ) (K : PUnit → sProp 𝕄) :
    iprop(owns (c : Thread nD τ) M4 fullShare x4 ∗ (∃ d, owns (c : Thread nD τ) M5 fullShare d)
        ∗ owns (c : Thread nD τ) M7 fullShare x7
        ∗ (iprop(owns (c : Thread nD τ) M4 fullShare x4 ∗ owns (c : Thread nD τ) M5 fullShare (k0_pay4 x7 x4)
            ∗ owns (c : Thread nD τ) M7 fullShare x7) -∗ K ⟨⟩))
      ⊢ wp frame (wpE (defs₀ (F := F)) Variants.none c none) E (cc0_proj i M0 h0 M1 h1 M2 h2 M3 h3 M4 h4 M5 h5 M6 h6 M7 h7) K := by
  simp only [cc0_proj_eq_skeleton]; unfold cc0_proj_skel
  unfold owns
  iintro ⟨⟨%f4, %hf4, H4⟩, ⟨%d5, %f5, -, H5⟩, ⟨%f7, %hf7, H7⟩, Hk⟩
  obtain rfl := h4.eq_unread hf4; obtain rfl := h7.eq_unread hf7
  sl_exec (disch := sl_exact hc)
  sl_step
  iapply Hk
  isplitl [H4]
  · iexists _; isplitr; · ipureintro; exact h4.read_unread _
    iexact H4
  isplitl [H5]
  · iexists _; isplitr
    swap; · iexact H5
    ipureintro
    frame_out
    exact View.read_writes_full _ _ _ _ []
  iexists _; isplitr; · ipureintro; exact h7.read_unread _
  iexact H7

/-! ## The schedule -/

theorem cond_iff (t : Fin cfg0.N) : k0_cond1 (grid0.coords t) = 1#1 ↔ t.val % 4 = 0 :=
  (by decide +kernel : ∀ t : Fin grid0.N, k0_cond1 (grid0.coords t) = 1#1 ↔ t.val % 4 = 0) t

theorem idle_six (t : Fin cfg0.N) : cfg0.idle 6 (grid0.coords t) = !decide (t.val % 4 = 0) :=
  (by decide +kernel : ∀ t : Fin grid0.N, (!(k0_cond1 (grid0.coords t) == 1#1)) = !decide (t.val % 4 = 0)) t

/-- The second result's buffer holds nothing of the body's only at a row block's first point. -/
theorem fresh_six (t : Fin cfg0.N) : cfg0.fresh 6 t.val = decide (t.val % 4 = 0) :=
  cfg0.fresh_tab 6 (fun n => decide (n % 4 = 0)) rfl (fun t => by
    rw [idle_six t, Bool.eq_iff_iff]
    simp only [Bool.or_eq_true, Bool.and_eq_true, Bool.not_eq_true', decide_eq_true_eq, decide_eq_false_iff_not]
    rw [flush0_6 t]; omega) t.val (Nat.le_of_lt t.isLt)

/-! ## The proof data -/

/-- Between points: the scratch at the rows' block of the point before. -/
def PhiS (c : Dev nD) : (n : ℕ) → n ≤ cfg0.N → sProp 𝕄
  | 0, _ => Pipeline.ΦA spec0 c
  | n + 1, hn => iprop(owns (c : Thread nD τ) scr fullShare (rowsOf m c ⟨n, hn⟩) ∗ (∃ r, prngReg c r))

theorem PhiS_pos (c : Dev nD) (n : ℕ) (h : n ≤ cfg0.N) (hz : n ≠ 0) :
    PhiS m c n h = iprop(owns (c : Thread nD τ) scr fullShare (rowsOf m c ⟨n - 1, by omega⟩) ∗ (∃ r, prngReg c r)) := by
  cases n with
  | zero => exact absurd rfl hz
  | succ n => rfl

theorem PhiA_eq (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

theorem PhiS_forget (c : Dev nD) (n : ℕ) (h : n ≤ cfg0.N) :
    PhiS m c n h ⊢ iprop((∃ d, owns (c : Thread nD τ) scr fullShare d) ∗ (∃ r, prngReg c r)) := by
  rcases n with _ | n
  · exact Entails.of_eq (PhiA_eq c)
  · show iprop(owns (c : Thread nD τ) scr fullShare (rowsOf m c ⟨n, h⟩) ∗ (∃ r, prngReg c r)) ⊢ _
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prodOf m c t
    | ⟨6, _⟩ => colsOf m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = prodOf m c t := by dsimp only [dats]
theorem after6 (c : Dev nD) (t : Fin cfg0.N) : (dats m 0 c).after 6 t = colsOf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Past a row block's first point, the second result's buffer holds what that point stored. -/
theorem before6 (c : Dev nD) (t : Fin cfg0.N) (h : t.val % 4 ≠ 0) (d) : (dats m 0 c).before 6 t d = colsOf m c t := by
  rw [Pipeline.Dat.before_out_traj (dats m 0 c) 6 rfl (fun _ _ => rfl) (fun t hz _ hf => by
    rw [after6, after6]
    rw [fresh_six, decide_eq_false_iff_not] at hf
    exact (colsOf_pred m c t hf _).symm) t.val t rfl d, fresh_six, decide_eq_false h, if_neg Bool.false_ne_true, after6]
  exact colsOf_pred m c t h _

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Past the first point the buffer goes back as it was found, which is what its write-back needs. -/
theorem leaves_six (c : Dev nD) (t : Fin cfg0.N) (h : t.val % 4 ≠ 0) :
    owns (c : Thread nD τ) ((cfg0.win 6).stage (cfg0.slots t 6)) fullShare (colsOf m c t) ⊢ (dats m 0 c).leavesExact 6 t := by
  have hi : cfg0.idle 6 (grid0.coords t) = true := by rw [idle_six, decide_eq_false h]; rfl
  by_cases h3 : t.val % 4 = 3
  · unfold Dat.leavesExact; rw [hi, (flush0_6 t).mpr h3, after6]
  · rw [Dat.leavesExact_idle (dats m 0 c) 6 t hi (by rw [← Bool.not_eq_true, flush0_6 t]; exact h3)]
    iintro H
    iexists (colsOf m c t); rw [before6 m c t h]; iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = iprop(owns (c : Thread nD τ) scr fullShare (rowsOf m c t) ∗ (∃ r, prngReg c r)) from rfl,
    PhiS_castSucc m c t, leaves_live m c 0 t rfl, leaves_live m c 1 t rfl, leaves_live m c 2 t rfl, leaves_live m c 3 t rfl,
    leaves_live m c 4 t rfl, leaves_live m c 5 t rfl, after0, after1, after2, after3, after4, after5]
  by_cases h : t.val % 4 = 0
  · rw [leaves_live m c 6 t (by rw [idle_six, decide_eq_true h]; rfl), after6]
    refine (sep_mono (PhiS_forget m c _ _) .rfl).trans ?_
    unfold prodOf rowsOf colsOf
    rw [base_first t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((cond_iff t).mpr h) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c t.val _ (by omega), rowsOf_pred m c t h]
    simp only [before6 m c t h]
    unfold prodOf
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_next c (grid0.coords t) _ _ _ _ _ _ _ _ _ _ _ _ _ _ _ _ (fun e => h ((cond_iff t).mp e)) (iblk m c 4 t) (rowsOf m c t) Set.univ _)
    isplitl [H4]; · iexact H4
    isplitl [H5]; · iexists _; iexact H5
    isplitl [HS]; · iexact HS
    iintro ⟨H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_six m c t h)
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA_eq, show (dats m 0 c).Φ (Fin.last cfg0.N) = PhiS m c cfg0.N le_rfl from rfl]
  exact PhiS_forget m c _ _

/-! ## The run -/

set_option backward.isDefEq.respectTransparency.types false in
/-- From any memory the call ends with its arrays at what the proof data computes, and its counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Proj
-- ==== Proof.ProjValue.lean ====
/-
  The forward projection's two results are the reference's arrays.
-/
module

public import proofs.«01_k».proof.Proof.ProjRun
public import proofs.«01_k».proof.Proof.Gen.Reference3Ideal.Read

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

abbrev arg (c : Dev nD) (b : Ref sig .tc) : Buf (Elt Ideal) ((c : Thread nD τ).loc b) := m ((c : Thread nD τ).loc b)

theorem idx0 : ∀ t : Fin cfg0.N, win0_0.index t = ![t.val / 4, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val % 4, 0, 0] := by decide +kernel
theorem idx5 : ∀ t : Fin cfg0.N, win0_5.index t = ![t.val / 4, t.val % 4] := by decide +kernel
theorem idx6 : ∀ t : Fin cfg0.N, win0_6.index t = ![0, t.val / 4] := by decide +kernel

/-- Row `r` of point `t`'s row block, among all rows. -/
abbrev row (t : Fin cfg0.N) (r : Fin 1024) : Fin 8192 := ⟨t.val / 4 * 1024 + r.val, by have := lt32 t; omega⟩

/-- The normed and modulated rows, from the arguments. -/
abbrev hidden (c : Dev nD) : (⟨2, ![8192, 1024]⟩ : Shape).Idx → EReal :=
  Cert.Reference3Ideal.Read.val_main_v20 (F := Ideal) (arg m c main_arg0) (arg m c main_arg1) (arg m c main_arg2) (arg m c main_arg3)

theorem x_apply (c : Dev nD) (t : Fin cfg0.N) (r l : Fin 1024) :
    (iblk m c 0 t : Vec Ideal S1024x1024 .f32) (ix2 r l) = arg m c main_arg0 (ix2 (row t r) l) := by
  blk_ext [iblk, V, idx0 t]
theorem g_apply (c : Dev nD) (t : Fin cfg0.N) (l : Fin 1024) :
    (iblk m c 1 t : Vec Ideal S1x1024 .f32) (ix2 0 l) = arg m c main_arg1 (ix2 0 l) := by
  blk_ext [iblk, V, idx1 t]
theorem shift_apply (c : Dev nD) (t : Fin cfg0.N) (l : Fin 1024) :
    (iblk m c 2 t : Vec Ideal S1x1024 .f32) (ix2 0 l) = arg m c main_arg3 (ix2 0 l) := by
  blk_ext [iblk, V, idx2 t]
theorem scale_apply (c : Dev nD) (t : Fin cfg0.N) (l : Fin 1024) :
    (iblk m c 3 t : Vec Ideal S1x1024 .f32) (ix2 0 l) = arg m c main_arg2 (ix2 0 l) := by
  blk_ext [iblk, V, idx3 t]
theorem w_apply (c : Dev nD) (t : Fin cfg0.N) (l : Fin 1024) (k : Fin 2304) :
    (iblk m c 4 t : Vec Ideal S1x1024x2304 .bf16) (ix3 0 l k) = arg m c main_arg4 (ix3 (⟨t.val % 4, by omega⟩ : Fin 4) l k) := by
  blk_ext [iblk, V, idx4 t]

open Cert.Reference3Ideal.Read in
theorem pay1_eq (c : Dev nD) (t : Fin cfg0.N) (r l : Fin 1024) :
    k0_pay1 (F := Ideal) (iblk m c 0 t) (iblk m c 1 t) (iblk m c 3 t) (iblk m c 2 t) (ix2 r l) = hidden m c (ix2 (row t r) l) := by
  unfold hidden
  pointwise [k0_pay1, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_cst, val_main_cst_0, val_main_cst_1, val_main_cst_2]
  simp only [x_apply, g_apply, shift_apply, scale_apply]

theorem pay2_apply (x : Vec Ideal S1024x1024 .f32) (g s h : Vec Ideal S1x1024 .f32) (r l : Fin 1024) :
    k0_pay2 x g s h (ix2 r l) = k0_pay1 x g s h (ix2 r l) := by
  unfold k0_pay2
  generalize k0_pay1 x g s h = y
  pointwise

theorem pay3_apply (x : Vec Ideal S1024x1024 .f32) (g s h : Vec Ideal S1x1024 .f32) (r l : Fin 1024) :
    k0_pay3 x g s h (ix2 l r) = k0_pay1 x g s h (ix2 r l) := by
  unfold k0_pay3
  generalize k0_pay1 x g s h = y
  pointwise

theorem pay4_apply (h : Vec Ideal S1024x1024 .bf16) (w : Vec Ideal S1x1024x2304 .bf16) (r : Fin 1024) (k : Fin 2304) :
    k0_pay4 h w (ix2 r k) = ∑ l : Fin 1024, h (ix2 r l) * w (ix3 0 l k) := by
  pointwise [k0_pay4]

theorem row_base (t : Fin cfg0.N) (r : Fin 1024) : row (base t) r = row t r :=
  Fin.ext (by show t.val / 4 * 4 / 4 * 1024 + r.val = t.val / 4 * 1024 + r.val; omega)

theorem rowsOf_apply (c : Dev nD) (t : Fin cfg0.N) (r l : Fin 1024) : rowsOf m c t (ix2 r l) = hidden m c (ix2 (row t r) l) := by
  unfold rowsOf; rw [pay2_apply, pay1_eq, row_base]
theorem colsOf_apply (c : Dev nD) (t : Fin cfg0.N) (r l : Fin 1024) : colsOf m c t (ix2 l r) = hidden m c (ix2 (row t r) l) := by
  unfold colsOf; rw [pay3_apply, pay1_eq, row_base]

/-! ## The reference's arrays -/

/-- The reference's product, from device `c`'s arguments. -/
abbrev want5 (c : Dev nD) : Buf (Elt Ideal) ((c.tc : Thread nD τ).loc main_v0_0) :=
  Cert.Reference3Ideal.Read.val_main_v22 (F := Ideal) (arg m c main_arg0) (arg m c main_arg1) (arg m c main_arg2) (arg m c main_arg3) (arg m c main_arg4)
/-- The reference's transposed rows, from device `c`'s arguments. -/
abbrev want6 (c : Dev nD) : Buf (Elt Ideal) ((c.tc : Thread nD τ).loc main_v0_1) :=
  Cert.Reference3Ideal.Read.val_main_v24 (F := Ideal) (arg m c main_arg0) (arg m c main_arg1) (arg m c main_arg2) (arg m c main_arg3)

open Cert.Reference3Ideal.Read in
theorem wide_apply (w : (⟨3, ![4, 1024, 2304]⟩ : Shape).Idx → EReal) (q : Fin 4) (l : Fin 1024) (k : Fin 2304) :
    val_main_v2 (F := Ideal) w (ix2 l (⟨q.val * 2304 + k.val, by omega⟩ : Fin 9216)) = w (ix3 q l k) := by
  have e : idx_main_v1 (idx_main_v2 (ix2 l (⟨q.val * 2304 + k.val, by omega⟩ : Fin 9216))) = ix3 q l k := by
    funext a
    match a with
    | ⟨0, _⟩ => exact Fin.ext (by show (l.val * 9216 + (q.val * 2304 + k.val)) / 2304 % 4 = q.val; omega)
    | ⟨1, _⟩ => exact Fin.ext (by show (l.val * 9216 + (q.val * 2304 + k.val)) / 9216 = l.val; omega)
    | ⟨2, _⟩ => exact Fin.ext (by show (l.val * 9216 + (q.val * 2304 + k.val)) % 2304 = k.val; omega)
  rw [val_main_v2_apply, val_main_v1_apply, e]; rfl

open Cert.Reference3Ideal.Read in
theorem want5_apply (c : Dev nD) (i : Fin 8192) (q : Fin 4) (k : Fin 2304) :
    want5 m c (ix2 i (⟨q.val * 2304 + k.val, by omega⟩ : Fin 9216)) = ∑ l : Fin 1024, hidden m c (ix2 i l) * arg m c main_arg4 (ix3 q l k) := by
  have e : ∀ l : Fin 1024, val_main_v2 (F := Ideal) (arg m c main_arg4) (ix2 l (⟨q.val * 2304 + k.val, by omega⟩ : Fin 9216)) = arg m c main_arg4 (ix3 q l k) :=
    fun l => wide_apply _ q l k
  simp only [← e]
  unfold want5 val_main_v22 val_main_v21 hidden
  generalize val_main_v2 (F := Ideal) (arg m c main_arg4) = w
  generalize val_main_v20 (F := Ideal) (arg m c main_arg0) (arg m c main_arg1) (arg m c main_arg2) (arg m c main_arg3) = h
  pointwise

open Cert.Reference3Ideal.Read in
theorem want6_apply (c : Dev nD) (l : Fin 1024) (i : Fin 8192) : want6 m c (ix2 l i) = hidden m c (ix2 i l) := by
  unfold want6 val_main_v24 val_main_v23 hidden
  generalize val_main_v20 (F := Ideal) (arg m c main_arg0) (arg m c main_arg1) (arg m c main_arg2) (arg m c main_arg3) = h
  pointwise

/-! ## What the write-backs leave -/

theorem emb5 (t : Fin cfg0.N) (r : Fin 1024) (k : Fin 2304) : ((cfg0.win 5).blk t).view.emb (ix2 r k)
    = (ix2 (row t r) (⟨t.val % 4 * 2304 + k.val, by omega⟩ : Fin 9216) : S8192x9216.Idx) := by
  have hi := idx5 t
  funext a
  match a with
  | ⟨0, _⟩ => exact Fin.ext (by
      show win0_5.index t (0 : Fin 2) * 1024 + 1 * r.val = t.val / 4 * 1024 + r.val
      rw [hi]; show t.val / 4 * 1024 + 1 * r.val = _; omega)
  | ⟨1, _⟩ => exact Fin.ext (by
      show win0_5.index t (1 : Fin 2) * 2304 + 1 * k.val = t.val % 4 * 2304 + k.val
      rw [hi]; show t.val % 4 * 2304 + 1 * k.val = _; omega)

theorem emb6 (t : Fin cfg0.N) (l r : Fin 1024) : ((cfg0.win 6).blk t).view.emb (ix2 l r) = (ix2 l (row t r) : S1024x8192.Idx) := by
  have hi := idx6 t
  funext a
  match a with
  | ⟨0, _⟩ => exact Fin.ext (by
      show win0_6.index t (0 : Fin 2) * 1024 + 1 * l.val = l.val
      rw [hi]; show 0 * 1024 + 1 * l.val = _; omega)
  | ⟨1, _⟩ => exact Fin.ext (by
      show win0_6.index t (1 : Fin 2) * 1024 + 1 * r.val = t.val / 4 * 1024 + r.val
      rw [hi]; show t.val / 4 * 1024 + 1 * r.val = _; omega)

theorem product_eq (c : Dev nD) : (dats m 0 c).arrAt 5 cfg0.N = want5 m c := by
  refine (dats m 0 c).arrAt_eq_of_cover 5 _ (fun t hf => ?_) fun i => ?_
  · show (cfg0.win 5).cut (grid0.coords t) ((dats m 0 c).after 5 t) = _
    rw [after5]
    funext y
    obtain ⟨r, k, rfl⟩ : ∃ (r : Fin 1024) (k : Fin 2304), y = ix2 r k := ⟨y 0, y 1, (ix2_eta y).symm⟩
    show prodOf m c t (ix2 r k) = want5 m c (((cfg0.win 5).blk t).view.emb (ix2 r k))
    rw [emb5]
    refine Eq.trans ?_ (want5_apply m c (row t r) ⟨t.val % 4, by omega⟩ k).symm
    unfold prodOf
    rw [pay4_apply]
    exact Finset.sum_congr rfl fun l _ => congrArg₂ (· * ·) (rowsOf_apply m c t r l) (w_apply m c t l k)
  · obtain ⟨j, k, rfl⟩ : ∃ (j : Fin 8192) (k : Fin 9216), i = ix2 j k := ⟨i 0, i 1, (ix2_eta i).symm⟩
    have ht : j.val / 1024 * 4 + k.val / 2304 < cfg0.N := lt_of_lt_of_eq (by omega) N_0.symm
    refine ⟨⟨j.val / 1024 * 4 + k.val / 2304, ht⟩, flush0_5 _, ?_⟩
    have e := emb5 ⟨j.val / 1024 * 4 + k.val / 2304, ht⟩ ⟨j.val % 1024, by omega⟩ ⟨k.val % 2304, by omega⟩
    rw [show (ix2 j k : S8192x9216.Idx) = _ from Eq.trans (congrArg₂ ix2 (Fin.ext (by
      show j.val = (j.val / 1024 * 4 + k.val / 2304) / 4 * 1024 + j.val % 1024; omega)) (Fin.ext (by
      show k.val = (j.val / 1024 * 4 + k.val / 2304) % 4 * 2304 + k.val % 2304; omega))) e.symm]
    exact View.emb_mem_set _ _

theorem columns_eq (c : Dev nD) : (dats m 0 c).arrAt 6 cfg0.N = want6 m c := by
  refine (dats m 0 c).arrAt_eq_of_cover 6 _ (fun t hf => ?_) fun i => ?_
  · show (cfg0.win 6).cut (grid0.coords t) ((dats m 0 c).after 6 t) = _
    rw [after6]
    funext y
    obtain ⟨l, r, rfl⟩ : ∃ (l r : Fin 1024), y = ix2 l r := ⟨y 0, y 1, (ix2_eta y).symm⟩
    show colsOf m c t (ix2 l r) = want6 m c (((cfg0.win 6).blk t).view.emb (ix2 l r))
    rw [emb6, want6_apply, colsOf_apply]
  · obtain ⟨l, j, rfl⟩ : ∃ (l : Fin 1024) (j : Fin 8192), i = ix2 l j := ⟨i 0, i 1, (ix2_eta i).symm⟩
    have ht : j.val / 1024 * 4 + 3 < cfg0.N := lt_of_lt_of_eq (by omega) N_0.symm
    refine ⟨⟨j.val / 1024 * 4 + 3, ht⟩, (flush0_6 _).mpr (by show (j.val / 1024 * 4 + 3) % 4 = 3; omega), ?_⟩
    have e := emb6 ⟨j.val / 1024 * 4 + 3, ht⟩ l ⟨j.val % 1024, by omega⟩
    rw [show (ix2 l j : S1024x8192.Idx) = _ from Eq.trans (congrArg (ix2 l) (Fin.ext (by
      show j.val = (j.val / 1024 * 4 + 3) / 4 * 1024 + j.val % 1024; omega))) e.symm]
    exact View.emb_mem_set _ _

/-- The run, with what it leaves in the results and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v0_0) = want5 m c ∧ r.2.mem ((c.tc : Thread nD τ).loc main_v0_1) = want6 m c
    ∧ r.2.mem ((c.tc : Thread nD τ).loc main_arg0) = arg m c main_arg0 ∧ r.2.mem ((c.tc : Thread nD τ).loc main_arg1) = arg m c main_arg1
    ∧ r.2.mem ((c.tc : Thread nD τ).loc main_arg2) = arg m c main_arg2 ∧ r.2.mem ((c.tc : Thread nD τ).loc main_arg3) = arg m c main_arg3
    ∧ r.2.mem ((c.tc : Thread nD τ).loc main_arg4) = arg m c main_arg4 :=
  (θ_run defs _ _).mono (fun r h c => ⟨(h.1.out_eq c 5).trans (product_eq m c), (h.1.out_eq c 6).trans (columns_eq m c),
    (h.1.in_eq c 0 rfl).trans (A_eq m c 0), (h.1.in_eq c 1 rfl).trans (A_eq m c 1), (h.1.in_eq c 3 rfl).trans (A_eq m c 3),
    (h.1.in_eq c 2 rfl).trans (A_eq m c 2), (h.1.in_eq c 4 rfl).trans (A_eq m c 4)⟩) (run_main m ρ)

end Cert.Kernel3Ideal.Proj
-- ==== Proof.ScanRun.lean ====
/-
  The recurrence's backward call, point by point: the grid walks the row blocks from the last to the first, carries the
  gradient of the state between them in scratch, solves a block's recurrence by a log-step scan inside tiles of eight rows
  and a counted loop over the tiles, and adds up the parameters' gradients in resident blocks. The run says that every
  point ends, stores nowhere but in its results' blocks and its scratch, and leaves its inputs' blocks as they were. It
  holds over any float values.
-/
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Claim
public import Idealize.ShloMosaic.Lib.Tactic

@[expose] public section

set_option maxRecDepth 16384

noncomputable section

namespace Cert.Kernel4Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-! ## The body -/

/-- A block held whole at some contents. -/
def touched (c : Dev nD) {s : Shape} {e : EltTy} (A : Memref sig .tc .vmem s e) : sProp 𝕄 :=
  iprop(∃ f, A.view.loc (c : Thread nD τ) ↦[A.view.set]{fullShare} f)

theorem touched_owns (c : Dev nD) {s : Shape} {e : EltTy} (A : Memref sig .tc .vmem s e) :
    touched (F := F) c A ⊢ ∃ d, owns (c : Thread nD τ) A fullShare d := by
  unfold touched owns
  iintro ⟨%f, H⟩
  iexists _; iexists f; isplitr; · ipureintro; rfl
  iexact H

/-- What the loop over the tiles carries: its two scratch blocks, at whatever they hold. -/
def carried (c : Dev nD) (A B : Memref sig .tc .vmem S256x1024 .f32) (_ : Nat) (_ : FVec F S8x1024 .f32) : sProp 𝕄 :=
  iprop((∃ f, A.view.loc (c : Thread nD τ) ↦[A.view.set]{fullShare} f) ∗ (∃ f, B.view.loc (c : Thread nD τ) ↦[B.view.set]{fullShare} f))

set_option maxHeartbeats 4000000 in
/-- One point's body, from its inputs' blocks and anything in its results' blocks and its scratch. -/
theorem body_run (c : Dev nD) (i : grid0.Coords) (M0 : Memref sig .tc .vmem S256x1024 .f32) (h0 : M0.IsWhole) (M1 : Memref sig .tc .vmem S256x1024 .bf16) (h1 : M1.IsWhole) (M2 : Memref sig .tc .vmem S16x1024 .bf16) (h2 : M2.IsWhole) (M3 : Memref sig .tc .vmem S4x1024 .f32) (h3 : M3.IsWhole) (M4 : Memref sig .tc .vmem S1x1024 .f32) (h4 : M4.IsWhole) (M5 : Memref sig .tc .vmem S256x1024 .bf16) (h5 : M5.IsWhole) (M6 : Memref sig .tc .vmem S16x1024 .bf16) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S256x1024 .f32) (h11 : M11.IsWhole) (M12 : Memref sig .tc .vmem S8x128x256 .f32) (h12 : M12.IsWhole) (M13 : Memref sig .tc .vmem S1x1024 .f32) (h13 : M13.IsWhole) (M14 : Memref sig .tc .vmem S1x1024 .f32) (h14 : M14.IsWhole) (M15 : Memref sig .tc .vmem S1x1024 .f32) (h15 : M15.IsWhole) (M16 : Memref sig .tc .vmem S8x1024 .f32) (h16 : M16.IsWhole) (M17 : Memref sig .tc .vmem S256x1024 .f32) (h17 : M17.IsWhole) (M18 : Memref sig .tc .vmem S256x1024 .f32) (h18 : M18.IsWhole)
    (x0 : Vec F S256x1024 .f32) (x1 : Vec F S256x1024 .bf16) (x2 : Vec F S16x1024 .bf16) (x3 : Vec F S4x1024 .f32) (x4 : Vec F S1x1024 .f32) (x5 : Vec F S256x1024 .bf16) (x6 : Vec F S16x1024 .bf16) (x7 : Vec F S8x128x256 .bf16) (x8 : Vec F S1x1024 .f32) (x9 : Vec F S1x1024 .f32) (x10 : Vec F S1x1024 .f32) (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ owns (c : Thread nD τ) M5 fullShare x5
        ∗ owns (c : Thread nD τ) M6 fullShare x6
        ∗ owns (c : Thread nD τ) M7 fullShare x7
        ∗ owns (c : Thread nD τ) M8 fullShare x8
        ∗ owns (c : Thread nD τ) M9 fullShare x9
        ∗ owns (c : Thread nD τ) M10 fullShare x10
        ∗ (∃ d, owns (c : Thread nD τ) M11 fullShare d)
        ∗ (∃ d, owns (c : Thread nD τ) M12 fullShare d)
        ∗ (∃ d, owns (c : Thread nD τ) M13 fullShare d)
        ∗ (∃ d, owns (c : Thread nD τ) M14 fullShare d)
        ∗ (∃ d, owns (c : Thread nD τ) M15 fullShare d)
        ∗ (∃ d, owns (c : Thread nD τ) M16 fullShare d)
        ∗ (∃ d, owns (c : Thread nD τ) M17 fullShare d)
        ∗ (∃ d, owns (c : Thread nD τ) M18 fullShare d)
        ∗ (iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare x4
        ∗ owns (c : Thread nD τ) M5 fullShare x5
        ∗ owns (c : Thread nD τ) M6 fullShare x6
        ∗ owns (c : Thread nD τ) M7 fullShare x7
        ∗ owns (c : Thread nD τ) M8 fullShare x8
        ∗ owns (c : Thread nD τ) M9 fullShare x9
        ∗ owns (c : Thread nD τ) M10 fullShare x10
        ∗ touched c M11
        ∗ touched c M12
        ∗ touched c M13
        ∗ touched c M14
        ∗ touched c M15
        ∗ touched c M16
        ∗ touched c M17
        ∗ touched c M18) -∗ K ⟨⟩))
      ⊢ wp frame (wpE (defs₀ (F := F)) Variants.none c none) E (cc0_scan_bwd i M0 h0 M1 h1 M2 h2 M3 h3 M4 h4 M5 h5 M6 h6 M7 h7 M8 h8 M9 h9 M10 h10 M11 h11 M12 h12 M13 h13 M14 h14 M15 h15 M16 h16 M17 h17 M18 h18) K := by
  unfold owns touched
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  sl_unfold [cc0_scan_bwd]
  by_cases hc : Scalar.cmpi .ne (Scalar.extui (Scalar.cmpi .eq (BitVec.ofNat 32 (i 0).val) 0#32)) 0#32 = 1#1
  all_goals
    sl_exec (disch := sl_exact hc)
    sl_for (carried c M17 M18) $$ [H17 H18]
    case region =>
      intro k a
      unfold carried
      iintro ⟨⟨%e17, H17⟩, ⟨%e18, H18⟩⟩
      sl_exec
      sl_step
      isplitl [H17]
      · iexists _; iexact H17
      iexists _; iexact H18
    · unfold carried
      isplitl [H17]
      · iexists _; iexact H17
      iexists _; iexact H18
    iintro %a HI
    unfold carried
    icases HI with ⟨⟨%e17, H17⟩, ⟨%e18, H18⟩⟩
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists _; iexact H18

/-! ## The pipeline's data -/

variable (m : (ℓ : Loc nD τ sig) → Buf (Elt F) ℓ) (ρ : Dev nD → PrngReg)

/-- The five results' windows: what a point leaves there is not said. -/
def results (w : Fin cfg0.W) : Bool := decide (11 ≤ w.val)

/-- Every input's block stays as it was found; between points the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨n + 16, h⟩ => absurd h (Nat.not_lt.2 (Nat.le_add_left 16 n))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem PhiA_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, after0, after1, after2, after3, after4, after5, after6, after7, after8, after9, after10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HA]; · iexact HA
  isplitl [HB]; · iexact HB
  isplitl [HC]; · iexact HC
  iintro ⟨H0, H1, H2, H3, H4, H5, H6, H7, H8, H9, H10, H11, H12, H13, H14, H15, HA, HB, HC⟩
  isplitl [HA HB HC Hg]
  · isplitl [HA HB HC]
    · isplitl [HA]; · iapply (touched_owns c _); iexact HA
      isplitl [HB]; · iapply (touched_owns c _); iexact HB
      iapply (touched_owns c _); iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (touched_owns c _); iexact H11
  isplitl [H12]; · iapply (touched_owns c _); iexact H12
  isplitl [H13]; · iapply (touched_owns c _); iexact H13
  isplitl [H14]; · iapply (touched_owns c _); iexact H14
  iapply (touched_owns c _); iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ results := fun t => by
  rw [bigSep_W0, bigSep_W0, defs₀_row]
  exact triple_restated (sound_body m c t) rfl .rfl fun _ => .rfl

/-! ## The run -/

set_option backward.isDefEq.respectTransparency.types false in
/-- From any memory the call ends, its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_forget_shared cfgs (dats m) (0 : Fin 1) launch₀0 defs₀ Variants.none results m ρ main
    (hbody := fun c => (body_obligation m c).loose) (hq := fun _ _ _ => rfl) (howed := fun _ _ => rfl) (V := V m)
    (hmain := hmain m Variants.none) (hA := A_eq m) (hΦ := fun _ _ => rfl) (Q' := _)
    (hQ' := fun _ h => ⟨fun c => ⟨(h.1.arr_in c 0 rfl).trans ((A_eq m c 0).trans (V_main_arg0 m c)), (h.1.arr_in c 2 rfl).trans ((A_eq m c 2).trans (V_main_arg1 m c)), (h.1.arr_in c 3 rfl).trans ((A_eq m c 3).trans (V_main_arg2 m c)), (h.1.arr_in c 4 rfl).trans ((A_eq m c 4).trans (V_main_arg3 m c)), (h.1.arr_in c 6 rfl).trans ((A_eq m c 6).trans (V_main_arg4 m c)), (h.1.arr_in c 7 rfl).trans ((A_eq m c 7).trans (V_main_arg5 m c)), (h.1.arr_in c 8 rfl).trans ((A_eq m c 8).trans (V_main_arg6 m c)), (h.1.arr_in c 9 rfl).trans ((A_eq m c 9).trans (V_main_arg7 m c)), (h.1.arr_in c 10 rfl).trans ((A_eq m c 10).trans (V_main_arg8 m c))⟩, h.2⟩)

end Cert.Kernel4Ideal.Scan
-- ==== Proof.TailBlocks.lean ====
/-
  The layer's tail, block by block: the rows and weights that a point reads, and the values it computes from
  them, entry by entry. Both layers' calls do this arithmetic.
-/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.PureOps.Ideal.Laws

@[expose] public section

set_option maxRecDepth 16384

noncomputable section

namespace Cert.Kernel5Ideal.Tail

open Cert.Kernel5Ideal Cert.Kernel5Ideal.Gen Idealize.ShloMosaic Idealize.ShloMosaic.TcCoe Idealize.SL.Sem
open Idealize.ShloMosaic.Pipeline (Dat)

/-! ## The two spellings of the sigmoid -/

theorem ofBits_half : Ideal.ofBits .f32 0x3F000000#32 = ((1/2 : ℝ) : EReal) := by
  simp [Ideal.ofBits, Ideal.ieee, -EReal.coe_mul]; norm_num

/-- Half the hyperbolic tangent of half the argument, plus a half, is the sigmoid. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  show _ = Ideal.logistic x
  rw [ofBits_half]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [show (1 : EReal) = ((1 : ℝ) : EReal) by simp, ← EReal.coe_mul, ← EReal.coe_add]; norm_num
  | coe v =>
    rw [← EReal.coe_mul, Ideal.tanh_coe, ← EReal.coe_mul, ← EReal.coe_add, Ideal.logistic_coe]
    congr 1
    rw [Real.tanh_eq_sinh_div_cosh, Real.sinh_eq, Real.cosh_eq]
    have e : Real.exp (-v) = Real.exp (-(1 / 2 * v)) * Real.exp (-(1 / 2 * v)) := by rw [← Real.exp_add]; ring_nf
    have p : Real.exp (1 / 2 * v) * Real.exp (-(1 / 2 * v)) = 1 := by rw [← Real.exp_add]; simp
    have h1 := Real.exp_pos (1 / 2 * v)
    have h2 := Real.exp_pos (-(1 / 2 * v))
    rw [e]
    generalize Real.exp (1 / 2 * v) = a at *
    generalize Real.exp (-(1 / 2 * v)) = b at *
    field_simp
    nlinarith [p]

/-- The sigmoid, as the reference spells it. -/
abbrev sigm (x : EReal) : EReal := Ideal.div 1 (1 + Ideal.exp (-x))

/-! ## What a point reads -/

/-- The call's nine arrays: the heads, the recurrence, the projection, the input, the gate, the gain and the three weights. -/
structure Args where
  k0 : S8192x512.Idx → EReal
  k1 : S8192x1024.Idx → EReal
  k2 : S8192x9216.Idx → EReal
  k3 : S8192x1024.Idx → EReal
  k4 : S1x1024.Idx → EReal
  k5 : S1x1024.Idx → EReal
  k6 : S4x2x512x256.Idx → EReal
  k7 : S4x2x256x1024.Idx → EReal
  k8 : S4x2x256x1024.Idx → EReal

/-- The twelve blocks that a point finds staged. -/
structure Blks where
  b0 : Vec Ideal S512x512 .bf16
  b1 : Vec Ideal S512x1024 .bf16
  b2 : Vec Ideal S512x512 .bf16
  b3 : Vec Ideal S512x1024 .bf16
  b4 : Vec Ideal S512x1024 .bf16
  b5 : Vec Ideal S512x1024 .bf16
  b6 : Vec Ideal S512x1024 .f32
  b7 : Vec Ideal S1x1024 .f32
  b8 : Vec Ideal S1x1024 .f32
  b9 : Vec Ideal S4x1x512x256 .bf16
  b10 : Vec Ideal S4x1x256x1024 .bf16
  b11 : Vec Ideal S4x1x256x1024 .bf16

/-- The blocks are read from the arrays: the rows `i` of the row arrays, the first layer of the weights. -/
structure Point (A : Args) (X : Blks) (i : Fin 512 → Fin 8192) : Prop where
  o_apply : ∀ r l : Fin 512, X.b0 (ix2 r l) = A.k0 (ix2 (i r) l)
  h_apply : ∀ (r : Fin 512) (l : Fin 1024), X.b1 (ix2 r l) = A.k1 (ix2 (i r) l)
  gatt_apply : ∀ r l : Fin 512, X.b2 (ix2 r l) = A.k2 (ix2 (i r) (⟨4608 + l.val, by omega⟩ : Fin 9216))
  glru_apply : ∀ (r : Fin 512) (l : Fin 1024), X.b3 (ix2 r l) = A.k2 (ix2 (i r) (⟨6144 + l.val, by omega⟩ : Fin 9216))
  ga_apply : ∀ (r : Fin 512) (l : Fin 1024), X.b4 (ix2 r l) = A.k2 (ix2 (i r) (⟨7168 + l.val, by omega⟩ : Fin 9216))
  gb_apply : ∀ (r : Fin 512) (l : Fin 1024), X.b5 (ix2 r l) = A.k2 (ix2 (i r) (⟨7168 + (1024 + l.val), by omega⟩ : Fin 9216))
  x_apply : ∀ (r : Fin 512) (l : Fin 1024), X.b6 (ix2 r l) = A.k3 (ix2 (i r) l)
  gate_apply : ∀ l : Fin 1024, X.b7 (ix2 0 l) = A.k4 (ix2 0 l)
  gpost_apply : ∀ l : Fin 1024, X.b8 (ix2 0 l) = A.k5 (ix2 0 l)
  wpa_apply : ∀ (q : Fin 4) (l : Fin 512) (k : Fin 256), X.b9 (ix4 q 0 l k) = A.k6 (ix4 q 0 l k)
  wpb_apply : ∀ (q : Fin 4) (l : Fin 256) (k : Fin 1024), X.b10 (ix4 q 0 l k) = A.k7 (ix4 q 0 l k)
  wo_apply : ∀ (q : Fin 4) (l : Fin 256) (k : Fin 1024), X.b11 (ix4 q 0 l k) = A.k8 (ix4 q 0 l k)

variable {A : Args} {X : Blks} {i : Fin 512 → Fin 8192}

/-! ## The values before the products -/

open Cert.Reference5Ideal.Read in
theorem a_apply (P : Point A X i) (r l : Fin 512) :
    k0_pay2 (F := Ideal) X.b2 X.b0 (ix2 r l)
      = val_main_v21 (F := Ideal) A.k0 A.k2 (ix2 (i r) l) := by
  pointwise [k0_pay2, val_main_v21, val_main_v20, val_main_v19, val_main_v14, val_main_v13, val_main_call0_v5, val_main_call0_v4,
    val_main_call0_v3, val_main_call0_v2, val_main_call0_v1, val_main_call0_v0, val_main_call0_cst, val_main_call0_cst_0]
  simp only [P.o_apply, P.gatt_apply]
  rw [sigmoid_eq]

open Cert.Reference5Ideal.Read in
theorem r_apply (P : Point A X i) (r : Fin 512) (l : Fin 1024) :
    k0_pay5 (F := Ideal) X.b3 X.b1 (ix2 r l)
      = val_main_v24 (F := Ideal) A.k1 A.k2 (ix2 (i r) l) := by
  pointwise [k0_pay5, val_main_v24, val_main_v23, val_main_v22, val_main_v16, val_main_v15, val_main_call1_v5, val_main_call1_v4,
    val_main_call1_v3, val_main_call1_v2, val_main_call1_v1, val_main_call1_v0, val_main_call1_cst, val_main_call1_cst_0]
  simp only [P.h_apply, P.glru_apply]
  rw [sigmoid_eq]

theorem pay3_apply (x y : Vec Ideal S512x512 .bf16) (r l : Fin 512) : k0_pay3 x y (ix2 r l) = k0_pay2 x y (ix2 r l) := by
  unfold k0_pay3
  generalize k0_pay2 x y = z
  pointwise
theorem pay4_apply (x y : Vec Ideal S512x512 .bf16) (r l : Fin 512) : k0_pay4 x y (ix2 l r) = k0_pay2 x y (ix2 r l) := by
  unfold k0_pay4
  generalize k0_pay2 x y = z
  pointwise
theorem pay6_apply (x y : Vec Ideal S512x1024 .bf16) (r : Fin 512) (l : Fin 1024) : k0_pay6 x y (ix2 r l) = k0_pay5 x y (ix2 r l) := by
  unfold k0_pay6
  generalize k0_pay5 x y = z
  pointwise
theorem pay7_apply (x y : Vec Ideal S512x1024 .bf16) (r : Fin 512) (l : Fin 1024) : k0_pay7 x y (ix2 l r) = k0_pay5 x y (ix2 r l) := by
  unfold k0_pay7
  generalize k0_pay5 x y = z
  pointwise

/-! ## The products -/

/-- Block `q` of the packed weight, as the kernel loads it. -/
theorem ld_block (w : Vec Ideal S4x1x512x256 .bf16) (q : Fin 4) (inb : ∀ a, (![q.val, 0, 0, 0] : Fin 4 → Nat) a + S1x1x512x256.size a ≤ S4x1x512x256.size a)
    (l : Fin 512) (k : Fin 256) :
    View.ld w (Rect.unit (s := S4x1x512x256) ![q.val, 0, 0, 0] S1x1x512x256.size inb) (ix4 0 0 l k) = w (ix4 q 0 l k) :=
  View.ld_unit_apply_of w _ _ _ _ _ fun a => match a with
    | ⟨0, _⟩ => rfl
    | ⟨1, _⟩ => rfl
    | ⟨2, _⟩ => (Nat.zero_add _).symm
    | ⟨3, _⟩ => (Nat.zero_add _).symm

/-- Four column blocks laid side by side: column `q * 256 + k` is column `k` of block `q`. -/
theorem pay8_apply (v : Vec Ideal S512x512 .bf16) (w : Vec Ideal S4x1x512x256 .bf16) (r : Fin 512) (q : Fin 4) (k : Fin 256) :
    k0_pay8 (F := Ideal) v (View.ld w r0_3) (View.ld w r0_4) (View.ld w r0_5) (View.ld w r0_6) (ix2 r (⟨q.val * 256 + k.val, by omega⟩ : Fin 1024))
      = ∑ l : Fin 512, v (ix2 r l) * w (ix4 q 0 l k) := by
  have h0 := ld_block w 0 inb_S4x1x512x256_S1x1x512x256_0_0_0_0
  have h1 := ld_block w 1 inb_S4x1x512x256_S1x1x512x256_1_0_0_0
  have h2 := ld_block w 2 inb_S4x1x512x256_S1x1x512x256_2_0_0_0
  have h3 := ld_block w 3 inb_S4x1x512x256_S1x1x512x256_3_0_0_0
  change ∀ l k, (View.ld w r0_3 : Vec Ideal S1x1x512x256 .bf16) (ix4 0 0 l k) = _ at h0
  change ∀ l k, (View.ld w r0_4 : Vec Ideal S1x1x512x256 .bf16) (ix4 0 0 l k) = _ at h1
  change ∀ l k, (View.ld w r0_5 : Vec Ideal S1x1x512x256 .bf16) (ix4 0 0 l k) = _ at h2
  change ∀ l k, (View.ld w r0_6 : Vec Ideal S1x1x512x256 .bf16) (ix4 0 0 l k) = _ at h3
  generalize (View.ld w r0_3 : Vec Ideal S1x1x512x256 .bf16) = w0 at *
  generalize (View.ld w r0_4 : Vec Ideal S1x1x512x256 .bf16) = w1 at *
  generalize (View.ld w r0_5 : Vec Ideal S1x1x512x256 .bf16) = w2 at *
  generalize (View.ld w r0_6 : Vec Ideal S1x1x512x256 .bf16) = w3 at *
  pointwise [k0_pay8]
  simp only [h0, h1, h2, h3]
  have hk := k.isLt
  have step : ∀ (j : Fin 4) (e : Fin 256), e.val = k.val → ∑ l : Fin 512, v (ix2 r l) * w (ix4 j 0 l e) = ∑ l : Fin 512, v (ix2 r l) * w (ix4 j 0 l k) :=
    fun j e he => by rw [Fin.ext he]
  match q with
  | ⟨0, _⟩ => rw [dif_pos (by show 0 * 256 + k.val < 256; omega)]; exact step 0 _ (by show 0 * 256 + k.val = k.val; omega)
  | ⟨1, _⟩ =>
    rw [dif_neg (by show ¬ 1 * 256 + k.val < 256; omega), dif_pos (by show 1 * 256 + k.val - 256 < 256; omega)]
    exact step 1 _ (by show 1 * 256 + k.val - 256 = k.val; omega)
  | ⟨2, _⟩ =>
    rw [dif_neg (by show ¬ 2 * 256 + k.val < 256; omega), dif_neg (by show ¬ 2 * 256 + k.val - 256 < 256; omega),
      dif_pos (by show 2 * 256 + k.val - 256 - 256 < 256; omega)]
    exact step 2 _ (by show 2 * 256 + k.val - 256 - 256 = k.val; omega)
  | ⟨3, _⟩ =>
    rw [dif_neg (by show ¬ 3 * 256 + k.val < 256; omega), dif_neg (by show ¬ 3 * 256 + k.val - 256 < 256; omega),
      dif_neg (by show ¬ 3 * 256 + k.val - 256 - 256 < 256; omega)]
    exact step 3 _ (by show 3 * 256 + k.val - 256 - 256 - 256 = k.val; omega)

theorem pay10_apply (v : Vec Ideal S512x1024 .bf16) (w : Vec Ideal S4x1x256x1024 .bf16) (r : Fin 512) (n : Fin 1024) :
    k0_pay10 (F := Ideal) v w (ix2 r n)
      = ∑ l : Fin 1024, v (ix2 r l) * w (ix4 (⟨l.val / 256, by omega⟩ : Fin 4) 0 (⟨l.val % 256, by omega⟩ : Fin 256) n) := by
  pointwise [k0_pay10]

theorem pay9_apply (v : Vec Ideal S512x512 .bf16) (w0 w1 w2 w3 : Vec Ideal S1x1x512x256 .bf16) (r : Fin 512) (n : Fin 1024) :
    k0_pay9 v w0 w1 w2 w3 (ix2 r n) = k0_pay8 v w0 w1 w2 w3 (ix2 r n) := by
  unfold k0_pay9
  generalize k0_pay8 v w0 w1 w2 w3 = z
  pointwise
theorem pay11_apply (v : Vec Ideal S512x1024 .bf16) (w : Vec Ideal S4x1x256x1024 .bf16) (r : Fin 512) (n : Fin 1024) :
    k0_pay11 v w (ix2 r n) = k0_pay10 v w (ix2 r n) := by
  unfold k0_pay11
  generalize k0_pay10 v w = z
  pointwise

/-! ## The merge -/

theorem pay14_apply (ya yb : FVec Ideal S512x1024 .f32) (ga gb : Vec Ideal S512x1024 .bf16) (r : Fin 512) (n : Fin 1024) :
    k0_pay14 (F := Ideal) ya yb (k0_pay12 ga) k0_pay13 gb (ix2 r n)
      = sigm (ga (ix2 r n)) * ya (ix2 r n) + sigm (gb (ix2 r n)) * yb (ix2 r n) := by
  pointwise [k0_pay14, k0_pay12, k0_pay13]
  rw [sigmoid_eq, sigmoid_eq]

theorem pay15_apply (ya yb u v : FVec Ideal S512x1024 .f32) (gb : Vec Ideal S512x1024 .bf16) (r : Fin 512) (n : Fin 1024) :
    k0_pay15 ya yb u v gb (ix2 n r) = k0_pay14 ya yb u v gb (ix2 r n) := by
  unfold k0_pay15
  generalize k0_pay14 ya yb u v gb = z
  pointwise

theorem pay16_apply (ya yb u v : FVec Ideal S512x1024 .f32) (gb : Vec Ideal S512x1024 .bf16) (w : Vec Ideal S4x1x256x1024 .bf16) (r : Fin 512) (n : Fin 1024) :
    k0_pay16 ya yb u v gb w (ix2 r n)
      = ∑ l : Fin 1024, k0_pay14 ya yb u v gb (ix2 r l) * w (ix4 (⟨l.val / 256, by omega⟩ : Fin 4) 0 (⟨l.val % 256, by omega⟩ : Fin 256) n) := by
  unfold k0_pay16
  generalize k0_pay14 ya yb u v gb = z
  pointwise

theorem pay17_apply (ya yb u v : FVec Ideal S512x1024 .f32) (gb : Vec Ideal S512x1024 .bf16) (w : Vec Ideal S4x1x256x1024 .bf16) (r : Fin 512) (n : Fin 1024) :
    k0_pay17 ya yb u v gb w (ix2 r n) = k0_pay16 ya yb u v gb w (ix2 r n) := by
  unfold k0_pay17
  generalize k0_pay16 ya yb u v gb w = z
  pointwise

/-- A row over the root of its mean square, guarded. -/
abbrev normed (y : Fin 1024 → EReal) (n : Fin 1024) : EReal :=
  y n * Ideal.rsqrt (Ideal.div (∑ l, y l * y l) (Ideal.ofBits .f32 0x44800000#32) + Ideal.ofBits .f32 0x358637BD#32)

theorem pay18_apply (ya yb u v : FVec Ideal S512x1024 .f32) (gb : Vec Ideal S512x1024 .bf16) (w : Vec Ideal S4x1x256x1024 .bf16) (r : Fin 512) (n : Fin 1024) :
    k0_pay18 ya yb u v gb w (ix2 r n) = normed (fun l => k0_pay16 ya yb u v gb w (ix2 r l)) n := by
  unfold k0_pay18
  generalize k0_pay16 ya yb u v gb w = z
  pointwise

/-- The residual step: the gate times the scaled row, added to the input. -/
abbrev stepped (x g y p : EReal) : EReal := x + g * (y * p)

theorem pay1_apply (x : Vec Ideal S512x1024 .f32) (g p : Vec Ideal S1x1024 .f32) (y : FVec Ideal S512x1024 .f32) (r : Fin 512) (n : Fin 1024) :
    k0_pay1 x g y p (ix2 r n) = stepped (x (ix2 r n)) (g (ix2 0 n)) (y (ix2 r n)) (p (ix2 0 n)) := by
  pointwise [k0_pay1]

end Cert.Kernel5Ideal.Tail
-- ==== Proof.TailRef.lean ====
/-
  The layer's tail: the reference's arrays read at an index, and a point's values as their entries.
-/
module

public import proofs.«01_k».proof.Proof.TailBlocks

@[expose] public section

set_option maxRecDepth 16384

noncomputable section

namespace Cert.Kernel5Ideal.Tail

open Cert.Kernel5Ideal Cert.Kernel5Ideal.Gen Idealize.ShloMosaic Idealize.ShloMosaic.TcCoe Idealize.SL.Sem
open Idealize.ShloMosaic.Pipeline (Dat)

variable {A : Args} {X : Blks} {i : Fin 512 → Fin 8192}

/-! ## The reference's arrays, from the call's arguments -/

/-- The gated attention heads. -/
abbrev aOf (A : Args) : S8192x512.Idx → EReal := Cert.Reference5Ideal.Read.val_main_v21 (F := Ideal) A.k0 A.k2
/-- The gated recurrence. -/
abbrev rOf (A : Args) : S8192x1024.Idx → EReal := Cert.Reference5Ideal.Read.val_main_v24 (F := Ideal) A.k1 A.k2
/-- The attention branch's product. -/
abbrev yaOf (A : Args) : S8192x1024.Idx → EReal :=
  Cert.Reference5Ideal.Read.val_main_v25 (F := Ideal) A.k0 A.k2 A.k6
/-- The recurrent branch's product. -/
abbrev ybOf (A : Args) : S8192x1024.Idx → EReal :=
  Cert.Reference5Ideal.Read.val_main_v26 (F := Ideal) A.k1 A.k2 A.k7
/-- The two branches merged. -/
abbrev zOf (A : Args) : S8192x1024.Idx → EReal :=
  Cert.Reference5Ideal.Read.val_main_v37 (F := Ideal) A.k0 A.k1 A.k2 A.k6 A.k7
/-- The output projection. -/
abbrev outOf (A : Args) : S8192x1024.Idx → EReal :=
  Cert.Reference5Ideal.Read.val_main_v38 (F := Ideal) A.k0 A.k1 A.k2 A.k6 A.k7 A.k8

open Cert.Reference5Ideal.Read in
theorem wide_apply (w : (⟨4, ![4, 2, 512, 256]⟩ : Shape).Idx → EReal) (l : Fin 512) (q : Fin 4) (k : Fin 256) :
    val_main_v4 (F := Ideal) w (ix2 l (⟨q.val * 256 + k.val, by omega⟩ : Fin 1024)) = w (ix4 q 0 l k) := by
  have e : idx_main_v3 (idx_main_v4 (ix2 l (⟨q.val * 256 + k.val, by omega⟩ : Fin 1024))) = ix3 q l k := by
    funext a
    match a with
    | ⟨0, _⟩ => exact Fin.ext (by show (l.val * 1024 + (q.val * 256 + k.val)) / 256 % 4 = q.val; omega)
    | ⟨1, _⟩ => exact Fin.ext (by show (l.val * 1024 + (q.val * 256 + k.val)) / 1024 = l.val; omega)
    | ⟨2, _⟩ => exact Fin.ext (by show (l.val * 1024 + (q.val * 256 + k.val)) % 256 = k.val; omega)
  rw [val_main_v4_apply, val_main_v3_apply, e]
  pointwise [val_main_v2, val_main_v1, val_main_v0]

open Cert.Reference5Ideal.Read in
theorem tall_apply (w : (⟨4, ![4, 2, 256, 1024]⟩ : Shape).Idx → EReal) (l n : Fin 1024) :
    val_main_v8 (F := Ideal) w (ix2 l n) = w (ix4 (⟨l.val / 256, by omega⟩ : Fin 4) 0 (⟨l.val % 256, by omega⟩ : Fin 256) n) := by
  pointwise [val_main_v8, val_main_v7, val_main_v6, val_main_v5]

open Cert.Reference5Ideal.Read in
theorem yaOf_apply (A : Args) (i : Fin 8192) (q : Fin 4) (k : Fin 256) :
    yaOf A (ix2 i (⟨q.val * 256 + k.val, by omega⟩ : Fin 1024)) = ∑ l : Fin 512, aOf A (ix2 i l) * A.k6 (ix4 q 0 l k) := by
  simp only [← fun l : Fin 512 => wide_apply A.k6 l q k]
  unfold yaOf val_main_v25 aOf
  generalize val_main_v4 (F := Ideal) A.k6 = w
  generalize val_main_v21 (F := Ideal) A.k0 A.k2 = h
  pointwise

open Cert.Reference5Ideal.Read in
theorem ybOf_apply (A : Args) (i : Fin 8192) (n : Fin 1024) :
    ybOf A (ix2 i n) = ∑ l : Fin 1024, rOf A (ix2 i l) * A.k7 (ix4 (⟨l.val / 256, by omega⟩ : Fin 4) 0 (⟨l.val % 256, by omega⟩ : Fin 256) n) := by
  simp only [← fun l : Fin 1024 => tall_apply A.k7 l n]
  unfold ybOf val_main_v26 rOf
  generalize val_main_v8 (F := Ideal) A.k7 = w
  generalize val_main_v24 (F := Ideal) A.k1 A.k2 = h
  pointwise

open Cert.Reference5Ideal.Read in
theorem zOf_apply (A : Args) (i : Fin 8192) (n : Fin 1024) : zOf A (ix2 i n)
    = sigm (A.k2 (ix2 i (⟨7168 + n.val, by omega⟩ : Fin 9216))) * yaOf A (ix2 i n)
      + sigm (A.k2 (ix2 i (⟨7168 + (1024 + n.val), by omega⟩ : Fin 9216))) * ybOf A (ix2 i n) := by
  unfold zOf val_main_v37 val_main_v36 val_main_v35 yaOf ybOf
  generalize val_main_v25 (F := Ideal) A.k0 A.k2 A.k6 = ya
  generalize val_main_v26 (F := Ideal) A.k1 A.k2 A.k7 = yb
  pointwise [val_main_v34, val_main_v33, val_main_v32, val_main_v31, val_main_v30, val_main_v29, val_main_v28, val_main_v27, val_main_v18,
    val_main_v17, val_main_cst, val_main_cst_0]

open Cert.Reference5Ideal.Read in
theorem outOf_apply (A : Args) (i : Fin 8192) (n : Fin 1024) :
    outOf A (ix2 i n) = ∑ l : Fin 1024, zOf A (ix2 i l) * A.k8 (ix4 (⟨l.val / 256, by omega⟩ : Fin 4) 0 (⟨l.val % 256, by omega⟩ : Fin 256) n) := by
  have e : ∀ l : Fin 1024, val_main_v12 (F := Ideal) A.k8 (ix2 l n) = _ := fun l => tall_apply A.k8 l n
  simp only [← e]
  unfold outOf val_main_v38 zOf
  generalize val_main_v12 (F := Ideal) A.k8 = w
  generalize val_main_v37 (F := Ideal) A.k0 A.k1 A.k2 A.k6 A.k7 = h
  pointwise

/-- The seven results. -/
abbrev want12 (A : Args) : S512x8192.Idx → EReal :=
  Cert.Reference5Ideal.Read.val_main_v50 (F := Ideal) A.k0 A.k2
abbrev want13 (A : Args) : S1024x8192.Idx → EReal :=
  Cert.Reference5Ideal.Read.val_main_v52 (F := Ideal) A.k1 A.k2
abbrev want14 (A : Args) : S8192x1024.Idx → EReal :=
  Cert.Reference5Ideal.Read.val_main_v53 (F := Ideal) A.k0 A.k2 A.k6
abbrev want15 (A : Args) : S8192x1024.Idx → EReal :=
  Cert.Reference5Ideal.Read.val_main_v54 (F := Ideal) A.k1 A.k2 A.k7
abbrev want16 (A : Args) : S1024x8192.Idx → EReal :=
  Cert.Reference5Ideal.Read.val_main_v56 (F := Ideal) A.k0 A.k1 A.k2 A.k6 A.k7
abbrev want17 (A : Args) : S8192x1024.Idx → EReal :=
  Cert.Reference5Ideal.Read.val_main_v57 (F := Ideal) A.k0 A.k1 A.k2 A.k6 A.k7 A.k8
abbrev want18 (A : Args) : S8192x1024.Idx → EReal :=
  Cert.Reference5Ideal.Read.val_main_v62 (F := Ideal) A.k0 A.k1 A.k2 A.k3 A.k4 A.k5
    A.k6 A.k7 A.k8

open Cert.Reference5Ideal.Read in
theorem want12_apply (A : Args) (l : Fin 512) (i : Fin 8192) : want12 A (ix2 l i) = aOf A (ix2 i l) := by
  unfold want12 val_main_v50 val_main_v49 aOf
  generalize val_main_v21 (F := Ideal) A.k0 A.k2 = h
  pointwise
open Cert.Reference5Ideal.Read in
theorem want13_apply (A : Args) (l : Fin 1024) (i : Fin 8192) : want13 A (ix2 l i) = rOf A (ix2 i l) := by
  unfold want13 val_main_v52 val_main_v51 rOf
  generalize val_main_v24 (F := Ideal) A.k1 A.k2 = h
  pointwise
open Cert.Reference5Ideal.Read in
theorem want14_apply (A : Args) (i : Fin 8192) (n : Fin 1024) : want14 A (ix2 i n) = yaOf A (ix2 i n) := by
  unfold want14 val_main_v53 yaOf
  generalize val_main_v25 (F := Ideal) A.k0 A.k2 A.k6 = h
  pointwise
open Cert.Reference5Ideal.Read in
theorem want15_apply (A : Args) (i : Fin 8192) (n : Fin 1024) : want15 A (ix2 i n) = ybOf A (ix2 i n) := by
  unfold want15 val_main_v54 ybOf
  generalize val_main_v26 (F := Ideal) A.k1 A.k2 A.k7 = h
  pointwise
open Cert.Reference5Ideal.Read in
theorem want16_apply (A : Args) (l : Fin 1024) (i : Fin 8192) : want16 A (ix2 l i) = zOf A (ix2 i l) := by
  unfold want16 val_main_v56 val_main_v55 zOf
  generalize val_main_v37 (F := Ideal) A.k0 A.k1 A.k2 A.k6 A.k7 = h
  pointwise
open Cert.Reference5Ideal.Read in
theorem want17_apply (A : Args) (i : Fin 8192) (n : Fin 1024) : want17 A (ix2 i n) = outOf A (ix2 i n) := by
  unfold want17 val_main_v57 outOf
  generalize val_main_v38 (F := Ideal) A.k0 A.k1 A.k2 A.k6 A.k7 A.k8 = h
  pointwise
open Cert.Reference5Ideal.Read in
theorem want18_apply (A : Args) (i : Fin 8192) (n : Fin 1024) : want18 A (ix2 i n)
    = stepped (A.k3 (ix2 i n)) (A.k4 (ix2 0 n)) (normed (fun l => outOf A (ix2 i l)) n) (A.k5 (ix2 0 n)) := by
  unfold want18 val_main_v62 val_main_v61 val_main_v59 val_main_v48 val_main_v47 val_main_v46 val_main_v45 val_main_v43 val_main_v41 val_main_v40
    val_main_v39 outOf
  generalize val_main_v38 (F := Ideal) A.k0 A.k1 A.k2 A.k6 A.k7 A.k8 = h
  pointwise [val_main_v60, val_main_v58, val_main_v44, val_main_v42, val_main_cst_1, val_main_cst_2, val_main_cst_3]

/-! ## The kernel's values, row block by row block -/

/-- The attention branch's product at a point. -/
abbrev yaBlk (X : Blks) : FVec Ideal S512x1024 .f32 :=
  k0_pay8 (F := Ideal) (k0_pay3 X.b2 X.b0) (View.ld X.b9 r0_3) (View.ld X.b9 r0_4) (View.ld X.b9 r0_5) (View.ld X.b9 r0_6)
/-- The recurrent branch's product at a point. -/
abbrev ybBlk (X : Blks) : FVec Ideal S512x1024 .f32 :=
  k0_pay10 (F := Ideal) (k0_pay6 X.b3 X.b1) X.b10

theorem ya_eq (P : Point A X i) (r : Fin 512) (n : Fin 1024) : yaBlk X (ix2 r n) = yaOf A (ix2 (i r) n) := by
  obtain ⟨q, k, rfl⟩ : ∃ (q : Fin 4) (k : Fin 256), n = (⟨q.val * 256 + k.val, by omega⟩ : Fin 1024) :=
    ⟨⟨n.val / 256, by omega⟩, ⟨n.val % 256, by omega⟩, Fin.ext (by show n.val = n.val / 256 * 256 + n.val % 256; omega)⟩
  rw [yaOf_apply]
  refine (pay8_apply _ _ r q k).trans ?_
  exact Finset.sum_congr rfl fun l _ => congrArg₂ (· * ·) ((pay3_apply _ _ r l).trans (a_apply P r l)) (P.wpa_apply q l k)

theorem yb_eq (P : Point A X i) (r : Fin 512) (n : Fin 1024) : ybBlk X (ix2 r n) = ybOf A (ix2 (i r) n) := by
  rw [ybOf_apply]
  refine (pay10_apply _ _ r n).trans ?_
  exact Finset.sum_congr rfl fun l _ => congrArg₂ (· * ·) ((pay6_apply _ _ r l).trans (r_apply P r l)) (P.wpb_apply _ _ n)

theorem z_eq (P : Point A X i) (r : Fin 512) (n : Fin 1024) :
    k0_pay14 (F := Ideal) (yaBlk X) (ybBlk X) (k0_pay12 X.b4) k0_pay13 X.b5 (ix2 r n) = zOf A (ix2 (i r) n) := by
  rw [zOf_apply, pay14_apply, ya_eq P, yb_eq P, P.ga_apply, P.gb_apply]

theorem out_eq (P : Point A X i) (r : Fin 512) (n : Fin 1024) :
    k0_pay16 (F := Ideal) (yaBlk X) (ybBlk X) (k0_pay12 X.b4) k0_pay13 X.b5 X.b11 (ix2 r n) = outOf A (ix2 (i r) n) := by
  rw [outOf_apply, pay16_apply]
  exact Finset.sum_congr rfl fun l _ => congrArg₂ (· * ·) (z_eq P r l) (P.wo_apply _ _ n)

theorem normed_eq (P : Point A X i) (r : Fin 512) (n : Fin 1024) :
    k0_pay18 (F := Ideal) (yaBlk X) (ybBlk X) (k0_pay12 X.b4) k0_pay13 X.b5 X.b11 (ix2 r n)
      = normed (fun l => outOf A (ix2 (i r) l)) n := by
  rw [pay18_apply]
  exact congrArg (normed · n) (funext fun l => out_eq P r l)

/-- The residual step's value at a point. -/
theorem step_eq (P : Point A X i) (r : Fin 512) (n : Fin 1024) :
    k0_pay1 (F := Ideal) X.b6 X.b7 (k0_pay18 (F := Ideal) (yaBlk X) (ybBlk X) (k0_pay12 X.b4) k0_pay13 X.b5 X.b11) X.b8 (ix2 r n) = want18 A (ix2 (i r) n) := by
  rw [want18_apply]
  exact (pay1_apply _ _ _ _ r n).trans (by
    refine congr (congr (congr (congrArg stepped ?_) ?_) ?_) ?_
    exacts [P.x_apply r n, P.gate_apply n, normed_eq P r n, P.gpost_apply n])

/-! ## Where a row block lies -/

/-- Row `r` of row block `v`, among all rows. -/
abbrev rowAt (v : ℕ) (hv : v < 16) (r : Fin 512) : Fin 8192 := ⟨v * 512 + r.val, by omega⟩

/-- The place of a row block's entry, in an array laid out by rows. -/
theorem rows_place {n : Nat} (v : ℕ) (hv : v < 16) (r : Fin 512) (k : Fin n) (I : Fin 2 → Nat) (hI : I = ![v, 0]) (e : (⟨2, ![8192, n]⟩ : Shape).Idx)
    (h0 : (e 0).val = I 0 * 512 + 1 * r.val) (h1 : (e 1).val = I 1 * n + 1 * k.val) : e = ix2 (rowAt v hv r) k := by
  subst hI
  funext a
  match a with
  | ⟨0, _⟩ => exact Fin.ext (h0.trans (by show v * 512 + 1 * r.val = v * 512 + r.val; omega))
  | ⟨1, _⟩ => exact Fin.ext (h1.trans (by show 0 * n + 1 * k.val = k.val; omega))

/-- The same in an array laid out by columns. -/
theorem cols_place {n : Nat} (v : ℕ) (hv : v < 16) (r : Fin 512) (k : Fin n) (I : Fin 2 → Nat) (hI : I = ![0, v]) (e : (⟨2, ![n, 8192]⟩ : Shape).Idx)
    (h0 : (e 0).val = I 0 * n + 1 * k.val) (h1 : (e 1).val = I 1 * 512 + 1 * r.val) : e = ix2 k (rowAt v hv r) := by
  subst hI
  funext a
  match a with
  | ⟨0, _⟩ => exact Fin.ext (h0.trans (by show 0 * n + 1 * k.val = k.val; omega))
  | ⟨1, _⟩ => exact Fin.ext (h1.trans (by show v * 512 + 1 * r.val = v * 512 + r.val; omega))

end Cert.Kernel5Ideal.Tail
-- ==== Proof.TailValue.lean ====
/-
  The layer's tail: the seven results are the reference's arrays.
-/
module

public import proofs.«01_k».proof.Proof.TailRef

@[expose] public section

set_option maxRecDepth 16384

noncomputable section

namespace Cert.Kernel5Ideal.Tail

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

abbrev arg (c : Dev nD) (b : Ref sig .tc) : Buf (Elt Ideal) ((c : Thread nD τ).loc b) := m ((c : Thread nD τ).loc b)

/-! ## What a point reads -/

theorem lt16 (t : Fin cfg0.N) : t.val < 16 := lt_of_lt_of_eq t.isLt N_0

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 9] := by decide +kernel
theorem idx3 : ∀ t : Fin cfg0.N, win0_3.index t = ![t.val, 6] := by decide +kernel
theorem idx4 : ∀ t : Fin cfg0.N, win0_4.index t = ![t.val, 7] := by decide +kernel
theorem idx5 : ∀ t : Fin cfg0.N, win0_5.index t = ![t.val, 8] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0, 0, 0] := by decide +kernel
theorem idx10 : ∀ t : Fin cfg0.N, win0_10.index t = ![0, 0, 0, 0] := by decide +kernel
theorem idx11 : ∀ t : Fin cfg0.N, win0_11.index t = ![0, 0, 0, 0] := by decide +kernel

/-- Row `r` of point `t`'s row block, among all rows. -/
abbrev row (t : Fin cfg0.N) (r : Fin 512) : Fin 8192 := rowAt t.val (lt16 t) r

theorem o_apply (c : Dev nD) (t : Fin cfg0.N) (r l : Fin 512) :
    (iblk m c 0 t : Vec Ideal S512x512 .bf16) (ix2 r l) = arg m c main_arg0 (ix2 (row t r) l) := by
  blk_ext [iblk, V, idx0 t]
theorem h_apply (c : Dev nD) (t : Fin cfg0.N) (r : Fin 512) (l : Fin 1024) :
    (iblk m c 1 t : Vec Ideal S512x1024 .bf16) (ix2 r l) = arg m c main_arg1 (ix2 (row t r) l) := by
  blk_ext [iblk, V, idx1 t]
theorem gatt_apply (c : Dev nD) (t : Fin cfg0.N) (r l : Fin 512) :
    (iblk m c 2 t : Vec Ideal S512x512 .bf16) (ix2 r l) = arg m c main_arg2 (ix2 (row t r) (⟨4608 + l.val, by omega⟩ : Fin 9216)) := by
  blk_ext [iblk, V, idx2 t]
theorem glru_apply (c : Dev nD) (t : Fin cfg0.N) (r : Fin 512) (l : Fin 1024) :
    (iblk m c 3 t : Vec Ideal S512x1024 .bf16) (ix2 r l) = arg m c main_arg2 (ix2 (row t r) (⟨6144 + l.val, by omega⟩ : Fin 9216)) := by
  blk_ext [iblk, V, idx3 t]
theorem ga_apply (c : Dev nD) (t : Fin cfg0.N) (r : Fin 512) (l : Fin 1024) :
    (iblk m c 4 t : Vec Ideal S512x1024 .bf16) (ix2 r l) = arg m c main_arg2 (ix2 (row t r) (⟨7168 + l.val, by omega⟩ : Fin 9216)) := by
  blk_ext [iblk, V, idx4 t]
theorem gb_apply (c : Dev nD) (t : Fin cfg0.N) (r : Fin 512) (l : Fin 1024) :
    (iblk m c 5 t : Vec Ideal S512x1024 .bf16) (ix2 r l) = arg m c main_arg2 (ix2 (row t r) (⟨7168 + (1024 + l.val), by omega⟩ : Fin 9216)) := by
  blk_ext [iblk, V, idx5 t]
theorem x_apply (c : Dev nD) (t : Fin cfg0.N) (r : Fin 512) (l : Fin 1024) :
    (iblk m c 6 t : Vec Ideal S512x1024 .f32) (ix2 r l) = arg m c main_arg3 (ix2 (row t r) l) := by
  blk_ext [iblk, V, idx6 t]
theorem gate_apply (c : Dev nD) (t : Fin cfg0.N) (l : Fin 1024) :
    (iblk m c 7 t : Vec Ideal S1x1024 .f32) (ix2 0 l) = arg m c main_arg4 (ix2 0 l) := by
  blk_ext [iblk, V, idx7 t]
theorem gpost_apply (c : Dev nD) (t : Fin cfg0.N) (l : Fin 1024) :
    (iblk m c 8 t : Vec Ideal S1x1024 .f32) (ix2 0 l) = arg m c main_arg5 (ix2 0 l) := by
  blk_ext [iblk, V, idx8 t]
theorem wpa_apply (c : Dev nD) (t : Fin cfg0.N) (q : Fin 4) (l : Fin 512) (k : Fin 256) :
    (iblk m c 9 t : Vec Ideal S4x1x512x256 .bf16) (ix4 q 0 l k) = arg m c main_arg6 (ix4 q 0 l k) := by
  blk_ext [iblk, V, idx9 t]
theorem wpb_apply (c : Dev nD) (t : Fin cfg0.N) (q : Fin 4) (l : Fin 256) (k : Fin 1024) :
    (iblk m c 10 t : Vec Ideal S4x1x256x1024 .bf16) (ix4 q 0 l k) = arg m c main_arg7 (ix4 q 0 l k) := by
  blk_ext [iblk, V, idx10 t]
theorem wo_apply (c : Dev nD) (t : Fin cfg0.N) (q : Fin 4) (l : Fin 256) (k : Fin 1024) :
    (iblk m c 11 t : Vec Ideal S4x1x256x1024 .bf16) (ix4 q 0 l k) = arg m c main_arg8 (ix4 q 0 l k) := by
  blk_ext [iblk, V, idx11 t]

/-- The call's arrays on device `c`. -/
abbrev args (c : Dev nD) : Args := ⟨arg m c main_arg0, arg m c main_arg1, arg m c main_arg2, arg m c main_arg3, arg m c main_arg4,
  arg m c main_arg5, arg m c main_arg6, arg m c main_arg7, arg m c main_arg8⟩

/-- The blocks staged at point `t`. -/
abbrev blks (c : Dev nD) (t : Fin cfg0.N) : Blks := ⟨iblk m c 0 t, iblk m c 1 t, iblk m c 2 t, iblk m c 3 t, iblk m c 4 t, iblk m c 5 t,
  iblk m c 6 t, iblk m c 7 t, iblk m c 8 t, iblk m c 9 t, iblk m c 10 t, iblk m c 11 t⟩

theorem point (c : Dev nD) (t : Fin cfg0.N) : Point (args m c) (blks m c t) (row t) :=
  ⟨o_apply m c t, h_apply m c t, gatt_apply m c t, glru_apply m c t, ga_apply m c t, gb_apply m c t, x_apply m c t, gate_apply m c t,
    gpost_apply m c t, wpa_apply m c t, wpb_apply m c t, wo_apply m c t⟩

/-! ## The values that a point keeps between its stores -/

section Kept

variable (x0 : Vec Ideal S512x512 .bf16) (x1 : Vec Ideal S512x1024 .bf16) (x2 : Vec Ideal S512x512 .bf16) (x3 x4 x5 : Vec Ideal S512x1024 .bf16)
  (x6 : Vec Ideal S512x1024 .f32) (x7 x8 : Vec Ideal S1x1024 .f32) (x9 : Vec Ideal S4x1x512x256 .bf16) (x10 x11 : Vec Ideal S4x1x256x1024 .bf16)

theorem kept19 : k0_pay19 (F := Ideal) x0 x1 x2 x3 x4 x5 x6 x7 x8 x9 x10 x11 = k0_pay3 x2 x0 := by
  unfold k0_pay19; frame_out
theorem kept20 : k0_pay20 (F := Ideal) x0 x1 x2 x3 x4 x5 x6 x7 x8 x9 x10 x11 = k0_pay6 x3 x1 := by
  unfold k0_pay20; frame_out
theorem kept21 : k0_pay21 (F := Ideal) x0 x1 x2 x3 x4 x5 x6 x7 x8 x9 x10 x11
    = k0_pay8 (k0_pay3 x2 x0) (View.ld x9 r0_3) (View.ld x9 r0_4) (View.ld x9 r0_5) (View.ld x9 r0_6) := by
  unfold k0_pay21; rw [kept19]
theorem kept22 : k0_pay22 (F := Ideal) x0 x1 x2 x3 x4 x5 x6 x7 x8 x9 x10 x11 = k0_pay10 (k0_pay6 x3 x1) x10 := by
  unfold k0_pay22; rw [kept20]; frame_out
theorem kept23 : k0_pay23 (F := Ideal) x0 x1 x2 x3 x4 x5 x6 x7 x8 x9 x10 x11 = k0_pay12 x4 := by
  unfold k0_pay23; frame_out
theorem kept24 : k0_pay24 (F := Ideal) x0 x1 x2 x3 x4 x5 x6 x7 x8 x9 x10 x11 = k0_pay13 := rfl

end Kept

/-! ## What the write-backs leave -/

theorem idx12 : ∀ t : Fin cfg0.N, win0_12.index t = ![0, t.val] := by decide +kernel
theorem idx13 : ∀ t : Fin cfg0.N, win0_13.index t = ![0, t.val] := by decide +kernel
theorem idx14 : ∀ t : Fin cfg0.N, win0_14.index t = ![t.val, 0] := by decide +kernel
theorem idx15 : ∀ t : Fin cfg0.N, win0_15.index t = ![t.val, 0] := by decide +kernel
theorem idx16 : ∀ t : Fin cfg0.N, win0_16.index t = ![0, t.val] := by decide +kernel
theorem idx17 : ∀ t : Fin cfg0.N, win0_17.index t = ![t.val, 0] := by decide +kernel
theorem idx18 : ∀ t : Fin cfg0.N, win0_18.index t = ![t.val, 0] := by decide +kernel

/-- Every row lies in some point's block. -/
theorem row_split (j : Fin 8192) : ∃ (t : Fin cfg0.N) (r : Fin 512), j = row t r :=
  ⟨⟨j.val / 512, lt_of_lt_of_eq (by omega) N_0.symm⟩, ⟨j.val % 512, by omega⟩, Fin.ext (by show j.val = j.val / 512 * 512 + j.val % 512; omega)⟩

theorem emb12 (t : Fin cfg0.N) (l r : Fin 512) : ((cfg0.win 12).blk t).view.emb (ix2 l r) = (ix2 l (row t r) : S512x8192.Idx) :=
  cols_place t.val (lt16 t) r l _ (idx12 t) _ rfl rfl
theorem emb13 (t : Fin cfg0.N) (l : Fin 1024) (r : Fin 512) : ((cfg0.win 13).blk t).view.emb (ix2 l r) = (ix2 l (row t r) : S1024x8192.Idx) :=
  cols_place t.val (lt16 t) r l _ (idx13 t) _ rfl rfl
theorem emb14 (t : Fin cfg0.N) (r : Fin 512) (l : Fin 1024) : ((cfg0.win 14).blk t).view.emb (ix2 r l) = (ix2 (row t r) l : S8192x1024.Idx) :=
  rows_place t.val (lt16 t) r l _ (idx14 t) _ rfl rfl
theorem emb15 (t : Fin cfg0.N) (r : Fin 512) (l : Fin 1024) : ((cfg0.win 15).blk t).view.emb (ix2 r l) = (ix2 (row t r) l : S8192x1024.Idx) :=
  rows_place t.val (lt16 t) r l _ (idx15 t) _ rfl rfl
theorem emb16 (t : Fin cfg0.N) (l : Fin 1024) (r : Fin 512) : ((cfg0.win 16).blk t).view.emb (ix2 l r) = (ix2 l (row t r) : S1024x8192.Idx) :=
  cols_place t.val (lt16 t) r l _ (idx16 t) _ rfl rfl
theorem emb17 (t : Fin cfg0.N) (r : Fin 512) (l : Fin 1024) : ((cfg0.win 17).blk t).view.emb (ix2 r l) = (ix2 (row t r) l : S8192x1024.Idx) :=
  rows_place t.val (lt16 t) r l _ (idx17 t) _ rfl rfl
theorem emb18 (t : Fin cfg0.N) (r : Fin 512) (l : Fin 1024) : ((cfg0.win 18).blk t).view.emb (ix2 r l) = (ix2 (row t r) l : S8192x1024.Idx) :=
  rows_place t.val (lt16 t) r l _ (idx18 t) _ rfl rfl

theorem result12 (c : Dev nD) : (dats m 0 c).arrAt 12 cfg0.N = want12 (args m c) := by
  refine (dats m 0 c).arrAt_eq_of_cover 12 _ (fun t hf => ?_) fun i => ?_
  · show (cfg0.win 12).cut (grid0.coords t) ((dats m 0 c).after 12 t) = _
    rw [after0_12]
    frame_out
    funext y
    obtain ⟨l, r, rfl⟩ : ∃ (l : Fin 512) (r : Fin 512), y = ix2 l r := ⟨y 0, y 1, (ix2_eta y).symm⟩
    show _ = want12 (args m c) (((cfg0.win 12).blk t).view.emb (ix2 l r))
    rw [emb12, want12_apply]
    exact (pay4_apply _ _ r l).trans (a_apply (point m c t) r l)
  · obtain ⟨l, j, rfl⟩ : ∃ (l : Fin 512) (j : Fin 8192), i = ix2 l j := ⟨i 0, i 1, (ix2_eta i).symm⟩
    obtain ⟨t, r, rfl⟩ := row_split j
    exact ⟨t, flush0_12 t, by rw [← emb12]; exact View.emb_mem_set _ _⟩

theorem result13 (c : Dev nD) : (dats m 0 c).arrAt 13 cfg0.N = want13 (args m c) := by
  refine (dats m 0 c).arrAt_eq_of_cover 13 _ (fun t hf => ?_) fun i => ?_
  · show (cfg0.win 13).cut (grid0.coords t) ((dats m 0 c).after 13 t) = _
    rw [after0_13]
    frame_out
    funext y
    obtain ⟨l, r, rfl⟩ : ∃ (l : Fin 1024) (r : Fin 512), y = ix2 l r := ⟨y 0, y 1, (ix2_eta y).symm⟩
    show _ = want13 (args m c) (((cfg0.win 13).blk t).view.emb (ix2 l r))
    rw [emb13, want13_apply]
    exact (pay7_apply _ _ r l).trans (r_apply (point m c t) r l)
  · obtain ⟨l, j, rfl⟩ : ∃ (l : Fin 1024) (j : Fin 8192), i = ix2 l j := ⟨i 0, i 1, (ix2_eta i).symm⟩
    obtain ⟨t, r, rfl⟩ := row_split j
    exact ⟨t, flush0_13 t, by rw [← emb13]; exact View.emb_mem_set _ _⟩

theorem result14 (c : Dev nD) : (dats m 0 c).arrAt 14 cfg0.N = want14 (args m c) := by
  refine (dats m 0 c).arrAt_eq_of_cover 14 _ (fun t hf => ?_) fun i => ?_
  · show (cfg0.win 14).cut (grid0.coords t) ((dats m 0 c).after 14 t) = _
    rw [after0_14]
    frame_out
    funext y
    obtain ⟨r, n, rfl⟩ : ∃ (r : Fin 512) (n : Fin 1024), y = ix2 r n := ⟨y 0, y 1, (ix2_eta y).symm⟩
    show _ = want14 (args m c) (((cfg0.win 14).blk t).view.emb (ix2 r n))
    rw [emb14, want14_apply, kept19]
    exact (pay9_apply _ _ _ _ _ r n).trans (ya_eq (point m c t) r n)
  · obtain ⟨j, n, rfl⟩ : ∃ (j : Fin 8192) (n : Fin 1024), i = ix2 j n := ⟨i 0, i 1, (ix2_eta i).symm⟩
    obtain ⟨t, r, rfl⟩ := row_split j
    exact ⟨t, flush0_14 t, by rw [← emb14]; exact View.emb_mem_set _ _⟩

theorem result15 (c : Dev nD) : (dats m 0 c).arrAt 15 cfg0.N = want15 (args m c) := by
  refine (dats m 0 c).arrAt_eq_of_cover 15 _ (fun t hf => ?_) fun i => ?_
  · show (cfg0.win 15).cut (grid0.coords t) ((dats m 0 c).after 15 t) = _
    rw [after0_15]
    frame_out
    funext y
    obtain ⟨r, n, rfl⟩ : ∃ (r : Fin 512) (n : Fin 1024), y = ix2 r n := ⟨y 0, y 1, (ix2_eta y).symm⟩
    show _ = want15 (args m c) (((cfg0.win 15).blk t).view.emb (ix2 r n))
    rw [emb15, want15_apply, kept20]
    exact (pay11_apply _ _ r n).trans (yb_eq (point m c t) r n)
  · obtain ⟨j, n, rfl⟩ : ∃ (j : Fin 8192) (n : Fin 1024), i = ix2 j n := ⟨i 0, i 1, (ix2_eta i).symm⟩
    obtain ⟨t, r, rfl⟩ := row_split j
    exact ⟨t, flush0_15 t, by rw [← emb15]; exact View.emb_mem_set _ _⟩

theorem result16 (c : Dev nD) : (dats m 0 c).arrAt 16 cfg0.N = want16 (args m c) := by
  refine (dats m 0 c).arrAt_eq_of_cover 16 _ (fun t hf => ?_) fun i => ?_
  · show (cfg0.win 16).cut (grid0.coords t) ((dats m 0 c).after 16 t) = _
    rw [after0_16]
    frame_out
    funext y
    obtain ⟨l, r, rfl⟩ : ∃ (l : Fin 1024) (r : Fin 512), y = ix2 l r := ⟨y 0, y 1, (ix2_eta y).symm⟩
    show _ = want16 (args m c) (((cfg0.win 16).blk t).view.emb (ix2 l r))
    rw [emb16, want16_apply, kept21, kept22, kept23, kept24]
    exact (pay15_apply _ _ _ _ _ r l).trans (z_eq (point m c t) r l)
  · obtain ⟨l, j, rfl⟩ : ∃ (l : Fin 1024) (j : Fin 8192), i = ix2 l j := ⟨i 0, i 1, (ix2_eta i).symm⟩
    obtain ⟨t, r, rfl⟩ := row_split j
    exact ⟨t, flush0_16 t, by rw [← emb16]; exact View.emb_mem_set _ _⟩

theorem result17 (c : Dev nD) : (dats m 0 c).arrAt 17 cfg0.N = want17 (args m c) := by
  refine (dats m 0 c).arrAt_eq_of_cover 17 _ (fun t hf => ?_) fun i => ?_
  · show (cfg0.win 17).cut (grid0.coords t) ((dats m 0 c).after 17 t) = _
    rw [after0_17]
    frame_out
    funext y
    obtain ⟨r, n, rfl⟩ : ∃ (r : Fin 512) (n : Fin 1024), y = ix2 r n := ⟨y 0, y 1, (ix2_eta y).symm⟩
    show _ = want17 (args m c) (((cfg0.win 17).blk t).view.emb (ix2 r n))
    rw [emb17, want17_apply, kept21, kept22, kept23, kept24]
    exact (pay17_apply _ _ _ _ _ _ r n).trans (out_eq (point m c t) r n)
  · obtain ⟨j, n, rfl⟩ : ∃ (j : Fin 8192) (n : Fin 1024), i = ix2 j n := ⟨i 0, i 1, (ix2_eta i).symm⟩
    obtain ⟨t, r, rfl⟩ := row_split j
    exact ⟨t, flush0_17 t, by rw [← emb17]; exact View.emb_mem_set _ _⟩

theorem result18 (c : Dev nD) : (dats m 0 c).arrAt 18 cfg0.N = want18 (args m c) := by
  refine (dats m 0 c).arrAt_eq_of_cover 18 _ (fun t hf => ?_) fun i => ?_
  · show (cfg0.win 18).cut (grid0.coords t) ((dats m 0 c).after 18 t) = _
    rw [after0_18]
    frame_out
    funext y
    obtain ⟨r, n, rfl⟩ : ∃ (r : Fin 512) (n : Fin 1024), y = ix2 r n := ⟨y 0, y 1, (ix2_eta y).symm⟩
    show _ = want18 (args m c) (((cfg0.win 18).blk t).view.emb (ix2 r n))
    rw [emb18, kept21, kept22, kept23, kept24]
    exact step_eq (point m c t) r n
  · obtain ⟨j, n, rfl⟩ : ∃ (j : Fin 8192) (n : Fin 1024), i = ix2 j n := ⟨i 0, i 1, (ix2_eta i).symm⟩
    obtain ⟨t, r, rfl⟩ := row_split j
    exact ⟨t, flush0_18 t, by rw [← emb18]; exact View.emb_mem_set _ _⟩

/-- The run, with what it leaves in the results and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v0_0) = want12 (args m c)
    ∧ r.2.mem ((c.tc : Thread nD τ).loc main_v0_1) = want13 (args m c)
    ∧ r.2.mem ((c.tc : Thread nD τ).loc main_v0_2) = want14 (args m c)
    ∧ r.2.mem ((c.tc : Thread nD τ).loc main_v0_3) = want15 (args m c)
    ∧ r.2.mem ((c.tc : Thread nD τ).loc main_v0_4) = want16 (args m c)
    ∧ r.2.mem ((c.tc : Thread nD τ).loc main_v0_5) = want17 (args m c)
    ∧ r.2.mem ((c.tc : Thread nD τ).loc main_v0_6) = want18 (args m c)
    ∧ r.2.mem ((c.tc : Thread nD τ).loc main_arg0) = arg m c main_arg0
    ∧ r.2.mem ((c.tc : Thread nD τ).loc main_arg1) = arg m c main_arg1
    ∧ r.2.mem ((c.tc : Thread nD τ).loc main_arg2) = arg m c main_arg2
    ∧ r.2.mem ((c.tc : Thread nD τ).loc main_arg3) = arg m c main_arg3
    ∧ r.2.mem ((c.tc : Thread nD τ).loc main_arg4) = arg m c main_arg4
    ∧ r.2.mem ((c.tc : Thread nD τ).loc main_arg5) = arg m c main_arg5
    ∧ r.2.mem ((c.tc : Thread nD τ).loc main_arg6) = arg m c main_arg6
    ∧ r.2.mem ((c.tc : Thread nD τ).loc main_arg7) = arg m c main_arg7
    ∧ r.2.mem ((c.tc : Thread nD τ).loc main_arg8) = arg m c main_arg8 :=
  (θ_run defs _ _).mono (fun r h c => ⟨((h c).1 12).trans (result12 m c),
    ((h c).1 13).trans (result13 m c),
    ((h c).1 14).trans (result14 m c),
    ((h c).1 15).trans (result15 m c),
    ((h c).1 16).trans (result16 m c),
    ((h c).1 17).trans (result17 m c),
    ((h c).1 18).trans (result18 m c),
    ((h c).1 0).trans (((dats m 0 c).arrAt_in 0 rfl _).trans (A_eq m c 0)),
    ((h c).1 1).trans (((dats m 0 c).arrAt_in 1 rfl _).trans (A_eq m c 1)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11))⟩) (run_main m ρ)

end Cert.Kernel5Ideal.Tail
-- ==== Proof.LossRef.lean ====
/-
  The last layer's tail and its loss: the reference's arrays are the first layer's at the second layer's weights, and
  beyond them the error, its gradient and its square.
-/
module

public import proofs.«01_k».proof.Proof.TailRef
public import proofs.«01_k».proof.Proof.Gen.Reference10Ideal.Read

@[expose] public section

set_option maxRecDepth 16384

noncomputable section

namespace Cert.Reference10Ideal.Loss

open Idealize.ShloMosaic Idealize.ShloMosaic.TcCoe Cert.Kernel5Ideal
open Cert.Kernel5Ideal.Tail (Args want12 want13 want14 want15 want16 want17 want18)
open Cert.Reference10Ideal.Read

/-- A weight whose every layer is the second. -/
abbrev second {p q : Nat} (w : (⟨4, ![4, 2, p, q]⟩ : Shape).Idx → EReal) : (⟨4, ![4, 2, p, q]⟩ : Shape).Idx → EReal :=
  fun i => w (ix4 (i 0) 1 (i 2) (i 3))

variable (x0 : S8192x512.Idx → EReal) (x1 : S8192x1024.Idx → EReal) (x2 : S8192x9216.Idx → EReal) (x3 : S8192x1024.Idx → EReal)
  (x4 x5 : S1x1024.Idx → EReal) (x6 : S4x2x512x256.Idx → EReal) (x7 x8 : S4x2x256x1024.Idx → EReal) (x9 : S8192x1024.Idx → EReal)

/-- The arrays that the tail reads: the weights are the second layer's. -/
abbrev args : Args := ⟨x0, x1, x2, x3, x4, x5, second x6, second x7, second x8⟩

theorem wide_same : val_main_v6 (F := Ideal) x6 = Cert.Reference5Ideal.Read.val_main_v4 (F := Ideal) (second x6) := by
  funext i
  obtain ⟨l, n, rfl⟩ : ∃ (l : Fin 512) (n : Fin 1024), i = ix2 l n := ⟨i 0, i 1, (ix2_eta i).symm⟩
  pointwise [val_main_v6, val_main_v5, val_main_v4, val_main_v3, val_main_v0, Cert.Reference5Ideal.Read.val_main_v4,
    Cert.Reference5Ideal.Read.val_main_v3, Cert.Reference5Ideal.Read.val_main_v2, Cert.Reference5Ideal.Read.val_main_v1,
    Cert.Reference5Ideal.Read.val_main_v0]
  rfl

theorem tall_same : val_main_v9 (F := Ideal) x7 = Cert.Reference5Ideal.Read.val_main_v8 (F := Ideal) (second x7) := by
  funext i
  obtain ⟨l, n, rfl⟩ : ∃ (l : Fin 1024) (n : Fin 1024), i = ix2 l n := ⟨i 0, i 1, (ix2_eta i).symm⟩
  pointwise [val_main_v9, val_main_v8, val_main_v7, val_main_v1, Cert.Reference5Ideal.Read.val_main_v8,
    Cert.Reference5Ideal.Read.val_main_v7, Cert.Reference5Ideal.Read.val_main_v6, Cert.Reference5Ideal.Read.val_main_v5]
  rfl

theorem out_weight_same : val_main_v12 (F := Ideal) x8 = Cert.Reference5Ideal.Read.val_main_v12 (F := Ideal) (second x8) := tall_same x8

theorem ya_same : val_main_v25 (F := Ideal) x0 x2 x6 = Cert.Reference5Ideal.Read.val_main_v25 (F := Ideal) x0 x2 (second x6) := by
  unfold val_main_v25 Cert.Reference5Ideal.Read.val_main_v25
  rw [wide_same]
  rfl

theorem yb_same : val_main_v26 (F := Ideal) x1 x2 x7 = Cert.Reference5Ideal.Read.val_main_v26 (F := Ideal) x1 x2 (second x7) := by
  unfold val_main_v26 Cert.Reference5Ideal.Read.val_main_v26
  rw [tall_same]
  rfl

theorem z_same : val_main_v37 (F := Ideal) x0 x1 x2 x6 x7
    = Cert.Reference5Ideal.Read.val_main_v37 (F := Ideal) x0 x1 x2 (second x6) (second x7) := by
  unfold val_main_v37 val_main_v36 val_main_v35
  rw [ya_same, yb_same]
  rfl

theorem out_same : val_main_v38 (F := Ideal) x0 x1 x2 x6 x7 x8
    = Cert.Reference5Ideal.Read.val_main_v38 (F := Ideal) x0 x1 x2 (second x6) (second x7) (second x8) := by
  unfold val_main_v38 Cert.Reference5Ideal.Read.val_main_v38
  rw [z_same, out_weight_same]
  rfl

/-! ## The results -/

theorem a_t_same : val_main_v50 (F := Ideal) x0 x2 = want12 (args x0 x1 x2 x3 x4 x5 x6 x7 x8) := rfl
theorem r_t_same : val_main_v52 (F := Ideal) x1 x2 = want13 (args x0 x1 x2 x3 x4 x5 x6 x7 x8) := rfl
theorem ya_b_same : val_main_v53 (F := Ideal) x0 x2 x6 = want14 (args x0 x1 x2 x3 x4 x5 x6 x7 x8) := by
  unfold val_main_v53
  rw [ya_same]
  rfl
theorem yb_b_same : val_main_v54 (F := Ideal) x1 x2 x7 = want15 (args x0 x1 x2 x3 x4 x5 x6 x7 x8) := by
  unfold val_main_v54
  rw [yb_same]
  rfl
theorem z_t_same : val_main_v56 (F := Ideal) x0 x1 x2 x6 x7 = want16 (args x0 x1 x2 x3 x4 x5 x6 x7 x8) := by
  unfold val_main_v56 val_main_v55
  rw [z_same]
  rfl
theorem out_b_same : val_main_v57 (F := Ideal) x0 x1 x2 x6 x7 x8 = want17 (args x0 x1 x2 x3 x4 x5 x6 x7 x8) := by
  unfold val_main_v57
  rw [out_same]
  rfl

/-- The layer's output. -/
theorem y_same : val_main_v62 (F := Ideal) x0 x1 x2 x3 x4 x5 x6 x7 x8 = want18 (args x0 x1 x2 x3 x4 x5 x6 x7 x8) := by
  unfold val_main_v62 val_main_v61 val_main_v59 val_main_v48 val_main_v47 val_main_v46 val_main_v45 val_main_v43 val_main_v41 val_main_v40
    val_main_v39
  rw [out_same]
  rfl

/-- The error: the layer's output less the target. -/
abbrev err (i : Fin 8192) (n : Fin 1024) : EReal := want18 (args x0 x1 x2 x3 x4 x5 x6 x7 x8) (ix2 i n) - x9 (ix2 i n)

theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_inv : Ideal.ofBits .f32 0x3A800000#32 = ((1/1024 : ℝ) : EReal) := by
  simp [Ideal.ofBits, Ideal.ieee, -EReal.coe_mul]; norm_num

/-- Half of twice the error over the number of features. -/
theorem half_twice (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [Cert.Kernel5Ideal.Tail.ofBits_half, ofBits_one, ofBits_1024, ofBits_two, ofBits_inv, ← EReal.coe_mul, Ideal.div_coe (by norm_num),
    ← mul_assoc, ← EReal.coe_mul, ← EReal.coe_mul, mul_comm]
  congr 2
  norm_num

/-- The gradient of the loss at the layer's output. -/
theorem dy_apply (i : Fin 8192) (n : Fin 1024) : val_main_v77 (F := Ideal) x0 x1 x2 x3 x4 x5 x6 x7 x8 x9 (ix2 i n)
    = err x0 x1 x2 x3 x4 x5 x6 x7 x8 x9 i n * Ideal.ofBits .f32 0x3A800000#32 := by
  rw [← half_twice]
  unfold val_main_v77 val_main_v66 val_main_v63 err
  rw [y_same]
  generalize want18 (args x0 x1 x2 x3 x4 x5 x6 x7 x8) = y
  pointwise [val_main_v76, val_main_v75, val_main_v74, val_main_v73, val_main_v72, val_main_v65, val_main_cst_4, val_main_cst_9, val_main_cst_10,
    val_main_cst_11]

/-- The squared error summed over the rows. -/
theorem sq_apply (n : Fin 1024) : val_main_v81 (F := Ideal) x0 x1 x2 x3 x4 x5 x6 x7 x8 x9 (ix2 0 n)
    = ∑ i : Fin 8192, err x0 x1 x2 x3 x4 x5 x6 x7 x8 x9 i n * err x0 x1 x2 x3 x4 x5 x6 x7 x8 x9 i n := by
  unfold val_main_v81 val_main_v80 val_main_v79 val_main_v78 err
  rw [y_same]
  generalize want18 (args x0 x1 x2 x3 x4 x5 x6 x7 x8) = y
  pointwise [val_main_cst_12]

end Cert.Reference10Ideal.Loss
-- ==== Proof.LossValue.lean ====
/-
  The last layer's tail and its loss: the eight results are the reference's arrays.
-/
module

public import proofs.«01_k».proof.Proof.LossRef
public import proofs.«01_k».proof.Proof.Gen.Kernel10Ideal.Frame

@[expose] public section

set_option maxRecDepth 16384

noncomputable section

namespace Cert.Kernel10Ideal.Loss

open Cert.Kernel10Ideal Cert.Kernel10Ideal.Gen Idealize.ShloMosaic Idealize.ShloMosaic.TcCoe Idealize.SL.Sem
open Idealize.ShloMosaic.Pipeline (Dat)
open Cert.Kernel5Ideal.Tail (Args Blks Point rowAt rows_place cols_place yaBlk ybBlk want12 want13 want14 want15 want16 want17 want18)
open Cert.Reference10Ideal.Loss (second)

variable (m : (ℓ : Loc nD τ sig) → Buf (Elt Ideal) ℓ) (c : Dev nD)

/-- An argument's array on device `c`. -/
abbrev arg (b : Ref sig .tc) : Buf (Elt Ideal) ((c.tc : Thread nD τ).loc b) := m ((c.tc : Thread nD τ).loc b)

/-! ## What a point reads -/

theorem lt16 (t : Fin cfg0.N) : t.val < 16 := lt_of_lt_of_eq t.isLt N_0

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 9] := by decide +kernel
theorem idx3 : ∀ t : Fin cfg0.N, win0_3.index t = ![t.val, 6] := by decide +kernel
theorem idx4 : ∀ t : Fin cfg0.N, win0_4.index t = ![t.val, 7] := by decide +kernel
theorem idx5 : ∀ t : Fin cfg0.N, win0_5.index t = ![t.val, 8] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 1, 0, 0] := by decide +kernel
theorem idx10 : ∀ t : Fin cfg0.N, win0_10.index t = ![0, 1, 0, 0] := by decide +kernel
theorem idx11 : ∀ t : Fin cfg0.N, win0_11.index t = ![0, 1, 0, 0] := by decide +kernel
theorem idx12 : ∀ t : Fin cfg0.N, win0_12.index t = ![t.val, 0] := by decide +kernel

/-- Row `r` of point `t`'s row block, among all rows. -/
abbrev row (t : Fin cfg0.N) (r : Fin 512) : Fin 8192 := rowAt t.val (lt16 t) r

theorem o_apply (t : Fin cfg0.N) (r l : Fin 512) : (iblk m c 0 t : Vec Ideal S512x512 .bf16) (ix2 r l) = arg m c main_arg0 (ix2 (row t r) l) := by
  blk_ext [iblk, V, idx0 t]
theorem h_apply (t : Fin cfg0.N) (r : Fin 512) (l : Fin 1024) : (iblk m c 1 t : Vec Ideal S512x1024 .bf16) (ix2 r l) = arg m c main_arg1 (ix2 (row t r) l) := by
  blk_ext [iblk, V, idx1 t]
theorem gatt_apply (t : Fin cfg0.N) (r l : Fin 512) : (iblk m c 2 t : Vec Ideal S512x512 .bf16) (ix2 r l) = arg m c main_arg2 (ix2 (row t r) (⟨4608 + l.val, by omega⟩ : Fin 9216)) := by
  blk_ext [iblk, V, idx2 t]
theorem glru_apply (t : Fin cfg0.N) (r : Fin 512) (l : Fin 1024) : (iblk m c 3 t : Vec Ideal S512x1024 .bf16) (ix2 r l) = arg m c main_arg2 (ix2 (row t r) (⟨6144 + l.val, by omega⟩ : Fin 9216)) := by
  blk_ext [iblk, V, idx3 t]
theorem ga_apply (t : Fin cfg0.N) (r : Fin 512) (l : Fin 1024) : (iblk m c 4 t : Vec Ideal S512x1024 .bf16) (ix2 r l) = arg m c main_arg2 (ix2 (row t r) (⟨7168 + l.val, by omega⟩ : Fin 9216)) := by
  blk_ext [iblk, V, idx4 t]
theorem gb_apply (t : Fin cfg0.N) (r : Fin 512) (l : Fin 1024) : (iblk m c 5 t : Vec Ideal S512x1024 .bf16) (ix2 r l) = arg m c main_arg2 (ix2 (row t r) (⟨7168 + (1024 + l.val), by omega⟩ : Fin 9216)) := by
  blk_ext [iblk, V, idx5 t]
theorem x_apply (t : Fin cfg0.N) (r : Fin 512) (l : Fin 1024) : (iblk m c 6 t : Vec Ideal S512x1024 .f32) (ix2 r l) = arg m c main_arg3 (ix2 (row t r) l) := by
  blk_ext [iblk, V, idx6 t]
theorem gate_apply (t : Fin cfg0.N) (l : Fin 1024) : (iblk m c 7 t : Vec Ideal S1x1024 .f32) (ix2 0 l) = arg m c main_arg4 (ix2 0 l) := by
  blk_ext [iblk, V, idx7 t]
theorem gpost_apply (t : Fin cfg0.N) (l : Fin 1024) : (iblk m c 8 t : Vec Ideal S1x1024 .f32) (ix2 0 l) = arg m c main_arg5 (ix2 0 l) := by
  blk_ext [iblk, V, idx8 t]
theorem wpa_apply (t : Fin cfg0.N) (q : Fin 4) (l : Fin 512) (k : Fin 256) : (iblk m c 9 t : Vec Ideal S4x1x512x256 .bf16) (ix4 q 0 l k) = arg m c main_arg6 (ix4 q 1 l k) := by
  blk_ext [iblk, V, idx9 t]
theorem wpb_apply (t : Fin cfg0.N) (q : Fin 4) (l : Fin 256) (k : Fin 1024) : (iblk m c 10 t : Vec Ideal S4x1x256x1024 .bf16) (ix4 q 0 l k) = arg m c main_arg7 (ix4 q 1 l k) := by
  blk_ext [iblk, V, idx10 t]
theorem wo_apply (t : Fin cfg0.N) (q : Fin 4) (l : Fin 256) (k : Fin 1024) : (iblk m c 11 t : Vec Ideal S4x1x256x1024 .bf16) (ix4 q 0 l k) = arg m c main_arg8 (ix4 q 1 l k) := by
  blk_ext [iblk, V, idx11 t]
theorem target_apply (t : Fin cfg0.N) (r : Fin 512) (l : Fin 1024) : (iblk m c 12 t : Vec Ideal S512x1024 .f32) (ix2 r l) = arg m c main_arg9 (ix2 (row t r) l) := by
  blk_ext [iblk, V, idx12 t]

/-- The arrays that the tail reads on device `c`: the weights are the second layer's. -/
abbrev args : Args := Cert.Reference10Ideal.Loss.args (arg m c main_arg0) (arg m c main_arg1) (arg m c main_arg2) (arg m c main_arg3)
  (arg m c main_arg4) (arg m c main_arg5) (arg m c main_arg6) (arg m c main_arg7) (arg m c main_arg8)

/-- The blocks staged at point `t`. -/
abbrev blks (t : Fin cfg0.N) : Blks := ⟨iblk m c 0 t, iblk m c 1 t, iblk m c 2 t, iblk m c 3 t, iblk m c 4 t, iblk m c 5 t,
  iblk m c 6 t, iblk m c 7 t, iblk m c 8 t, iblk m c 9 t, iblk m c 10 t, iblk m c 11 t⟩

theorem point (t : Fin cfg0.N) : Point (args m c) (blks m c t) (row t) :=
  ⟨o_apply m c t, h_apply m c t, gatt_apply m c t, glru_apply m c t, ga_apply m c t, gb_apply m c t, x_apply m c t, gate_apply m c t,
    gpost_apply m c t, wpa_apply m c t, wpb_apply m c t, wo_apply m c t⟩

/-! ## What a point leaves -/

/-- The normalised output at a point. -/
abbrev outBlk (X : Blks) : FVec Ideal S512x1024 .f32 :=
  Cert.Kernel5Ideal.Gen.k0_pay18 (F := Ideal) (yaBlk X) (ybBlk X) (Cert.Kernel5Ideal.Gen.k0_pay12 X.b4) Cert.Kernel5Ideal.Gen.k0_pay13 X.b5 X.b11

theorem left13 (t : Fin cfg0.N) : (outsAt0 m c t.val t.isLt).1 = Cert.Kernel5Ideal.Gen.k0_pay4 (F := Ideal) (iblk m c 2 t) (iblk m c 0 t) := by
  by_cases h0 : t.val % 16 = 0
  · rw [outsAt0_A m c t h0]; frame_out; rfl
  · rw [outsAt0_B m c t h0]; frame_out; rfl
theorem left14 (t : Fin cfg0.N) : (outsAt0 m c t.val t.isLt).2.1 = Cert.Kernel5Ideal.Gen.k0_pay7 (F := Ideal) (iblk m c 3 t) (iblk m c 1 t) := by
  by_cases h0 : t.val % 16 = 0
  · rw [outsAt0_A m c t h0]; frame_out; rfl
  · rw [outsAt0_B m c t h0]; frame_out; rfl
theorem left15 (t : Fin cfg0.N) : (outsAt0 m c t.val t.isLt).2.2.1 = Cert.Kernel5Ideal.Gen.k0_pay9 (F := Ideal) (Cert.Kernel5Ideal.Gen.k0_pay3 (iblk m c 2 t) (iblk m c 0 t)) (View.ld (iblk m c 9 t) Cert.Kernel5Ideal.Gen.r0_3) (View.ld (iblk m c 9 t) Cert.Kernel5Ideal.Gen.r0_4) (View.ld (iblk m c 9 t) Cert.Kernel5Ideal.Gen.r0_5) (View.ld (iblk m c 9 t) Cert.Kernel5Ideal.Gen.r0_6) := by
  by_cases h0 : t.val % 16 = 0
  · rw [outsAt0_A m c t h0]; frame_out; rfl
  · rw [outsAt0_B m c t h0]; frame_out; rfl
theorem left16 (t : Fin cfg0.N) : (outsAt0 m c t.val t.isLt).2.2.2.1 = Cert.Kernel5Ideal.Gen.k0_pay11 (F := Ideal) (Cert.Kernel5Ideal.Gen.k0_pay6 (iblk m c 3 t) (iblk m c 1 t)) (iblk m c 10 t) := by
  by_cases h0 : t.val % 16 = 0
  · rw [outsAt0_A m c t h0]; frame_out; rfl
  · rw [outsAt0_B m c t h0]; frame_out; rfl
theorem left17 (t : Fin cfg0.N) : (outsAt0 m c t.val t.isLt).2.2.2.2.1 = Cert.Kernel5Ideal.Gen.k0_pay15 (F := Ideal) (yaBlk (blks m c t)) (ybBlk (blks m c t)) (Cert.Kernel5Ideal.Gen.k0_pay12 (iblk m c 4 t)) Cert.Kernel5Ideal.Gen.k0_pay13 (iblk m c 5 t) := by
  by_cases h0 : t.val % 16 = 0
  · rw [outsAt0_A m c t h0]; frame_out; rfl
  · rw [outsAt0_B m c t h0]; frame_out; rfl
theorem left18 (t : Fin cfg0.N) : (outsAt0 m c t.val t.isLt).2.2.2.2.2.1 = Cert.Kernel5Ideal.Gen.k0_pay17 (F := Ideal) (yaBlk (blks m c t)) (ybBlk (blks m c t)) (Cert.Kernel5Ideal.Gen.k0_pay12 (iblk m c 4 t)) Cert.Kernel5Ideal.Gen.k0_pay13 (iblk m c 5 t) (iblk m c 11 t) := by
  by_cases h0 : t.val % 16 = 0
  · rw [outsAt0_A m c t h0]; frame_out; rfl
  · rw [outsAt0_B m c t h0]; frame_out; rfl
theorem left19 (t : Fin cfg0.N) : (outsAt0 m c t.val t.isLt).2.2.2.2.2.2.1 = k0_pay2 (F := Ideal) (iblk m c 6 t) (iblk m c 7 t) (outBlk (blks m c t)) (iblk m c 8 t) (iblk m c 12 t) := by
  by_cases h0 : t.val % 16 = 0
  · rw [outsAt0_A m c t h0]; frame_out; rfl
  · rw [outsAt0_B m c t h0]; frame_out; rfl

theorem before (t : Fin cfg0.N) : t.val - 1 < cfg0.N := lt_of_le_of_lt (Nat.sub_le _ _) t.isLt

theorem left20_reset (t : Fin cfg0.N) (h0 : t.val % 16 = 0) : (outsAt0 m c t.val t.isLt).2.2.2.2.2.2.2
    = k0_pay4 (F := Ideal) (iblk m c 6 t) (iblk m c 7 t) (outBlk (blks m c t)) (iblk m c 8 t) (iblk m c 12 t) (k0_pay3 (F := Ideal)) := by
  rw [outsAt0_A m c t h0]; frame_out; rfl
theorem left20_step (t : Fin cfg0.N) (h0 : ¬t.val % 16 = 0) : (outsAt0 m c t.val t.isLt).2.2.2.2.2.2.2
    = k0_pay4 (F := Ideal) (iblk m c 6 t) (iblk m c 7 t) (outBlk (blks m c t)) (iblk m c 8 t) (iblk m c 12 t) (outsAt0 m c (t.val - 1) (before t)).2.2.2.2.2.2.2 := by
  rw [outsAt0_B m c t h0]; frame_out; rfl

section Payloads

variable (x : Vec Ideal S512x1024 .f32) (g p : Vec Ideal S1x1024 .f32) (y : FVec Ideal S512x1024 .f32) (w : Vec Ideal S512x1024 .f32)

theorem pay1_apply (r : Fin 512) (n : Fin 1024) : k0_pay1 x g y p w (ix2 r n) = Cert.Kernel5Ideal.Gen.k0_pay1 (F := Ideal) x g y p (ix2 r n) - w (ix2 r n) := by
  pointwise [k0_pay1, Cert.Kernel5Ideal.Gen.k0_pay1]
theorem pay2_apply (r : Fin 512) (n : Fin 1024) :
    k0_pay2 x g y p w (ix2 r n) = k0_pay1 x g y p w (ix2 r n) * Ideal.ofBits .f32 0x3A800000#32 := by
  unfold k0_pay2
  generalize k0_pay1 x g y p w = e
  pointwise
theorem pay3_apply (n : Fin 1024) : k0_pay3 (F := Ideal) (ix2 0 n) = 0 := by
  pointwise [k0_pay3]
theorem pay4_apply (v : Vec Ideal S1x1024 .f32) (n : Fin 1024) :
    k0_pay4 x g y p w v (ix2 0 n) = v (ix2 0 n) + ∑ r : Fin 512, k0_pay1 x g y p w (ix2 r n) * k0_pay1 x g y p w (ix2 r n) := by
  unfold k0_pay4
  generalize k0_pay1 x g y p w = e
  pointwise

end Payloads

/-- The error of row `i` at feature `n`. -/
abbrev err (i : Fin 8192) (n : Fin 1024) : EReal := Cert.Reference10Ideal.Loss.err (arg m c main_arg0) (arg m c main_arg1) (arg m c main_arg2)
  (arg m c main_arg3) (arg m c main_arg4) (arg m c main_arg5) (arg m c main_arg6) (arg m c main_arg7) (arg m c main_arg8) (arg m c main_arg9) i n

theorem err_eq (t : Fin cfg0.N) (r : Fin 512) (n : Fin 1024) :
    k0_pay1 (F := Ideal) (iblk m c 6 t) (iblk m c 7 t) (outBlk (blks m c t)) (iblk m c 8 t) (iblk m c 12 t) (ix2 r n) = err m c (row t r) n :=
  (pay1_apply _ _ _ _ _ r n).trans (congrArg₂ (· - ·) (Cert.Kernel5Ideal.Tail.step_eq (point m c t) r n) (target_apply m c t r n))

/-! ## What the write-backs leave -/

theorem idx13 : ∀ t : Fin cfg0.N, win0_13.index t = ![0, t.val] := by decide +kernel
theorem idx14 : ∀ t : Fin cfg0.N, win0_14.index t = ![0, t.val] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![0, t.val] := by decide +kernel
theorem idx18 : ∀ t : Fin cfg0.N, win0_18.index t = ![t.val, 0] := by decide +kernel
theorem idx19 : ∀ t : Fin cfg0.N, win0_19.index t = ![t.val, 0] := by decide +kernel

/-- Every row lies in some point's block. -/
theorem row_split (j : Fin 8192) : ∃ (t : Fin cfg0.N) (r : Fin 512), j = row t r :=
  ⟨⟨j.val / 512, lt_of_lt_of_eq (by omega) N_0.symm⟩, ⟨j.val % 512, by omega⟩, Fin.ext (by show j.val = j.val / 512 * 512 + j.val % 512; omega)⟩

theorem emb13 (t : Fin cfg0.N) (l : Fin 512) (r : Fin 512) : ((cfg0.win 13).blk t).view.emb (ix2 l r) = (ix2 l (row t r) : S512x8192.Idx) :=
  cols_place t.val (lt16 t) r l _ (idx13 t) _ rfl rfl
theorem emb14 (t : Fin cfg0.N) (l : Fin 1024) (r : Fin 512) : ((cfg0.win 14).blk t).view.emb (ix2 l r) = (ix2 l (row t r) : S1024x8192.Idx) :=
  cols_place t.val (lt16 t) r l _ (idx14 t) _ rfl rfl
theorem emb15 (t : Fin cfg0.N) (r : Fin 512) (l : Fin 1024) : ((cfg0.win 15).blk t).view.emb (ix2 r l) = (ix2 (row t r) l : S8192x1024.Idx) :=
  rows_place t.val (lt16 t) r l _ (idx15 t) _ rfl rfl
theorem emb16 (t : Fin cfg0.N) (r : Fin 512) (l : Fin 1024) : ((cfg0.win 16).blk t).view.emb (ix2 r l) = (ix2 (row t r) l : S8192x1024.Idx) :=
  rows_place t.val (lt16 t) r l _ (idx16 t) _ rfl rfl
theorem emb17 (t : Fin cfg0.N) (l : Fin 1024) (r : Fin 512) : ((cfg0.win 17).blk t).view.emb (ix2 l r) = (ix2 l (row t r) : S1024x8192.Idx) :=
  cols_place t.val (lt16 t) r l _ (idx17 t) _ rfl rfl
theorem emb18 (t : Fin cfg0.N) (r : Fin 512) (l : Fin 1024) : ((cfg0.win 18).blk t).view.emb (ix2 r l) = (ix2 (row t r) l : S8192x1024.Idx) :=
  rows_place t.val (lt16 t) r l _ (idx18 t) _ rfl rfl
theorem emb19 (t : Fin cfg0.N) (r : Fin 512) (l : Fin 1024) : ((cfg0.win 19).blk t).view.emb (ix2 r l) = (ix2 (row t r) l : S8192x1024.Idx) :=
  rows_place t.val (lt16 t) r l _ (idx19 t) _ rfl rfl

/-- The gradient of the loss at the layer's output. -/
abbrev want19 : S8192x1024.Idx → EReal := Cert.Reference10Ideal.Read.val_main_v77 (F := Ideal) (arg m c main_arg0) (arg m c main_arg1)
  (arg m c main_arg2) (arg m c main_arg3) (arg m c main_arg4) (arg m c main_arg5) (arg m c main_arg6) (arg m c main_arg7) (arg m c main_arg8)
  (arg m c main_arg9)
/-- The squared error of each feature over the rows. -/
abbrev want20 : S1x1024.Idx → EReal := Cert.Reference10Ideal.Read.val_main_v81 (F := Ideal) (arg m c main_arg0) (arg m c main_arg1)
  (arg m c main_arg2) (arg m c main_arg3) (arg m c main_arg4) (arg m c main_arg5) (arg m c main_arg6) (arg m c main_arg7) (arg m c main_arg8)
  (arg m c main_arg9)

theorem result13 : (dats m 0 c).arrAt 13 cfg0.N = want12 (args m c) := by
  refine (dats m 0 c).arrAt_eq_of_cover 13 _ (fun t hf => ?_) fun i => ?_
  · show (cfg0.win 13).cut (grid0.coords t) ((dats m 0 c).after 13 t) = _
    rw [after0_13, left13]
    funext y
    obtain ⟨l, r, rfl⟩ : ∃ (l : Fin 512) (r : Fin 512), y = ix2 l r := ⟨y 0, y 1, (ix2_eta y).symm⟩
    show _ = want12 (args m c) (((cfg0.win 13).blk t).view.emb (ix2 l r))
    rw [emb13, Cert.Kernel5Ideal.Tail.want12_apply]
    exact (Cert.Kernel5Ideal.Tail.pay4_apply _ _ r l).trans (Cert.Kernel5Ideal.Tail.a_apply (point m c t) r l)
  · obtain ⟨l, j, rfl⟩ : ∃ (l : Fin 512) (j : Fin 8192), i = ix2 l j := ⟨i 0, i 1, (ix2_eta i).symm⟩
    obtain ⟨t, r, rfl⟩ := row_split j
    exact ⟨t, flush0_13 t, by rw [← emb13]; exact View.emb_mem_set _ _⟩

theorem result14 : (dats m 0 c).arrAt 14 cfg0.N = want13 (args m c) := by
  refine (dats m 0 c).arrAt_eq_of_cover 14 _ (fun t hf => ?_) fun i => ?_
  · show (cfg0.win 14).cut (grid0.coords t) ((dats m 0 c).after 14 t) = _
    rw [after0_14, left14]
    funext y
    obtain ⟨l, r, rfl⟩ : ∃ (l : Fin 1024) (r : Fin 512), y = ix2 l r := ⟨y 0, y 1, (ix2_eta y).symm⟩
    show _ = want13 (args m c) (((cfg0.win 14).blk t).view.emb (ix2 l r))
    rw [emb14, Cert.Kernel5Ideal.Tail.want13_apply]
    exact (Cert.Kernel5Ideal.Tail.pay7_apply _ _ r l).trans (Cert.Kernel5Ideal.Tail.r_apply (point m c t) r l)
  · obtain ⟨l, j, rfl⟩ : ∃ (l : Fin 1024) (j : Fin 8192), i = ix2 l j := ⟨i 0, i 1, (ix2_eta i).symm⟩
    obtain ⟨t, r, rfl⟩ := row_split j
    exact ⟨t, flush0_14 t, by rw [← emb14]; exact View.emb_mem_set _ _⟩

theorem result15 : (dats m 0 c).arrAt 15 cfg0.N = want14 (args m c) := by
  refine (dats m 0 c).arrAt_eq_of_cover 15 _ (fun t hf => ?_) fun i => ?_
  · show (cfg0.win 15).cut (grid0.coords t) ((dats m 0 c).after 15 t) = _
    rw [after0_15, left15]
    funext y
    obtain ⟨r, l, rfl⟩ : ∃ (r : Fin 512) (l : Fin 1024), y = ix2 r l := ⟨y 0, y 1, (ix2_eta y).symm⟩
    show _ = want14 (args m c) (((cfg0.win 15).blk t).view.emb (ix2 r l))
    rw [emb15, Cert.Kernel5Ideal.Tail.want14_apply]
    exact (Cert.Kernel5Ideal.Tail.pay9_apply _ _ _ _ _ r l).trans (Cert.Kernel5Ideal.Tail.ya_eq (point m c t) r l)
  · obtain ⟨j, l, rfl⟩ : ∃ (j : Fin 8192) (l : Fin 1024), i = ix2 j l := ⟨i 0, i 1, (ix2_eta i).symm⟩
    obtain ⟨t, r, rfl⟩ := row_split j
    exact ⟨t, flush0_15 t, by rw [← emb15]; exact View.emb_mem_set _ _⟩

theorem result16 : (dats m 0 c).arrAt 16 cfg0.N = want15 (args m c) := by
  refine (dats m 0 c).arrAt_eq_of_cover 16 _ (fun t hf => ?_) fun i => ?_
  · show (cfg0.win 16).cut (grid0.coords t) ((dats m 0 c).after 16 t) = _
    rw [after0_16, left16]
    funext y
    obtain ⟨r, l, rfl⟩ : ∃ (r : Fin 512) (l : Fin 1024), y = ix2 r l := ⟨y 0, y 1, (ix2_eta y).symm⟩
    show _ = want15 (args m c) (((cfg0.win 16).blk t).view.emb (ix2 r l))
    rw [emb16, Cert.Kernel5Ideal.Tail.want15_apply]
    exact (Cert.Kernel5Ideal.Tail.pay11_apply _ _ r l).trans (Cert.Kernel5Ideal.Tail.yb_eq (point m c t) r l)
  · obtain ⟨j, l, rfl⟩ : ∃ (j : Fin 8192) (l : Fin 1024), i = ix2 j l := ⟨i 0, i 1, (ix2_eta i).symm⟩
    obtain ⟨t, r, rfl⟩ := row_split j
    exact ⟨t, flush0_16 t, by rw [← emb16]; exact View.emb_mem_set _ _⟩

theorem result17 : (dats m 0 c).arrAt 17 cfg0.N = want16 (args m c) := by
  refine (dats m 0 c).arrAt_eq_of_cover 17 _ (fun t hf => ?_) fun i => ?_
  · show (cfg0.win 17).cut (grid0.coords t) ((dats m 0 c).after 17 t) = _
    rw [after0_17, left17]
    funext y
    obtain ⟨l, r, rfl⟩ : ∃ (l : Fin 1024) (r : Fin 512), y = ix2 l r := ⟨y 0, y 1, (ix2_eta y).symm⟩
    show _ = want16 (args m c) (((cfg0.win 17).blk t).view.emb (ix2 l r))
    rw [emb17, Cert.Kernel5Ideal.Tail.want16_apply]
    exact (Cert.Kernel5Ideal.Tail.pay15_apply _ _ _ _ _ r l).trans (Cert.Kernel5Ideal.Tail.z_eq (point m c t) r l)
  · obtain ⟨l, j, rfl⟩ : ∃ (l : Fin 1024) (j : Fin 8192), i = ix2 l j := ⟨i 0, i 1, (ix2_eta i).symm⟩
    obtain ⟨t, r, rfl⟩ := row_split j
    exact ⟨t, flush0_17 t, by rw [← emb17]; exact View.emb_mem_set _ _⟩

theorem result18 : (dats m 0 c).arrAt 18 cfg0.N = want17 (args m c) := by
  refine (dats m 0 c).arrAt_eq_of_cover 18 _ (fun t hf => ?_) fun i => ?_
  · show (cfg0.win 18).cut (grid0.coords t) ((dats m 0 c).after 18 t) = _
    rw [after0_18, left18]
    funext y
    obtain ⟨r, l, rfl⟩ : ∃ (r : Fin 512) (l : Fin 1024), y = ix2 r l := ⟨y 0, y 1, (ix2_eta y).symm⟩
    show _ = want17 (args m c) (((cfg0.win 18).blk t).view.emb (ix2 r l))
    rw [emb18, Cert.Kernel5Ideal.Tail.want17_apply]
    exact (Cert.Kernel5Ideal.Tail.pay17_apply _ _ _ _ _ _ r l).trans (Cert.Kernel5Ideal.Tail.out_eq (point m c t) r l)
  · obtain ⟨j, l, rfl⟩ : ∃ (j : Fin 8192) (l : Fin 1024), i = ix2 j l := ⟨i 0, i 1, (ix2_eta i).symm⟩
    obtain ⟨t, r, rfl⟩ := row_split j
    exact ⟨t, flush0_18 t, by rw [← emb18]; exact View.emb_mem_set _ _⟩

theorem result19 : (dats m 0 c).arrAt 19 cfg0.N = want19 m c := by
  refine (dats m 0 c).arrAt_eq_of_cover 19 _ (fun t hf => ?_) fun i => ?_
  · show (cfg0.win 19).cut (grid0.coords t) ((dats m 0 c).after 19 t) = _
    rw [after0_19, left19]
    funext y
    obtain ⟨r, l, rfl⟩ : ∃ (r : Fin 512) (l : Fin 1024), y = ix2 r l := ⟨y 0, y 1, (ix2_eta y).symm⟩
    show _ = want19 m c (((cfg0.win 19).blk t).view.emb (ix2 r l))
    rw [emb19]
    exact ((pay2_apply _ _ _ _ _ r l).trans (congrArg (· * _) (err_eq m c t r l))).trans (Cert.Reference10Ideal.Loss.dy_apply _ _ _ _ _ _ _ _ _ _ _ _).symm
  · obtain ⟨j, l, rfl⟩ : ∃ (j : Fin 8192) (l : Fin 1024), i = ix2 j l := ⟨i 0, i 1, (ix2_eta i).symm⟩
    obtain ⟨t, r, rfl⟩ := row_split j
    exact ⟨t, flush0_19 t, by rw [← emb19]; exact View.emb_mem_set _ _⟩

/-- The squared error after the last point. -/
theorem squares (t : Fin cfg0.N) (ht : t.val = 15) (l : Fin 1024) :
    ((outsAt0 m c t.val t.isLt).2.2.2.2.2.2.2 (ix2 0 l) : EReal) = ∑ i, err m c i l * err m c i l := by
  obtain ⟨n, h⟩ := t
  obtain rfl : n = 15 := ht
  have e := Pipeline.eq_sum_of_reset_step_apply_single_of_mod (N := cfg0.N) (fun n h (l : Fin 1024) => ((outsAt0 m c n h).2.2.2.2.2.2.2 (ix2 0 l) : EReal)) 16 (fun _ => 0)
    (fun n l => if hn : n < cfg0.N then ∑ r, err m c (row ⟨n, hn⟩ r) l * err m c (row ⟨n, hn⟩ r) l else 0)
    (fun t ht l => by
      rw [dif_pos t.isLt]
      rw [left20_reset m c t ht, pay4_apply, pay3_apply]
      simp only [err_eq])
    (fun t ht l => by
      rw [dif_pos t.isLt]
      rw [left20_step m c t ht, pay4_apply]
      simp only [err_eq])
    (le_of_eq N_0) ⟨15, h⟩ (r := 15) rfl l
  rw [show ((outsAt0 m c 15 h).2.2.2.2.2.2.2 (ix2 0 l) : EReal) = _ from e, zero_add, Finset.sum_range,
    ← Fin.sum_mul_add_fin 16 512 (fun i : Fin 8192 => err m c i l * err m c i l) rfl]
  refine Finset.sum_congr rfl fun q _ => ?_
  rw [dif_pos (lt_of_lt_of_eq q.isLt N_0.symm)]

theorem exists_last : ∃ t : Fin cfg0.N, t.val = 15 := ⟨⟨15, lt_of_lt_of_eq (by decide) N_0.symm⟩, rfl⟩
theorem whole20 : ∀ t : Fin cfg0.N, t.val = 15 → (cfg0.win 20).WholeAt t := by decide +kernel

theorem result20 : (dats m 0 c).arrAt 20 cfg0.N = want20 m c := by
  obtain ⟨t, ht⟩ := exists_last
  refine (dats m 0 c).arrAt_eq_of_after_last 20 t (whole20 t ht) _ fun j => ?_
  obtain ⟨z, l, rfl⟩ : ∃ (z : Fin 1) (l : Fin 1024), j = ix2 z l := ⟨j 0, j 1, (ix2_eta j).symm⟩
  obtain rfl : z = 0 := Subsingleton.elim _ _
  rw [after0_20]
  exact (squares m c t ht l).trans (Cert.Reference10Ideal.Loss.sq_apply _ _ _ _ _ _ _ _ _ _ l).symm

/-- The run, with what it leaves in the results and in the arguments. -/
theorem run_value (ρ : Dev nD → PrngReg) : θ_run defs (onTc (τ := τ) (main (F := Ideal))) ⟨m, fun _ => 0, ρ⟩ fun r => ∀ c : Dev nD,
    r.2.mem ((c.tc : Thread nD τ).loc main_v0_0) = want12 (args m c)
    ∧ r.2.mem ((c.tc : Thread nD τ).loc main_v0_1) = want13 (args m c)
    ∧ r.2.mem ((c.tc : Thread nD τ).loc main_v0_2) = want14 (args m c)
    ∧ r.2.mem ((c.tc : Thread nD τ).loc main_v0_3) = want15 (args m c)
    ∧ r.2.mem ((c.tc : Thread nD τ).loc main_v0_4) = want16 (args m c)
    ∧ r.2.mem ((c.tc : Thread nD τ).loc main_v0_5) = want17 (args m c)
    ∧ r.2.mem ((c.tc : Thread nD τ).loc main_v0_6) = want19 m c
    ∧ r.2.mem ((c.tc : Thread nD τ).loc main_v0_7) = want20 m c
    ∧ r.2.mem ((c.tc : Thread nD τ).loc main_arg0) = arg m c main_arg0
    ∧ r.2.mem ((c.tc : Thread nD τ).loc main_arg1) = arg m c main_arg1
    ∧ r.2.mem ((c.tc : Thread nD τ).loc main_arg2) = arg m c main_arg2
    ∧ r.2.mem ((c.tc : Thread nD τ).loc main_arg3) = arg m c main_arg3
    ∧ r.2.mem ((c.tc : Thread nD τ).loc main_arg4) = arg m c main_arg4
    ∧ r.2.mem ((c.tc : Thread nD τ).loc main_arg5) = arg m c main_arg5
    ∧ r.2.mem ((c.tc : Thread nD τ).loc main_arg6) = arg m c main_arg6
    ∧ r.2.mem ((c.tc : Thread nD τ).loc main_arg7) = arg m c main_arg7
    ∧ r.2.mem ((c.tc : Thread nD τ).loc main_arg8) = arg m c main_arg8
    ∧ r.2.mem ((c.tc : Thread nD τ).loc main_arg9) = arg m c main_arg9 :=
  (θ_run defs _ _).mono (fun r h c => ⟨((h c).1 13).trans (result13 m c),
    ((h c).1 14).trans (result14 m c),
    ((h c).1 15).trans (result15 m c),
    ((h c).1 16).trans (result16 m c),
    ((h c).1 17).trans (result17 m c),
    ((h c).1 18).trans (result18 m c),
    ((h c).1 19).trans (result19 m c),
    ((h c).1 20).trans (result20 m c),
    ((h c).1 0).trans (((dats m 0 c).arrAt_in 0 rfl _).trans (A_eq m c 0)),
    ((h c).1 1).trans (((dats m 0 c).arrAt_in 1 rfl _).trans (A_eq m c 1)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11)),
    ((h c).1 12).trans (((dats m 0 c).arrAt_in 12 rfl _).trans (A_eq m c 12))⟩) (run_main m ρ)

end Cert.Kernel10Ideal.Loss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference9Ideal
public import proofs.«01_k».proof.Proof.Gen.Reference9Ideal.Run
public import proofs.«01_k».proof.Proof.Gen.Reference9Ideal.Read
public import proofs.«01_k».proof.Proof.DxFinal
public import proofs.«01_k».proof.Proof.DxHalves
public import proofs.«01_k».proof.Proof.DxaValue
public import proofs.«01_k».proof.Proof.DxbValue
public import proofs.«01_k».proof.Proof.WoValue
public import proofs.«01_k».proof.Proof.WpaValue
public import proofs.«01_k».proof.Proof.GwValue
public import proofs.«01_k».proof.Proof.ProjValue
public import proofs.«01_k».proof.Proof.ScanRun
public import proofs.«01_k».proof.Proof.TailValue
public import proofs.«01_k».proof.Proof.LossValue
public import Idealize.ShloMosaic.Adequacy
public import Idealize.ShloMosaic.Init

@[expose] public section

noncomputable section

namespace Cert.Proof

open Idealize.ShloMosaic Idealize.SL.Sem Cert.Kernel

/-- What the precondition of the kernel's arguments gives, and the reference's arrays read at the same arguments. -/
theorem dx_algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨_, _, _, _, Cert.KernelIdeal.Value.run m g, ?_⟩
  refine (θ_run Cert.ReferenceIdeal.defs _ _).mono (fun r h c => ?_) (Cert.ReferenceIdeal.Value.run (F := Ideal) m' g')
  obtain ⟨h55, h30, h33, h38, hargs⟩ := h c
  obtain ⟨d, a, b, R⟩ := Cert.KernelIdeal.Dx.real_args _ _ _ _ _ _ _ _ _ (hpre c)
  obtain ⟨e0, e1, e2, e3, e4, e5, e6, e7, e8⟩ := hagree c
  refine ⟨?_, ?_, ?_, ?_, hargs⟩
  · refine h55.trans ((Cert.ReferenceIdeal.Read.val_main_v55_eq m' c).trans ?_)
    rw [e0, e1, e2, e3, e4, e5, e6, e7, e8]
    exact (Cert.KernelIdeal.Dx.dx_eq m c R).symm
  · refine h30.trans ((Cert.ReferenceIdeal.Read.val_main_v30_eq _ _ _ _ _).trans ?_)
    rw [e0, e1, e2, e3, e4]
    exact (Cert.KernelIdeal.Dx.shift_eq m c R).symm
  · refine h33.trans ((Cert.ReferenceIdeal.Read.val_main_v33_eq _ _ _ _ _ _ _).trans ?_)
    rw [e0, e1, e2, e3, e4, e5, e7]
    exact (Cert.KernelIdeal.Dx.scale_eq m c R).symm
  · refine h38.trans ((Cert.ReferenceIdeal.Read.val_main_v38_eq _ _ _ _ _ _ _).trans ?_)
    rw [e0, e1, e2, e3, e4, e5, e8]
    exact (Cert.KernelIdeal.Dx.gain_eq m c R).symm

/-- The reference ends with its arguments unchanged; it declares no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The weight's gradient: both runs, and the reference's array read at the kernel's arguments. -/
theorem gw_algebraic : Cert.algebraic_Kernel2Ideal_Reference2Ideal (hKernel2Ideal := Cert.Kernel2Ideal.Gen.facts)
    (hReference2Ideal := Cert.Reference2Ideal.Gen.facts) := by
  intro m g m' g' _ hagree
  refine ⟨_, Cert.Kernel2Ideal.Gw.run_value m g, ?_⟩
  refine (θ_run Cert.Reference2Ideal.defs _ _).mono (fun r h c => ?_) (Cert.Reference2Ideal.Value.run (F := Ideal) m' g')
  obtain ⟨e0, e1, e2, e3, e4, e5, e6, e7⟩ := hagree c
  refine ⟨(h c).1.trans ((Cert.Reference2Ideal.Read.val_main_v25_eq _ _ _ _ _ _ _ _).trans ?_), (h c).2⟩
  rw [e0, e1, e2, e3, e4, e5, e6, e7]

/-- The second reference ends with its arguments unchanged; it declares no semaphore. -/
theorem reference2_frame : Cert.quiescent_Reference2Ideal (hReference2Ideal := Cert.Reference2Ideal.Gen.facts) := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The projection's body has one text in both printed programs. -/
theorem kernel3_body : Cert.Kernel3.defs₀ (F := Bits) = Cert.Kernel3Ideal.defs₀ (F := Bits) := by
  unfold Cert.Kernel3.defs₀ Cert.Kernel3Ideal.defs₀
  refine congrArg Defs.onTc ?_
  funext l x
  obtain ⟨l, hl⟩ := l
  match l, hl with
  | 0, _ => obtain ⟨t, s⟩ := x; rfl
  | l + 1, h => exact absurd h (Nat.not_lt.2 (Nat.le_add_left _ _))

theorem kernel3_defs : Cert.Kernel3.defs (F := Bits) = Cert.Kernel3Ideal.defs (F := Bits) :=
  congrArg (Pipeline.defs Cert.Kernel3Ideal.pcfgs) kernel3_body

/-- The projection's run, read at the float values that the compiled call computes on. -/
theorem kernel3_frame : Cert.quiescent_Kernel3 (hKernel3 := Cert.Kernel3.Gen.facts) := fun m g _ => by
  rw [kernel3_defs]
  exact Cert.Kernel3Ideal.Proj.frame (F := Bits) m g

/-- The projection: both runs, and the reference's arrays read at the kernel's arguments. -/
theorem proj_algebraic : Cert.algebraic_Kernel3Ideal_Reference3Ideal (hKernel3Ideal := Cert.Kernel3Ideal.Gen.facts)
    (hReference3Ideal := Cert.Reference3Ideal.Gen.facts) := by
  intro m g m' g' _ hagree
  refine ⟨_, _, Cert.Kernel3Ideal.Proj.run_value m g, ?_⟩
  refine (θ_run Cert.Reference3Ideal.defs _ _).mono (fun r h c => ?_) (Cert.Reference3Ideal.Value.run (F := Ideal) m' g')
  obtain ⟨h22, h24, hargs⟩ := h c
  obtain ⟨e0, e1, e2, e3, e4⟩ := hagree c
  refine ⟨h22.trans ((Cert.Reference3Ideal.Read.val_main_v22_eq _ _ _ _ _).trans ?_),
    h24.trans ((Cert.Reference3Ideal.Read.val_main_v24_eq _ _ _ _).trans ?_), hargs⟩
  · rw [e0, e1, e2, e3, e4]
  · rw [e0, e1, e2, e3]

/-- The third reference ends with its arguments unchanged; it declares no semaphore. -/
theorem reference3_frame : Cert.quiescent_Reference3Ideal (hReference3Ideal := Cert.Reference3Ideal.Gen.facts) := fun m g _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m g)

set_option maxHeartbeats 4000000 in
/-- The recurrence's backward call has the same text at both float values: its body table is one. -/
theorem kernel4_body : Cert.Kernel4.defs₀ (F := Bits) = Cert.Kernel4Ideal.defs₀ (F := Bits) := by
  unfold Cert.Kernel4.defs₀ Cert.Kernel4Ideal.defs₀
  refine congrArg Defs.onTc ?_
  funext l x
  obtain ⟨l, hl⟩ := l
  match l, hl with
  | 0, _ => obtain ⟨t, s⟩ := x; rfl
  | l + 1, h => exact absurd h (Nat.not_lt.2 (Nat.le_add_left _ _))

theorem kernel4_defs : Cert.Kernel4.defs (F := Bits) = Cert.Kernel4Ideal.defs (F := Bits) :=
  congrArg (Pipeline.defs Cert.Kernel4Ideal.pcfgs) kernel4_body

/-- The recurrence's backward run, read at the float values that the compiled call computes on. -/
theorem kernel4_frame : Cert.quiescent_Kernel4 (hKernel4 := Cert.Kernel4.Gen.facts) := fun m g _ => by
  rw [kernel4_defs]
  exact Cert.Kernel4Ideal.Scan.frame (F := Bits) m g

/-- The layer's tail: both runs, and the reference's arrays read at the kernel's arguments. -/
theorem tail_algebraic : Cert.algebraic_Kernel5Ideal_Reference5Ideal (hKernel5Ideal := Cert.Kernel5Ideal.Gen.facts)
    (hReference5Ideal := Cert.Reference5Ideal.Gen.facts) := by
  intro m g m' g' _ hagree
  refine ⟨_, _, _, _, _, _, _, Cert.Kernel5Ideal.Tail.run_value m g, ?_⟩
  refine (θ_run Cert.Reference5Ideal.defs _ _).mono (fun r h c => ?_) (Cert.Reference5Ideal.Value.run (F := Ideal) m' g')
  obtain ⟨h50, h52, h53, h54, h56, h57, h62, hargs⟩ := h c
  obtain ⟨e0, e1, e2, e3, e4, e5, e6, e7, e8⟩ := hagree c
  refine ⟨h50.trans ((Cert.Reference5Ideal.Read.val_main_v50_eq _ _).trans ?_),
    h52.trans ((Cert.Reference5Ideal.Read.val_main_v52_eq _ _).trans ?_),
    h53.trans ((Cert.Reference5Ideal.Read.val_main_v53_eq _ _ _).trans ?_),
    h54.trans ((Cert.Reference5Ideal.Read.val_main_v54_eq _ _ _).trans ?_),
    h56.trans ((Cert.Reference5Ideal.Read.val_main_v56_eq _ _ _ _ _).trans ?_),
    h57.trans ((Cert.Reference5Ideal.Read.val_main_v57_eq _ _ _ _ _ _).trans ?_),
    h62.trans ((Cert.Reference5Ideal.Read.val_main_v62_eq m' c).trans ?_), hargs⟩
  · rw [e0, e2]
  · rw [e1, e2]
  · rw [e0, e2, e6]
  · rw [e1, e2, e7]
  · rw [e0, e1, e2, e6, e7]
  · rw [e0, e1, e2, e6, e7, e8]
  · rw [e0, e1, e2, e3, e4, e5, e6, e7, e8]

/-- The fifth reference ends with its arguments unchanged; it declares no semaphore. -/
theorem reference5_frame : Cert.quiescent_Reference5Ideal (hReference5Ideal := Cert.Reference5Ideal.Gen.facts) := fun m g _ =>
  (θ_run Cert.Reference5Ideal.defs _ _).mono
    (fun r h => ⟨fun c => (h c).2.2.2.2.2.2.2, Idealize.ShloMosaic.sem_eq_zero_of_no_sems (by decide) r.2⟩)
    (Cert.Reference5Ideal.Value.run (F := Ideal) m g)

/-- The square weights' gradient: both runs, and the reference's array read at the kernel's arguments. -/
theorem wo_algebraic : Cert.algebraic_Kernel6Ideal_Reference6Ideal (hKernel6Ideal := Cert.Kernel6Ideal.Gen.facts)
    (hReference6Ideal := Cert.Reference6Ideal.Gen.facts) := by
  intro m g m' g' _ hagree
  refine ⟨_, Cert.Kernel6Ideal.Wo.run_value m g, ?_⟩
  refine (θ_run Cert.Reference6Ideal.defs _ _).mono (fun r h c => ?_) (Cert.Reference6Ideal.Value.run (F := Ideal) m' g')
  obtain ⟨e0, e1⟩ := hagree c
  refine ⟨(h c).1.trans ((Cert.Reference6Ideal.Read.val_main_v8_eq _ _).trans ?_), (h c).2⟩
  rw [e0, e1]

/-- The sixth reference ends with its arguments unchanged; it declares no semaphore. -/
theorem reference6_frame : Cert.quiescent_Reference6Ideal (hReference6Ideal := Cert.Reference6Ideal.Gen.facts) := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

/-- The attention branch's weight gradient: both runs, and the reference's array read at the kernel's arguments. -/
theorem wpa_algebraic : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.Wpa.run_value m g, ?_⟩
  refine (θ_run Cert.Reference7Ideal.defs _ _).mono (fun r h c => ?_) (Cert.Reference7Ideal.Value.run (F := Ideal) m' g')
  obtain ⟨e0, e1⟩ := hagree c
  refine ⟨(h c).1.trans ((Cert.Reference7Ideal.Read.val_main_v10_eq _ _).trans ?_), (h c).2⟩
  rw [e0, e1]

/-- The seventh reference ends with its arguments unchanged; it declares no semaphore. -/
theorem reference7_frame : Cert.quiescent_Reference7Ideal (hReference7Ideal := Cert.Reference7Ideal.Gen.facts) := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

/-- The input gradient's first half: both runs, the results on the claimed rows read at the kernel's arguments. -/
theorem dxa_algebraic : Cert.algebraic_Kernel8Ideal_Reference8Ideal_on_written_pre_finite (hKernel8Ideal := Cert.Kernel8Ideal.Gen.facts)
    (hReference8Ideal := Cert.Reference8Ideal.Gen.facts) (hPre_finite := Cert.Pre_finite.facts) (hOn_written := Cert.On_written.facts) := by
  intro m g m' g' hpre hagree
  refine ⟨fun c => Cert.Kernel8Ideal.Half.dxa m c, fun c => Cert.Kernel8Ideal.Half.shift m c, fun c => Cert.Kernel8Ideal.Half.scale m c,
    fun c => Cert.Kernel8Ideal.Half.gain m c,
    (θ_run Cert.Kernel8Ideal.defs _ _).mono (fun r h c => ?_) (Cert.Kernel8Ideal.Half.run_value m g
      fun c => Cert.KernelIdeal.Dx.real_args _ _ _ _ _ _ _ _ _ (hpre c)),
    (θ_run Cert.Reference8Ideal.defs _ _).mono (fun r h c => ?_) (Cert.Reference8Ideal.Value.run (F := Ideal) m' g')⟩
  · obtain ⟨h0, h1, h2, h3, hargs⟩ := h c
    exact ⟨fun i _ => congrFun h0 i, fun i _ => congrFun h1 i, fun i _ => congrFun h2 i, fun i _ => congrFun h3 i, hargs⟩
  · obtain ⟨h63, h36, h39, h44, hargs⟩ := h c
    obtain ⟨e0, e1, e2, e3, e4, e5, e6, e7, e8⟩ := hagree c
    refine ⟨fun i hi => ?_, fun i _ => congrFun (h36.trans ((Cert.Reference8Ideal.Read.val_main_v36_eq _ _ _ _ _).trans ?_)) i,
      fun i _ => congrFun (h39.trans ((Cert.Reference8Ideal.Read.val_main_v39_eq _ _ _ _ _ _ _).trans ?_)) i,
      fun i _ => congrFun (h44.trans ((Cert.Reference8Ideal.Read.val_main_v44_eq _ _ _ _ _ _ _).trans ?_)) i, hargs⟩
    · have hrow := Cert.On_written.rows_of_written _ _ _ _ _ _ _ _ _ i hi
      refine (congrFun (h63.trans (Cert.Reference8Ideal.Read.val_main_v63_eq m' c)) i).trans ?_
      rw [e0, e1, e2, e3, e4, e5, e6, e7, e8]
      obtain ⟨q, l, rfl⟩ : ∃ (q : Fin 8192) (l : Fin 1024), i = ix2 q l := ⟨i 0, i 1, (ix2_eta i).symm⟩
      exact (Cert.Reference8Ideal.Half.dx_apply _ _ _ _ _ _ _ _ _ q hrow l).trans (if_pos hrow).symm
    · rw [e0, e1, e2, e3, e4]
    · rw [e0, e1, e2, e3, e4, e5, e7]
    · rw [e0, e1, e2, e3, e4, e5, e8]

/-- The first half's reference ends with its arguments unchanged; it declares no semaphore. -/
theorem reference8_frame : Cert.quiescent_Reference8Ideal (hReference8Ideal := Cert.Reference8Ideal.Gen.facts) := fun m g _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m g)

/-- The input gradient's second half: both runs, the results read at the kernel's arguments. -/
theorem dxb_algebraic : Cert.algebraic_Kernel9Ideal_Reference9Ideal_pre_finite9 (hKernel9Ideal := Cert.Kernel9Ideal.Gen.facts)
    (hReference9Ideal := Cert.Reference9Ideal.Gen.facts) (hPre_finite9 := Cert.Pre_finite9.facts) := by
  intro m g m' g' hpre hagree
  refine ⟨_, _, _, _, Cert.Kernel9Ideal.Half.run_value m g
    fun c => Cert.KernelIdeal.Dx.real_args _ _ _ _ _ _ _ _ _ ((Cert.On_written.pre_same _ _ _ _ _ _ _ _ _ _).symm.trans (hpre c)), ?_⟩
  refine (θ_run Cert.Reference9Ideal.defs _ _).mono (fun r h c => ?_) (Cert.Reference9Ideal.Value.run (F := Ideal) m' g')
  obtain ⟨h63, h36, h39, h44, hargs⟩ := h c
  obtain ⟨e0, e1, e2, e3, e4, e5, e6, e7, e8, e9⟩ := hagree c
  refine ⟨h63.trans ((Cert.Reference9Ideal.Read.val_main_v63_eq m' c).trans ?_),
    h36.trans ((Cert.Reference9Ideal.Read.val_main_v36_eq _ _ _ _ _).trans ?_),
    h39.trans ((Cert.Reference9Ideal.Read.val_main_v39_eq _ _ _ _ _ _ _).trans ?_),
    h44.trans ((Cert.Reference9Ideal.Read.val_main_v44_eq _ _ _ _ _ _ _).trans ?_), hargs⟩
  · rw [e0, e1, e2, e3, e4, e5, e6, e7, e8, e9]
    funext i
    obtain ⟨q, l, rfl⟩ : ∃ (q : Fin 8192) (l : Fin 1024), i = ix2 q l := ⟨i 0, i 1, (ix2_eta i).symm⟩
    by_cases hq : q.val < 4096
    · exact (Cert.Reference9Ideal.Half.dx_kept _ _ _ _ _ _ _ _ _ _ q hq l).trans (if_neg (not_le.mpr hq)).symm
    · exact (Cert.Reference9Ideal.Half.dx_apply _ _ _ _ _ _ _ _ _ _ q hq l).trans (if_pos (not_lt.mp hq)).symm
  · rw [e0, e1, e2, e3, e4]
  · rw [e0, e1, e2, e3, e4, e5, e7]
  · rw [e0, e1, e2, e3, e4, e5, e8]

/-- The second half's reference ends with its arguments unchanged; it declares no semaphore. -/
theorem reference9_frame : Cert.quiescent_Reference9Ideal (hReference9Ideal := Cert.Reference9Ideal.Gen.facts) := fun m g _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m g)

/-- The last layer's tail with the loss: both runs, and the reference's arrays read at the kernel's arguments. -/
theorem loss_algebraic : Cert.algebraic_Kernel10Ideal_Reference10Ideal (hKernel10Ideal := Cert.Kernel10Ideal.Gen.facts)
    (hReference10Ideal := Cert.Reference10Ideal.Gen.facts) := by
  intro m g m' g' _ hagree
  refine ⟨_, _, _, _, _, _, _, _, Cert.Kernel10Ideal.Loss.run_value m g, ?_⟩
  refine (θ_run Cert.Reference10Ideal.defs _ _).mono (fun r h c => ?_) (Cert.Reference10Ideal.Value.run (F := Ideal) m' g')
  obtain ⟨h50, h52, h53, h54, h56, h57, h77, h81, hargs⟩ := h c
  obtain ⟨e0, e1, e2, e3, e4, e5, e6, e7, e8, e9⟩ := hagree c
  refine ⟨h50.trans ((Cert.Reference10Ideal.Read.val_main_v50_eq _ _).trans ?_),
    h52.trans ((Cert.Reference10Ideal.Read.val_main_v52_eq _ _).trans ?_),
    h53.trans ((Cert.Reference10Ideal.Read.val_main_v53_eq _ _ _).trans ?_),
    h54.trans ((Cert.Reference10Ideal.Read.val_main_v54_eq _ _ _).trans ?_),
    h56.trans ((Cert.Reference10Ideal.Read.val_main_v56_eq _ _ _ _ _).trans ?_),
    h57.trans ((Cert.Reference10Ideal.Read.val_main_v57_eq _ _ _ _ _ _).trans ?_),
    h77.trans ((Cert.Reference10Ideal.Read.val_main_v77_eq m' c).trans ?_),
    h81.trans ((Cert.Reference10Ideal.Read.val_main_v81_eq m' c).trans ?_), hargs⟩
  · rw [e0, e2]
    exact Cert.Reference10Ideal.Loss.a_t_same _ _ _ _ _ _ _ _ _
  · rw [e1, e2]
    exact Cert.Reference10Ideal.Loss.r_t_same _ _ _ _ _ _ _ _ _
  · rw [e0, e2, e6]
    exact Cert.Reference10Ideal.Loss.ya_b_same _ _ _ _ _ _ _ _ _
  · rw [e1, e2, e7]
    exact Cert.Reference10Ideal.Loss.yb_b_same _ _ _ _ _ _ _ _ _
  · rw [e0, e1, e2, e6, e7]
    exact Cert.Reference10Ideal.Loss.z_t_same _ _ _ _ _ _ _ _ _
  · rw [e0, e1, e2, e6, e7, e8]
    exact Cert.Reference10Ideal.Loss.out_b_same _ _ _ _ _ _ _ _ _
  · rw [e0, e1, e2, e3, e4, e5, e6, e7, e8, e9]
  · rw [e0, e1, e2, e3, e4, e5, e6, e7, e8, e9]

/-- The last layer's reference ends with its arguments unchanged; it declares no semaphore. -/
theorem reference10_frame : Cert.quiescent_Reference10Ideal (hReference10Ideal := Cert.Reference10Ideal.Gen.facts) := fun m g _ =>
  (θ_run Cert.Reference10Ideal.defs _ _).mono
    (fun r h => ⟨fun c => (h c).2.2.2.2.2.2.2.2, Idealize.ShloMosaic.sem_eq_zero_of_no_sems (by decide) r.2⟩)
    (Cert.Reference10Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Kernel5.Gen.facts,
    Cert.Kernel5Ideal.Gen.facts, Cert.Reference5Ideal.Gen.facts, Cert.Kernel6.Gen.facts, Cert.Kernel6Ideal.Gen.facts,
    Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts,
    Cert.Pre_finite.facts, Cert.Pre_finite9.facts, Cert.On_written.facts,
    fun m g _ => Cert.Kernel.Gen.frame m g,
    fun m g _ => Cert.KernelIdeal.Gen.frame m g,
    fun m g _ => Cert.KernelIdeal.Gen.frame m g,
    reference_frame, fun m g _ => reference_frame m g trivial,
    fun m g _ => Cert.Kernel2.Gen.frame m g,
    fun m g _ => Cert.Kernel2Ideal.Gen.frame m g,
    reference2_frame,
    kernel3_frame, fun m g _ => Cert.Kernel3Ideal.Proj.frame m g, reference3_frame,
    kernel4_frame, fun m g _ => Cert.Kernel4Ideal.Scan.frame m g,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, fun m g _ => Cert.Kernel8Ideal.Gen.frame m g,
    reference8_frame, fun m g _ => reference8_frame m g trivial,
    fun m g _ => Cert.Kernel9.Gen.frame m g, fun m g _ => Cert.Kernel9Ideal.Gen.frame m g, fun m g _ => Cert.Kernel9Ideal.Gen.frame m g,
    reference9_frame, fun m g _ => reference9_frame m g trivial,
    fun m g _ => Cert.Kernel10.Gen.frame m g, fun m g _ => Cert.Kernel10Ideal.Gen.frame m g, reference10_frame,
    trivial, dx_algebraic, trivial, gw_algebraic, trivial, proj_algebraic, trivial, trivial, tail_algebraic,
    trivial, wo_algebraic, trivial, wpa_algebraic,
    trivial, dxa_algebraic, trivial, dxb_algebraic, trivial, loss_algebraic⟩

end Cert.Proof

end
